-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)) (v2 : (c : Dev Cert.Kernel4Ideal.nD) → Buf (Elt Ideal) ((c.tc : Thread Cert.Kernel4Ideal.nD Cert.Kernel4Ideal.τ).loc Cert.Kernel4Ideal.main_v36_2)) (v3 : (c : Dev Cert.Kernel4Ideal.nD) → Buf (Elt Ideal) ((c.tc : Thread Cert.Kernel4Ideal.nD Cert.Kernel4Ideal.τ).loc Cert.Kernel4Ideal.main_v36_3)) (v4 : (c : Dev Cert.Kernel4Ideal.nD) → Buf (Elt Ideal) ((c.tc : Thread Cert.Kernel4Ideal.nD Cert.Kernel4Ideal.τ).loc Cert.Kernel4Ideal.main_v36_4)) (v5 : (c : Dev Cert.Kernel4Ideal.nD) → Buf (Elt Ideal) ((c.tc : Thread Cert.Kernel4Ideal.nD Cert.Kernel4Ideal.τ).loc Cert.Kernel4Ideal.main_v36_5)) (v6 : (c : Dev Cert.Kernel4Ideal.nD) → Buf (Elt Ideal) ((c.tc : Thread Cert.Kernel4Ideal.nD Cert.Kernel4Ideal.τ).loc Cert.Kernel4Ideal.main_v36_6)) (v7 : (c : Dev Cert.Kernel4Ideal.nD) → Buf (Elt Ideal) ((c.tc : Thread Cert.Kernel4Ideal.nD Cert.Kernel4Ideal.τ).loc Cert.Kernel4Ideal.main_v36_7)) (v8 : (c : Dev Cert.Kernel4Ideal.nD) → Buf (Elt Ideal) ((c.tc : Thread Cert.Kernel4Ideal.nD Cert.Kernel4Ideal.τ).loc Cert.Kernel4Ideal.main_v36_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_v36_2) = v2 c
          ∧ r.2.mem ((c.tc : Thread Cert.Kernel4Ideal.nD Cert.Kernel4Ideal.τ).loc Cert.Kernel4Ideal.main_v36_3) = v3 c
          ∧ r.2.mem ((c.tc : Thread Cert.Kernel4Ideal.nD Cert.Kernel4Ideal.τ).loc Cert.Kernel4Ideal.main_v36_4) = v4 c
          ∧ r.2.mem ((c.tc : Thread Cert.Kernel4Ideal.nD Cert.Kernel4Ideal.τ).loc Cert.Kernel4Ideal.main_v36_5) = v5 c
          ∧ r.2.mem ((c.tc : Thread Cert.Kernel4Ideal.nD Cert.Kernel4Ideal.τ).loc Cert.Kernel4Ideal.main_v36_6) = v6 c
          ∧ r.2.mem ((c.tc : Thread Cert.Kernel4Ideal.nD Cert.Kernel4Ideal.τ).loc Cert.Kernel4Ideal.main_v36_7) = v7 c
          ∧ r.2.mem ((c.tc : Thread Cert.Kernel4Ideal.nD Cert.Kernel4Ideal.τ).loc Cert.Kernel4Ideal.main_v36_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v126) = v0 c
          ∧ r.2.mem ((c.tc : Thread Cert.Reference4Ideal.nD Cert.Reference4Ideal.τ).loc Cert.Reference4Ideal.main_v128) = v1 c
          ∧ r.2.mem ((c.tc : Thread Cert.Reference4Ideal.nD Cert.Reference4Ideal.τ).loc Cert.Reference4Ideal.main_v130) = v2 c
          ∧ r.2.mem ((c.tc : Thread Cert.Reference4Ideal.nD Cert.Reference4Ideal.τ).loc Cert.Reference4Ideal.main_v132) = v3 c
          ∧ r.2.mem ((c.tc : Thread Cert.Reference4Ideal.nD Cert.Reference4Ideal.τ).loc Cert.Reference4Ideal.main_v134) = v4 c
          ∧ r.2.mem ((c.tc : Thread Cert.Reference4Ideal.nD Cert.Reference4Ideal.τ).loc Cert.Reference4Ideal.main_v136) = v5 c
          ∧ r.2.mem ((c.tc : Thread Cert.Reference4Ideal.nD Cert.Reference4Ideal.τ).loc Cert.Reference4Ideal.main_v138) = v6 c
          ∧ r.2.mem ((c.tc : Thread Cert.Reference4Ideal.nD Cert.Reference4Ideal.τ).loc Cert.Reference4Ideal.main_v140) = v7 c
          ∧ r.2.mem ((c.tc : Thread Cert.Reference4Ideal.nD Cert.Reference4Ideal.τ).loc Cert.Reference4Ideal.main_v141) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x8x64 : Shape := ⟨4, ![8, 2048, 8, 64]⟩
abbrev S8x8x2048 : Shape := ⟨3, ![8, 8, 2048]⟩
abbrev S4x1024x6824 : Shape := ⟨3, ![4, 1024, 6824]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x8x2048 : S_.BroadcastsInDim S8x8x2048 (![] : Fin 0 → Fin S8x8x2048.rank)
  reducesTo_S8x8x2048_S_d0_1_2 : S8x8x2048.ReducesTo [0, 1, 2] S_

variable [Facts]

def fn {F : FTy → Type} [FloatOps F] (main_arg0 : FVec F S8x2048x8x64 .f32) (main_arg1 : FVec F S8x2048x8x64 .f32) (main_arg2 : FVec F S8x2048x8x64 .f32) (main_arg3 : FVec F S8x8x2048 .f32) (main_arg4 : FVec F S4x1024x6824 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x64 .f32 := Host.absf main_arg1
  let main_cst_0 : FVec F S_ .f32 := constant S_ .f32 0x7F800000#32
  let main_v5 : FVec F S8x2048x8x64 .f32 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  let main_v9 : FVec F S8x8x2048 .f32 := Host.absf main_arg3
  let main_cst_2 : FVec F S_ .f32 := constant S_ .f32 0x7F800000#32
  let main_v10 : FVec F S8x8x2048 .f32 := broadcastInDim S8x8x2048 ![] bcast_S_S8x8x2048 main_cst_2
  let main_v11 : IVec S8x8x2048 1 := cmpf .olt main_v9 main_v10
  let main_c_3 : IVec S_ 1 := constantI S_ 1 1#1
  let main_v12 : IVec S_ 1 := (fun x v => Host.reduce IntOp.andi x v reducesTo_S8x8x2048_S_d0_1_2 h_S_) main_v11 main_c_3
  let main_v13 : IVec S_ 1 := andi main_v8 main_v12
  main_v13
-- ==== Kernel.lean ====
abbrev S8x2048x8x64 : Shape := ⟨4, ![8, 2048, 8, 64]⟩
abbrev S8x8x2048 : Shape := ⟨3, ![8, 8, 2048]⟩
abbrev S4x1024x6824 : Shape := ⟨3, ![4, 1024, 6824]⟩
abbrev S_ : Shape := ⟨0, ![]⟩
abbrev S8x2048x8 : Shape := ⟨3, ![8, 2048, 8]⟩
abbrev S8x2048x8x1 : Shape := ⟨4, ![8, 2048, 8, 1]⟩
abbrev S8x2048x8x16 : Shape := ⟨4, ![8, 2048, 8, 16]⟩
abbrev S8x2048x128 : Shape := ⟨3, ![8, 2048, 128]⟩
abbrev S4x6824x1024 : Shape := ⟨3, ![4, 6824, 1024]⟩
abbrev S8x2048x512 : Shape := ⟨3, ![8, 2048, 512]⟩
abbrev S3072x1024 : Shape := ⟨2, ![3072, 1024]⟩
abbrev S1x2048x256 : Shape := ⟨3, ![1, 2048, 256]⟩
abbrev S1x2048x128 : Shape := ⟨3, ![1, 2048, 128]⟩
abbrev S1x192x1024 : Shape := ⟨3, ![1, 192, 1024]⟩
abbrev S192x1024 : Shape := ⟨2, ![192, 1024]⟩
abbrev S2x256x2048 : Shape := ⟨3, ![2, 256, 2048]⟩
abbrev S2x2048x256 : Shape := ⟨3, ![2, 2048, 256]⟩
abbrev S2048x128 : Shape := ⟨2, ![2048, 128]⟩
abbrev S1x128 : Shape := ⟨2, ![1, 128]⟩
abbrev S256x256 : Shape := ⟨2, ![256, 256]⟩
abbrev S1x256x128 : Shape := ⟨3, ![1, 256, 128]⟩
abbrev S256x128 : Shape := ⟨2, ![256, 128]⟩
abbrev S1x1792x256 : Shape := ⟨3, ![1, 1792, 256]⟩
abbrev S1792x256 : Shape := ⟨2, ![1792, 256]⟩
abbrev S256x1792 : Shape := ⟨2, ![256, 1792]⟩
abbrev S1x256x256 : Shape := ⟨3, ![1, 256, 256]⟩
abbrev S1x256x1792 : Shape := ⟨3, ![1, 256, 1792]⟩
abbrev S256 : Shape := ⟨1, ![256]⟩
abbrev S256x1 : Shape := ⟨2, ![256, 1]⟩
abbrev S1x256x2048 : Shape := ⟨3, ![1, 256, 2048]⟩
abbrev S256x2048 : Shape := ⟨2, ![256, 2048]⟩
abbrev S1x1536x256 : Shape := ⟨3, ![1, 1536, 256]⟩
abbrev S1536x256 : Shape := ⟨2, ![1536, 256]⟩
abbrev S256x1536 : Shape := ⟨2, ![256, 1536]⟩
abbrev S1x256x1536 : Shape := ⟨3, ![1, 256, 1536]⟩
abbrev S1x1792x128 : Shape := ⟨3, ![1, 1792, 128]⟩
abbrev S1792x128 : Shape := ⟨2, ![1792, 128]⟩
abbrev S1x1280x256 : Shape := ⟨3, ![1, 1280, 256]⟩
abbrev S1280x256 : Shape := ⟨2, ![1280, 256]⟩
abbrev S256x1280 : Shape := ⟨2, ![256, 1280]⟩
abbrev S1x256x1280 : Shape := ⟨3, ![1, 256, 1280]⟩
abbrev S1x1536x128 : Shape := ⟨3, ![1, 1536, 128]⟩
abbrev S1536x128 : Shape := ⟨2, ![1536, 128]⟩
abbrev S1x1024x256 : Shape := ⟨3, ![1, 1024, 256]⟩
abbrev S1024x256 : Shape := ⟨2, ![1024, 256]⟩
abbrev S256x1024 : Shape := ⟨2, ![256, 1024]⟩
abbrev S1x256x1024 : Shape := ⟨3, ![1, 256, 1024]⟩
abbrev S1x1280x128 : Shape := ⟨3, ![1, 1280, 128]⟩
abbrev S1280x128 : Shape := ⟨2, ![1280, 128]⟩
abbrev S1x768x256 : Shape := ⟨3, ![1, 768, 256]⟩
abbrev S768x256 : Shape := ⟨2, ![768, 256]⟩
abbrev S256x768 : Shape := ⟨2, ![256, 768]⟩
abbrev S1x256x768 : Shape := ⟨3, ![1, 256, 768]⟩
abbrev S1x1024x128 : Shape := ⟨3, ![1, 1024, 128]⟩
abbrev S1024x128 : Shape := ⟨2, ![1024, 128]⟩
abbrev S1x512x256 : Shape := ⟨3, ![1, 512, 256]⟩
abbrev S512x256 : Shape := ⟨2, ![512, 256]⟩
abbrev S256x512 : Shape := ⟨2, ![256, 512]⟩
abbrev S1x256x512 : Shape := ⟨3, ![1, 256, 512]⟩
abbrev S1x768x128 : Shape := ⟨3, ![1, 768, 128]⟩
abbrev S768x128 : Shape := ⟨2, ![768, 128]⟩
abbrev S1x512x128 : Shape := ⟨3, ![1, 512, 128]⟩
abbrev S512x128 : Shape := ⟨2, ![512, 128]⟩

abbrev nBuf : Space → Nat
  | .hbm => 89
  | .vmem => 18
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x8x2048, .f32⟩
  | .hbm, ⟨4, _⟩ => ⟨S4x1024x6824, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x8, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x2048x8, .f32⟩
  | .hbm, ⟨17, _⟩ => ⟨S8x2048x8, .f32⟩
  | .hbm, ⟨18, _⟩ => ⟨S8x2048x8, .bf16⟩
  | .hbm, ⟨19, _⟩ => ⟨S8x2048x8, .f32⟩
  | .hbm, ⟨20, _⟩ => ⟨S8x2048x8, .f32⟩
  | .hbm, ⟨21, _⟩ => ⟨S8x2048x8, .bf16⟩
  | .hbm, ⟨22, _⟩ => ⟨S8x2048x8, .f32⟩
  | .hbm, ⟨23, _⟩ => ⟨S8x2048x8, .f32⟩
  | .hbm, ⟨24, _⟩ => ⟨S8x2048x8, .bf16⟩
  | .hbm, ⟨25, _⟩ => ⟨S8x2048x8, .f32⟩
  | .hbm, ⟨26, _⟩ => ⟨S8x2048x8x1, .f32⟩
  | .hbm, ⟨27, _⟩ => ⟨S8x2048x8x16, .f32⟩
  | .hbm, ⟨28, _⟩ => ⟨S8x2048x8, .f32⟩
  | .hbm, ⟨29, _⟩ => ⟨S8x2048x8x1, .f32⟩
  | .hbm, ⟨30, _⟩ => ⟨S8x2048x8x16, .f32⟩
  | .hbm, ⟨31, _⟩ => ⟨S8x2048x8, .f32⟩
  | .hbm, ⟨32, _⟩ => ⟨S8x2048x8x1, .f32⟩
  | .hbm, ⟨33, _⟩ => ⟨S8x2048x8x16, .f32⟩
  | .hbm, ⟨34, _⟩ => ⟨S8x2048x8x16, .i32⟩
  | .hbm, ⟨35, _⟩ => ⟨S_, .f32⟩
  | .hbm, ⟨36, _⟩ => ⟨S8x2048x8x16, .f32⟩
  | .hbm, ⟨37, _⟩ => ⟨S_, .f32⟩
  | .hbm, ⟨38, _⟩ => ⟨S8x2048x8x16, .f32⟩
  | .hbm, ⟨39, _⟩ => ⟨S_, .i32⟩
  | .hbm, ⟨40, _⟩ => ⟨S8x2048x8x16, .i32⟩
  | .hbm, ⟨41, _⟩ => ⟨S8x2048x8x16, .i1⟩
  | .hbm, ⟨42, _⟩ => ⟨S_, .i32⟩
  | .hbm, ⟨43, _⟩ => ⟨S8x2048x8x16, .i32⟩
  | .hbm, ⟨44, _⟩ => ⟨S8x2048x8x16, .i1⟩
  | .hbm, ⟨45, _⟩ => ⟨S_, .i32⟩
  | .hbm, ⟨46, _⟩ => ⟨S8x2048x8x16, .i32⟩
  | .hbm, ⟨47, _⟩ => ⟨S8x2048x8x16, .i1⟩
  | .hbm, ⟨48, _⟩ => ⟨S_, .i32⟩
  | .hbm, ⟨49, _⟩ => ⟨S8x2048x8x16, .i32⟩
  | .hbm, ⟨50, _⟩ => ⟨S8x2048x8x16, .i1⟩
  | .hbm, ⟨51, _⟩ => ⟨S8x2048x8x16, .f32⟩
  | .hbm, ⟨52, _⟩ => ⟨S8x2048x8x16, .f32⟩
  | .hbm, ⟨53, _⟩ => ⟨S8x2048x8x16, .f32⟩
  | .hbm, ⟨54, _⟩ => ⟨S8x2048x8x16, .f32⟩
  | .hbm, ⟨55, _⟩ => ⟨S_, .i32⟩
  | .hbm, ⟨56, _⟩ => ⟨S8x2048x8x16, .i32⟩
  | .hbm, ⟨57, _⟩ => ⟨S8x2048x8x16, .i1⟩
  | .hbm, ⟨58, _⟩ => ⟨S_, .i32⟩
  | .hbm, ⟨59, _⟩ => ⟨S8x2048x8x16, .i32⟩
  | .hbm, ⟨60, _⟩ => ⟨S8x2048x8x16, .i1⟩
  | .hbm, ⟨61, _⟩ => ⟨S8x2048x8x16, .f32⟩
  | .hbm, ⟨62, _⟩ => ⟨S_, .i32⟩
  | .hbm, ⟨63, _⟩ => ⟨S8x2048x8x16, .i32⟩
  | .hbm, ⟨64, _⟩ => ⟨S8x2048x8x16, .i1⟩
  | .hbm, ⟨65, _⟩ => ⟨S8x2048x8x16, .f32⟩
  | .hbm, ⟨66, _⟩ => ⟨S_, .i32⟩
  | .hbm, ⟨67, _⟩ => ⟨S8x2048x8x16, .i32⟩
  | .hbm, ⟨68, _⟩ => ⟨S8x2048x8x16, .i1⟩
  | .hbm, ⟨69, _⟩ => ⟨S8x2048x8x16, .f32⟩
  | .hbm, ⟨70, _⟩ => ⟨S8x2048x8x16, .f32⟩
  | .hbm, ⟨71, _⟩ => ⟨S8x2048x8x16, .f32⟩
  | .hbm, ⟨72, _⟩ => ⟨S8x2048x8x16, .f32⟩
  | .hbm, ⟨73, _⟩ => ⟨S8x2048x8x16, .f32⟩
  | .hbm, ⟨74, _⟩ => ⟨S8x2048x128, .f32⟩
  | .hbm, ⟨75, _⟩ => ⟨S8x2048x128, .bf16⟩
  | .hbm, ⟨76, _⟩ => ⟨S8x2048x128, .f32⟩
  | .hbm, ⟨77, _⟩ => ⟨S8x2048x128, .bf16⟩
  | .hbm, ⟨78, _⟩ => ⟨S4x6824x1024, .f32⟩
  | .hbm, ⟨79, _⟩ => ⟨S8x2048x8x64, .f32⟩
  | .hbm, ⟨80, _⟩ => ⟨S8x2048x8x64, .f32⟩
  | .hbm, ⟨81, _⟩ => ⟨S8x2048x8x64, .bf16⟩
  | .hbm, ⟨82, _⟩ => ⟨S8x2048x512, .bf16⟩
  | .hbm, ⟨83, _⟩ => ⟨S8x2048x8x64, .bf16⟩
  | .hbm, ⟨84, _⟩ => ⟨S8x2048x512, .bf16⟩
  | .hbm, ⟨85, _⟩ => ⟨S8x2048x8x64, .bf16⟩
  | .hbm, ⟨86, _⟩ => ⟨S8x2048x512, .bf16⟩
  | .hbm, ⟨87, _⟩ => ⟨S8x2048x512, .bf16⟩
  | .hbm, ⟨88, _⟩ => ⟨S3072x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x192x1024, .f32⟩
  | .local _ .vmem, ⟨11, _⟩ => ⟨S1x192x1024, .f32⟩
  | .local _ .vmem, ⟨12, _⟩ => ⟨S1x2048x256, .bf16⟩
  | .local _ .vmem, ⟨13, _⟩ => ⟨S1x2048x256, .bf16⟩
  | .local _ .vmem, ⟨14, _⟩ => ⟨S192x1024, .bf16⟩
  | .local _ .vmem, ⟨15, _⟩ => ⟨S192x1024, .bf16⟩
  | .local _ .vmem, ⟨16, _⟩ => ⟨S2x256x2048, .f32⟩
  | .local _ .vmem, ⟨17, _⟩ => ⟨S2x2048x256, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67_0 : Ref sig .tc := ⟨.hbm, 87, rfl⟩
abbrev main_v67_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c3752_i32 : BitVec 32 := 3752#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c192_i32 : BitVec 32 := 192#32
  let v2 : BitVec 32 := Scalar.muli v1 c192_i32
  let v3 : BitVec 32 := Scalar.addi c3752_i32 v2
  v3
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c192_i32 : BitVec 32 := 192#32
  let v2 : BitVec 32 := Scalar.muli v1 c192_i32
  let c3752_i32 : BitVec 32 := 3752#32
  let v3 : BitVec 32 := Scalar.addi c3752_i32 v2
  let v4 : BitVec 32 := v3
  let c0_i32 : BitVec 32 := 0#32
  let c0_i32_0 : BitVec 32 := 0#32
  let c0_i32_1 : BitVec 32 := 0#32
  ![c0_i32.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S192x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8x8x2048 : Shape := ⟨3, ![8, 8, 2048]⟩
abbrev S4x1024x6824 : Shape := ⟨3, ![4, 1024, 6824]⟩
abbrev S8x8x2048x2048 : Shape := ⟨4, ![8, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048x1 : Shape := ⟨4, ![8, 8, 2048, 1]⟩
abbrev S8x8x1x2048 : Shape := ⟨4, ![8, 8, 1, 2048]⟩
abbrev S8x8x64x2048 : Shape := ⟨4, ![8, 8, 64, 2048]⟩
abbrev S8x2048x512 : Shape := ⟨3, ![8, 2048, 512]⟩
abbrev S1x1024x6824 : Shape := ⟨3, ![1, 1024, 6824]⟩
abbrev S1024x6824 : Shape := ⟨2, ![1024, 6824]⟩
abbrev S1024x3072 : Shape := ⟨2, ![1024, 3072]⟩
abbrev S3072x1024 : Shape := ⟨2, ![3072, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x8x2048, .f32⟩
  | .hbm, ⟨4, _⟩ => ⟨S4x1024x6824, .f32⟩
  | .hbm, ⟨5, _⟩ => ⟨S8x8x2048x2048, .f32⟩
  | .hbm, ⟨6, _⟩ => ⟨S_, .f32⟩
  | .hbm, ⟨7, _⟩ => ⟨S8x8x2048x2048, .f32⟩
  | .hbm, ⟨8, _⟩ => ⟨S8x8x2048x2048, .f32⟩
  | .hbm, ⟨9, _⟩ => ⟨S2048, .i32⟩
  | .hbm, ⟨10, _⟩ => ⟨S2048x1, .i32⟩
  | .hbm, ⟨11, _⟩ => ⟨S2048, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S8x8x2048x1, .f32⟩
  | .hbm, ⟨17, _⟩ => ⟨S8x8x1x2048, .f32⟩
  | .hbm, ⟨18, _⟩ => ⟨S8x8x2048x2048, .f32⟩
  | .hbm, ⟨19, _⟩ => ⟨S8x8x2048x2048, .f32⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x8x64x2048, .f32⟩
  | .hbm, ⟨42, _⟩ => ⟨S8x2048x8x64, .f32⟩
  | .hbm, ⟨43, _⟩ => ⟨S8x2048x512, .f32⟩
  | .hbm, ⟨44, _⟩ => ⟨S1x1024x6824, .f32⟩
  | .hbm, ⟨45, _⟩ => ⟨S1024x6824, .f32⟩
  | .hbm, ⟨46, _⟩ => ⟨S1024x3072, .f32⟩
  | .hbm, ⟨47, _⟩ => ⟨S8x2048x512, .bf16⟩
  | .hbm, ⟨48, _⟩ => ⟨S3072x1024, .f32⟩
  | .hbm, ⟨49, _⟩ => ⟨S3072x1024, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel2.lean ====
abbrev S8x2048x1024 : Shape := ⟨3, ![8, 2048, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S16384x1024 : Shape := ⟨2, ![16384, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩
abbrev S1024x1 : Shape := ⟨2, ![1024, 1]⟩

abbrev nBuf : Space → Nat
  | .hbm => 15
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024x4096, .f32⟩
  | .hbm, ⟨9, _⟩ => ⟨S1024x4096, .f32⟩
  | .hbm, ⟨10, _⟩ => ⟨S1024x4096, .bf16⟩
  | .hbm, ⟨11, _⟩ => ⟨S1x4096x1024, .f32⟩
  | .hbm, ⟨12, _⟩ => ⟨S4096x1024, .f32⟩
  | .hbm, ⟨13, _⟩ => ⟨S4096x1024, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x2048x1024 : Shape := ⟨3, ![8, 2048, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1x1024x4096, .f32⟩
  | .hbm, ⟨23, _⟩ => ⟨S1024x4096, .f32⟩
  | .hbm, ⟨24, _⟩ => ⟨S8x2048x4096, .f32⟩
  | .hbm, ⟨25, _⟩ => ⟨S_, .f32⟩
  | .hbm, ⟨26, _⟩ => ⟨S8x2048x4096, .f32⟩
  | .hbm, ⟨27, _⟩ => ⟨S8x2048x4096, .f32⟩
  | .hbm, ⟨28, _⟩ => ⟨S8x2048x4096, .f32⟩
  | .hbm, ⟨29, _⟩ => ⟨S1x4096x1024, .f32⟩
  | .hbm, ⟨30, _⟩ => ⟨S4096x1024, .f32⟩
  | .hbm, ⟨31, _⟩ => ⟨S8x2048x1024, .f32⟩
  | .hbm, ⟨32, _⟩ => ⟨S8x2048x1024, .f32⟩
  | .hbm, ⟨33, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S4x1024 : Shape := ⟨2, ![4, 1024]⟩
abbrev S4x1024x6824 : Shape := ⟨3, ![4, 1024, 6824]⟩
abbrev S4x3072 : Shape := ⟨2, ![4, 3072]⟩
abbrev S4x3x512x1024 : Shape := ⟨4, ![4, 3, 512, 1024]⟩
abbrev S4x1024x1024 : Shape := ⟨3, ![4, 1024, 1024]⟩
abbrev S1x1024x6824 : Shape := ⟨3, ![1, 1024, 6824]⟩
abbrev S1024x6824 : Shape := ⟨2, ![1024, 6824]⟩
abbrev S1024x3072 : Shape := ⟨2, ![1024, 3072]⟩
abbrev S3072x1024 : Shape := ⟨2, ![3072, 1024]⟩
abbrev S16384x1024 : Shape := ⟨2, ![16384, 1024]⟩
abbrev S16384x512 : Shape := ⟨2, ![16384, 512]⟩
abbrev S1x1024 : Shape := ⟨2, ![1, 1024]⟩
abbrev S1024 : Shape := ⟨1, ![1024]⟩
abbrev S1x3072 : Shape := ⟨2, ![1, 3072]⟩
abbrev S3072 : Shape := ⟨1, ![3072]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S1024x512 : Shape := ⟨2, ![1024, 512]⟩
abbrev S1024x1 : Shape := ⟨2, ![1024, 1]⟩
abbrev S1x512x1024 : Shape := ⟨3, ![1, 512, 1024]⟩
abbrev S512x1024 : Shape := ⟨2, ![512, 1024]⟩

abbrev nBuf : Space → Nat
  | .hbm => 34
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S4x1024, .f32⟩
  | .hbm, ⟨5, _⟩ => ⟨S4x1024x6824, .f32⟩
  | .hbm, ⟨6, _⟩ => ⟨S4x3072, .f32⟩
  | .hbm, ⟨7, _⟩ => ⟨S4x3x512x1024, .f32⟩
  | .hbm, ⟨8, _⟩ => ⟨S4x1024x1024, .f32⟩
  | .hbm, ⟨9, _⟩ => ⟨S1x1024x6824, .f32⟩
  | .hbm, ⟨10, _⟩ => ⟨S1024x6824, .f32⟩
  | .hbm, ⟨11, _⟩ => ⟨S1024x3072, .f32⟩
  | .hbm, ⟨12, _⟩ => ⟨S3072x1024, .f32⟩
  | .hbm, ⟨13, _⟩ => ⟨S3072x1024, .bf16⟩
  | .hbm, ⟨14, _⟩ => ⟨S16384x1024, .f32⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .bf16⟩
  | .hbm, ⟨19, _⟩ => ⟨S16384x512, .f32⟩
  | .hbm, ⟨20, _⟩ => ⟨S16384x512, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S1x3x512x1024, .f32⟩
  | .hbm, ⟨28, _⟩ => ⟨S3x512x1024, .f32⟩
  | .hbm, ⟨29, _⟩ => ⟨S3x512x1024, .bf16⟩
  | .hbm, ⟨30, _⟩ => ⟨S1x1024x1024, .f32⟩
  | .hbm, ⟨31, _⟩ => ⟨S1024x1024, .f32⟩
  | .hbm, ⟨32, _⟩ => ⟨S1024x1024, .bf16⟩
  | .hbm, ⟨33, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024, .f32⟩
  | .local _ .vmem, ⟨9, _⟩ => ⟨S3072x1024, .bf16⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x2048x1024 : Shape := ⟨3, ![8, 2048, 1024]⟩
abbrev S8x2048x512 : Shape := ⟨3, ![8, 2048, 512]⟩
abbrev S4x1024 : Shape := ⟨2, ![4, 1024]⟩
abbrev S4x1024x6824 : Shape := ⟨3, ![4, 1024, 6824]⟩
abbrev S4x3072 : Shape := ⟨2, ![4, 3072]⟩
abbrev S4x3x512x1024 : Shape := ⟨4, ![4, 3, 512, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x6824 : Shape := ⟨3, ![1, 1024, 6824]⟩
abbrev S1024x6824 : Shape := ⟨2, ![1024, 6824]⟩
abbrev S1024x3072 : Shape := ⟨2, ![1024, 3072]⟩
abbrev S8x2048x3072 : Shape := ⟨3, ![8, 2048, 3072]⟩
abbrev S8x2048x1x512 : Shape := ⟨4, ![8, 2048, 1, 512]⟩
abbrev S8x2048x3x512 : Shape := ⟨4, ![8, 2048, 3, 512]⟩
abbrev S1x3x512x1024 : Shape := ⟨4, ![1, 3, 512, 1024]⟩
abbrev S3x512x1024 : Shape := ⟨3, ![3, 512, 1024]⟩
abbrev S3x1024x8x2048 : Shape := ⟨4, ![3, 1024, 8, 2048]⟩
abbrev S8x2048x3x1024 : Shape := ⟨4, ![8, 2048, 3, 1024]⟩
abbrev S1x3072 : Shape := ⟨2, ![1, 3072]⟩
abbrev S3072 : Shape := ⟨1, ![3072]⟩
abbrev S1x1x3072 : Shape := ⟨3, ![1, 1, 3072]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S4x1024, .f32⟩
  | .hbm, ⟨5, _⟩ => ⟨S4x1024x6824, .f32⟩
  | .hbm, ⟨6, _⟩ => ⟨S4x3072, .f32⟩
  | .hbm, ⟨7, _⟩ => ⟨S4x3x512x1024, .f32⟩
  | .hbm, ⟨8, _⟩ => ⟨S4x1024x1024, .f32⟩
  | .hbm, ⟨9, _⟩ => ⟨S1x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1x1024x6824, .f32⟩
  | .hbm, ⟨28, _⟩ => ⟨S1024x6824, .f32⟩
  | .hbm, ⟨29, _⟩ => ⟨S1024x3072, .f32⟩
  | .hbm, ⟨30, _⟩ => ⟨S8x2048x3072, .f32⟩
  | .hbm, ⟨31, _⟩ => ⟨S8x2048x1x512, .f32⟩
  | .hbm, ⟨32, _⟩ => ⟨S8x2048x1x512, .f32⟩
  | .hbm, ⟨33, _⟩ => ⟨S8x2048x1x512, .f32⟩
  | .hbm, ⟨34, _⟩ => ⟨S8x2048x3x512, .f32⟩
  | .hbm, ⟨35, _⟩ => ⟨S1x3x512x1024, .f32⟩
  | .hbm, ⟨36, _⟩ => ⟨S3x512x1024, .f32⟩
  | .hbm, ⟨37, _⟩ => ⟨S3x1024x8x2048, .f32⟩
  | .hbm, ⟨38, _⟩ => ⟨S8x2048x3x1024, .f32⟩
  | .hbm, ⟨39, _⟩ => ⟨S1x3072, .f32⟩
  | .hbm, ⟨40, _⟩ => ⟨S3072, .f32⟩
  | .hbm, ⟨41, _⟩ => ⟨S1x1x3072, .f32⟩
  | .hbm, ⟨42, _⟩ => ⟨S8x2048x3072, .f32⟩
  | .hbm, ⟨43, _⟩ => ⟨S8x2048x3072, .f32⟩
  | .hbm, ⟨44, _⟩ => ⟨S8x2048x3072, .f32⟩
  | .hbm, ⟨45, _⟩ => ⟨S8x2048x3072, .f32⟩
  | .hbm, ⟨46, _⟩ => ⟨S_, .f32⟩
  | .hbm, ⟨47, _⟩ => ⟨S8x2048x3072, .f32⟩
  | .hbm, ⟨48, _⟩ => ⟨S8x2048x3072, .f32⟩
  | .hbm, ⟨49, _⟩ => ⟨S_, .f32⟩
  | .hbm, ⟨50, _⟩ => ⟨S8x2048x3072, .f32⟩
  | .hbm, ⟨51, _⟩ => ⟨S8x2048x3072, .f32⟩
  | .hbm, ⟨52, _⟩ => ⟨S8x2048x3x1024, .f32⟩
  | .hbm, ⟨53, _⟩ => ⟨S8x2048x3x1024, .f32⟩
  | .hbm, ⟨54, _⟩ => ⟨S_, .f32⟩
  | .hbm, ⟨55, _⟩ => ⟨S8x2048x1024, .f32⟩
  | .hbm, ⟨56, _⟩ => ⟨S1x1024x1024, .f32⟩
  | .hbm, ⟨57, _⟩ => ⟨S1024x1024, .f32⟩
  | .hbm, ⟨58, _⟩ => ⟨S8x2048x1024, .f32⟩
  | .hbm, ⟨59, _⟩ => ⟨S8x2048x1024, .f32⟩
  | .hbm, ⟨60, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel4.lean ====
abbrev S8x2048x1024 : Shape := ⟨3, ![8, 2048, 1024]⟩
abbrev S4x1024 : Shape := ⟨2, ![4, 1024]⟩
abbrev S4x1024x6824 : Shape := ⟨3, ![4, 1024, 6824]⟩
abbrev S4x2x64 : Shape := ⟨3, ![4, 2, 64]⟩
abbrev S4x384 : Shape := ⟨2, ![4, 384]⟩
abbrev S4x256 : Shape := ⟨2, ![4, 256]⟩
abbrev S4x6824x1024 : Shape := ⟨3, ![4, 6824, 1024]⟩
abbrev S4x1x64 : Shape := ⟨3, ![4, 1, 64]⟩
abbrev S4x64 : Shape := ⟨2, ![4, 64]⟩
abbrev S1x4x1x64 : Shape := ⟨4, ![1, 4, 1, 64]⟩
abbrev S1x4x8x64 : Shape := ⟨4, ![1, 4, 8, 64]⟩
abbrev S4x512 : Shape := ⟨2, ![4, 512]⟩
abbrev S4x1x512 : Shape := ⟨3, ![4, 1, 512]⟩
abbrev S4x4x512 : Shape := ⟨3, ![4, 4, 512]⟩
abbrev S16384x1024 : Shape := ⟨2, ![16384, 1024]⟩
abbrev S1x1024 : Shape := ⟨2, ![1, 1024]⟩
abbrev S1024 : Shape := ⟨1, ![1024]⟩
abbrev S1x384 : Shape := ⟨2, ![1, 384]⟩
abbrev S384 : Shape := ⟨1, ![384]⟩
abbrev S1x256 : Shape := ⟨2, ![1, 256]⟩
abbrev S256 : Shape := ⟨1, ![256]⟩
abbrev S16384x512 : Shape := ⟨2, ![16384, 512]⟩
abbrev S16384x384 : Shape := ⟨2, ![16384, 384]⟩
abbrev S16384x256 : Shape := ⟨2, ![16384, 256]⟩
abbrev S16384x128 : Shape := ⟨2, ![16384, 128]⟩
abbrev S1024x1024 : Shape := ⟨2, ![1024, 1024]⟩
abbrev S1x3752x1024 : Shape := ⟨3, ![1, 3752, 1024]⟩
abbrev S1x4x512 : Shape := ⟨3, ![1, 4, 512]⟩
abbrev S1024x512 : Shape := ⟨2, ![1024, 512]⟩
abbrev S1024x384 : Shape := ⟨2, ![1024, 384]⟩
abbrev S1024x256 : Shape := ⟨2, ![1024, 256]⟩
abbrev S1024x128 : Shape := ⟨2, ![1024, 128]⟩
abbrev S1024x1 : Shape := ⟨2, ![1024, 1]⟩
abbrev S1x128 : Shape := ⟨2, ![1, 128]⟩
abbrev S1x512x1024 : Shape := ⟨3, ![1, 512, 1024]⟩
abbrev S512x1024 : Shape := ⟨2, ![512, 1024]⟩
abbrev S1x1x512 : Shape := ⟨3, ![1, 1, 512]⟩
abbrev S1x512 : Shape := ⟨2, ![1, 512]⟩
abbrev S1x640x1024 : Shape := ⟨3, ![1, 640, 1024]⟩
abbrev S640x1024 : Shape := ⟨2, ![640, 1024]⟩
abbrev S1x8x1024 : Shape := ⟨3, ![1, 8, 1024]⟩
abbrev S8x1024 : Shape := ⟨2, ![8, 1024]⟩
abbrev S56x1024 : Shape := ⟨2, ![56, 1024]⟩
abbrev S1x32x1024 : Shape := ⟨3, ![1, 32, 1024]⟩
abbrev S32x1024 : Shape := ⟨2, ![32, 1024]⟩
abbrev S768x1024 : Shape := ⟨2, ![768, 1024]⟩
abbrev S1024x768 : Shape := ⟨2, ![1024, 768]⟩

abbrev nBuf : Space → Nat
  | .hbm => 52
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x6824, .f32⟩
  | .hbm, ⟨3, _⟩ => ⟨S4x2x64, .f32⟩
  | .hbm, ⟨4, _⟩ => ⟨S4x2x64, .f32⟩
  | .hbm, ⟨5, _⟩ => ⟨S4x384, .f32⟩
  | .hbm, ⟨6, _⟩ => ⟨S4x256, .f32⟩
  | .hbm, ⟨7, _⟩ => ⟨S4x6824x1024, .f32⟩
  | .hbm, ⟨8, _⟩ => ⟨S4x1x64, .f32⟩
  | .hbm, ⟨9, _⟩ => ⟨S4x64, .f32⟩
  | .hbm, ⟨10, _⟩ => ⟨S1x4x1x64, .f32⟩
  | .hbm, ⟨11, _⟩ => ⟨S1x4x8x64, .f32⟩
  | .hbm, ⟨12, _⟩ => ⟨S4x512, .f32⟩
  | .hbm, ⟨13, _⟩ => ⟨S4x1x64, .f32⟩
  | .hbm, ⟨14, _⟩ => ⟨S4x64, .f32⟩
  | .hbm, ⟨15, _⟩ => ⟨S1x4x1x64, .f32⟩
  | .hbm, ⟨16, _⟩ => ⟨S1x4x8x64, .f32⟩
  | .hbm, ⟨17, _⟩ => ⟨S4x512, .f32⟩
  | .hbm, ⟨18, _⟩ => ⟨S4x1x64, .f32⟩
  | .hbm, ⟨19, _⟩ => ⟨S4x64, .f32⟩
  | .hbm, ⟨20, _⟩ => ⟨S1x4x1x64, .f32⟩
  | .hbm, ⟨21, _⟩ => ⟨S1x4x8x64, .f32⟩
  | .hbm, ⟨22, _⟩ => ⟨S4x512, .f32⟩
  | .hbm, ⟨23, _⟩ => ⟨S4x1x64, .f32⟩
  | .hbm, ⟨24, _⟩ => ⟨S4x64, .f32⟩
  | .hbm, ⟨25, _⟩ => ⟨S1x4x1x64, .f32⟩
  | .hbm, ⟨26, _⟩ => ⟨S1x4x8x64, .f32⟩
  | .hbm, ⟨27, _⟩ => ⟨S4x512, .f32⟩
  | .hbm, ⟨28, _⟩ => ⟨S4x1x512, .f32⟩
  | .hbm, ⟨29, _⟩ => ⟨S4x1x512, .f32⟩
  | .hbm, ⟨30, _⟩ => ⟨S4x1x512, .f32⟩
  | .hbm, ⟨31, _⟩ => ⟨S4x1x512, .f32⟩
  | .hbm, ⟨32, _⟩ => ⟨S4x4x512, .f32⟩
  | .hbm, ⟨33, _⟩ => ⟨S16384x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x384, .f32⟩
  | .hbm, ⟨38, _⟩ => ⟨S384, .f32⟩
  | .hbm, ⟨39, _⟩ => ⟨S1x384, .f32⟩
  | .hbm, ⟨40, _⟩ => ⟨S1x256, .f32⟩
  | .hbm, ⟨41, _⟩ => ⟨S256, .f32⟩
  | .hbm, ⟨42, _⟩ => ⟨S1x256, .f32⟩
  | .hbm, ⟨43, _⟩ => ⟨S16384x512, .bf16⟩
  | .hbm, ⟨44, _⟩ => ⟨S16384x512, .bf16⟩
  | .hbm, ⟨45, _⟩ => ⟨S16384x512, .bf16⟩
  | .hbm, ⟨46, _⟩ => ⟨S16384x512, .bf16⟩
  | .hbm, ⟨47, _⟩ => ⟨S16384x512, .bf16⟩
  | .hbm, ⟨48, _⟩ => ⟨S16384x512, .bf16⟩
  | .hbm, ⟨49, _⟩ => ⟨S16384x384, .bf16⟩
  | .hbm, ⟨50, _⟩ => ⟨S16384x256, .bf16⟩
  | .hbm, ⟨51, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x3752x1024, .f32⟩
  | .local _ .vmem, ⟨4, _⟩ => ⟨S1x4x512, .f32⟩
  | .local _ .vmem, ⟨5, _⟩ => ⟨S1x384, .f32⟩
  | .local _ .vmem, ⟨6, _⟩ => ⟨S1x256, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x384, .bf16⟩
  | .local _ .vmem, ⟨20, _⟩ => ⟨S1024x384, .bf16⟩
  | .local _ .vmem, ⟨21, _⟩ => ⟨S1024x256, .bf16⟩
  | .local _ .vmem, ⟨22, _⟩ => ⟨S1024x256, .bf16⟩
  | .local _ .vmem, ⟨23, _⟩ => ⟨S1024x128, .f32⟩
  | .local _ .vmem, ⟨24, _⟩ => ⟨S1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36_0 : Ref sig .tc := ⟨.hbm, 43, rfl⟩
abbrev main_v36_1 : Ref sig .tc := ⟨.hbm, 44, rfl⟩
abbrev main_v36_2 : Ref sig .tc := ⟨.hbm, 45, rfl⟩
abbrev main_v36_3 : Ref sig .tc := ⟨.hbm, 46, rfl⟩
abbrev main_v36_4 : Ref sig .tc := ⟨.hbm, 47, rfl⟩
abbrev main_v36_5 : Ref sig .tc := ⟨.hbm, 48, rfl⟩
abbrev main_v36_6 : Ref sig .tc := ⟨.hbm, 49, rfl⟩
abbrev main_v36_7 : Ref sig .tc := ⟨.hbm, 50, rfl⟩
abbrev main_v36_8 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3752x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8x2048x1024 : Shape := ⟨3, ![8, 2048, 1024]⟩
abbrev S4x1024 : Shape := ⟨2, ![4, 1024]⟩
abbrev S4x1024x6824 : Shape := ⟨3, ![4, 1024, 6824]⟩
abbrev S4x2x64 : Shape := ⟨3, ![4, 2, 64]⟩
abbrev S4x384 : Shape := ⟨2, ![4, 384]⟩
abbrev S4x256 : Shape := ⟨2, ![4, 256]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x6824 : Shape := ⟨3, ![1, 1024, 6824]⟩
abbrev S1024x6824 : Shape := ⟨2, ![1024, 6824]⟩
abbrev S8x2048x6824 : Shape := ⟨3, ![8, 2048, 6824]⟩
abbrev S8x2048x512 : Shape := ⟨3, ![8, 2048, 512]⟩
abbrev S8x2048x8x64 : Shape := ⟨4, ![8, 2048, 8, 64]⟩
abbrev S1x1x64 : Shape := ⟨3, ![1, 1, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x384 : Shape := ⟨3, ![8, 2048, 384]⟩
abbrev S1x384 : Shape := ⟨2, ![1, 384]⟩
abbrev S384 : Shape := ⟨1, ![384]⟩
abbrev S1x1x384 : Shape := ⟨3, ![1, 1, 384]⟩
abbrev S8x2048x256 : Shape := ⟨3, ![8, 2048, 256]⟩
abbrev S1x256 : Shape := ⟨2, ![1, 256]⟩
abbrev S256 : Shape := ⟨1, ![256]⟩
abbrev S1x1x256 : Shape := ⟨3, ![1, 1, 256]⟩
abbrev S8x2048x32 : Shape := ⟨3, ![8, 2048, 32]⟩
abbrev S8x2048x56 : Shape := ⟨3, ![8, 2048, 56]⟩
abbrev S8x2048x128 : Shape := ⟨3, ![8, 2048, 128]⟩
abbrev S16384x512 : Shape := ⟨2, ![16384, 512]⟩
abbrev S16384x384 : Shape := ⟨2, ![16384, 384]⟩
abbrev S16384x256 : Shape := ⟨2, ![16384, 256]⟩
abbrev S16384x128 : Shape := ⟨2, ![16384, 128]⟩

abbrev nBuf : Space → Nat
  | .hbm => 172
  | .vmem => 0
  | .smem => 0
  | _ => 0

abbrev hbmTy0_0 (i : Nat) : BufTy := match i % 128 with
  | 0 => ⟨S8x2048x1024, .f32⟩
  | 1 => ⟨S4x1024, .f32⟩
  | 2 => ⟨S4x1024x6824, .f32⟩
  | 3 => ⟨S4x2x64, .f32⟩
  | 4 => ⟨S4x2x64, .f32⟩
  | 5 => ⟨S4x384, .f32⟩
  | 6 => ⟨S4x256, .f32⟩
  | 7 => ⟨S1x1024, .f32⟩
  | 8 => ⟨S1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S1x1024x6824, .f32⟩
  | 26 => ⟨S1024x6824, .f32⟩
  | 27 => ⟨S8x2048x6824, .f32⟩
  | 28 => ⟨S8x2048x512, .f32⟩
  | 29 => ⟨S8x2048x8x64, .f32⟩
  | 30 => ⟨S1x1x64, .f32⟩
  | 31 => ⟨S64, .f32⟩
  | 32 => ⟨S8x2048x8x64, .f32⟩
  | 33 => ⟨S_, .f32⟩
  | 34 => ⟨S8x2048x8, .f32⟩
  | 35 => ⟨S8x2048x8x1, .f32⟩
  | 36 => ⟨S_, .f32⟩
  | 37 => ⟨S8x2048x8x1, .f32⟩
  | 38 => ⟨S8x2048x8x1, .f32⟩
  | 39 => ⟨S_, .f32⟩
  | 40 => ⟨S8x2048x8x1, .f32⟩
  | 41 => ⟨S8x2048x8x1, .f32⟩
  | 42 => ⟨S8x2048x8x1, .f32⟩
  | 43 => ⟨S8x2048x8x64, .f32⟩
  | 44 => ⟨S8x2048x8x64, .f32⟩
  | 45 => ⟨S1x1x1x64, .f32⟩
  | 46 => ⟨S8x2048x8x64, .f32⟩
  | 47 => ⟨S8x2048x8x64, .f32⟩
  | 48 => ⟨S8x2048x512, .f32⟩
  | 49 => ⟨S8x2048x8x64, .f32⟩
  | 50 => ⟨S1x1x64, .f32⟩
  | 51 => ⟨S64, .f32⟩
  | 52 => ⟨S8x2048x8x64, .f32⟩
  | 53 => ⟨S_, .f32⟩
  | 54 => ⟨S8x2048x8, .f32⟩
  | 55 => ⟨S8x2048x8x1, .f32⟩
  | 56 => ⟨S_, .f32⟩
  | 57 => ⟨S8x2048x8x1, .f32⟩
  | 58 => ⟨S8x2048x8x1, .f32⟩
  | 59 => ⟨S_, .f32⟩
  | 60 => ⟨S8x2048x8x1, .f32⟩
  | 61 => ⟨S8x2048x8x1, .f32⟩
  | 62 => ⟨S8x2048x8x1, .f32⟩
  | 63 => ⟨S8x2048x8x64, .f32⟩
  | 64 => ⟨S8x2048x8x64, .f32⟩
  | 65 => ⟨S1x1x1x64, .f32⟩
  | 66 => ⟨S8x2048x8x64, .f32⟩
  | 67 => ⟨S8x2048x8x64, .f32⟩
  | 68 => ⟨S8x2048x512, .f32⟩
  | 69 => ⟨S8x2048x8, .f32⟩
  | 70 => ⟨S8x2048x384, .f32⟩
  | 71 => ⟨S1x384, .f32⟩
  | 72 => ⟨S384, .f32⟩
  | 73 => ⟨S8x2048x384, .f32⟩
  | 74 => ⟨S_, .f32⟩
  | 75 => ⟨S8x2048, .f32⟩
  | 76 => ⟨S8x2048x1, .f32⟩
  | 77 => ⟨S_, .f32⟩
  | 78 => ⟨S8x2048x1, .f32⟩
  | 79 => ⟨S8x2048x1, .f32⟩
  | 80 => ⟨S_, .f32⟩
  | 81 => ⟨S8x2048x1, .f32⟩
  | 82 => ⟨S8x2048x1, .f32⟩
  | 83 => ⟨S8x2048x1, .f32⟩
  | 84 => ⟨S8x2048x384, .f32⟩
  | 85 => ⟨S8x2048x384, .f32⟩
  | 86 => ⟨S1x1x384, .f32⟩
  | 87 => ⟨S8x2048x384, .f32⟩
  | 88 => ⟨S8x2048x384, .f32⟩
  | 89 => ⟨S8x2048x256, .f32⟩
  | 90 => ⟨S1x256, .f32⟩
  | 91 => ⟨S256, .f32⟩
  | 92 => ⟨S8x2048x256, .f32⟩
  | 93 => ⟨S_, .f32⟩
  | 94 => ⟨S8x2048, .f32⟩
  | 95 => ⟨S8x2048x1, .f32⟩
  | 96 => ⟨S_, .f32⟩
  | 97 => ⟨S8x2048x1, .f32⟩
  | 98 => ⟨S8x2048x1, .f32⟩
  | 99 => ⟨S_, .f32⟩
  | 100 => ⟨S8x2048x1, .f32⟩
  | 101 => ⟨S8x2048x1, .f32⟩
  | 102 => ⟨S8x2048x1, .f32⟩
  | 103 => ⟨S8x2048x256, .f32⟩
  | 104 => ⟨S8x2048x256, .f32⟩
  | 105 => ⟨S1x1x256, .f32⟩
  | 106 => ⟨S8x2048x256, .f32⟩
  | 107 => ⟨S8x2048x256, .f32⟩
  | 108 => ⟨S8x2048x32, .f32⟩
  | 109 => ⟨S8x2048x512, .f32⟩
  | 110 => ⟨S8x2048x8x64, .f32⟩
  | 111 => ⟨S1x1x64, .f32⟩
  | 112 => ⟨S64, .f32⟩
  | 113 => ⟨S8x2048x8x64, .f32⟩
  | 114 => ⟨S_, .f32⟩
  | 115 => ⟨S8x2048x8, .f32⟩
  | 116 => ⟨S8x2048x8x1, .f32⟩
  | 117 => ⟨S_, .f32⟩
  | 118 => ⟨S8x2048x8x1, .f32⟩
  | 119 => ⟨S8x2048x8x1, .f32⟩
  | 120 => ⟨S_, .f32⟩
  | 121 => ⟨S8x2048x8x1, .f32⟩
  | 122 => ⟨S8x2048x8x1, .f32⟩
  | 123 => ⟨S8x2048x8x1, .f32⟩
  | 124 => ⟨S8x2048x8x64, .f32⟩
  | 125 => ⟨S8x2048x8x64, .f32⟩
  | 126 => ⟨S1x1x1x64, .f32⟩
  | 127 => ⟨S8x2048x8x64, .f32⟩
  | _ => ⟨S8x2048x1024, .f32⟩

abbrev hbmTy0_1 (i : Nat) : BufTy := match i % 128 with
  | 0 => ⟨S8x2048x8x64, .f32⟩
  | 1 => ⟨S8x2048x512, .f32⟩
  | 2 => ⟨S8x2048x8x64, .f32⟩
  | 3 => ⟨S1x1x64, .f32⟩
  | 4 => ⟨S64, .f32⟩
  | 5 => ⟨S8x2048x8x64, .f32⟩
  | 6 => ⟨S_, .f32⟩
  | 7 => ⟨S8x2048x8, .f32⟩
  | 8 => ⟨S8x2048x8x1, .f32⟩
  | 9 => ⟨S_, .f32⟩
  | 10 => ⟨S8x2048x8x1, .f32⟩
  | 11 => ⟨S8x2048x8x1, .f32⟩
  | 12 => ⟨S_, .f32⟩
  | 13 => ⟨S8x2048x8x1, .f32⟩
  | 14 => ⟨S8x2048x8x1, .f32⟩
  | 15 => ⟨S8x2048x8x1, .f32⟩
  | 16 => ⟨S8x2048x8x64, .f32⟩
  | 17 => ⟨S8x2048x8x64, .f32⟩
  | 18 => ⟨S1x1x1x64, .f32⟩
  | 19 => ⟨S8x2048x8x64, .f32⟩
  | 20 => ⟨S8x2048x8x64, .f32⟩
  | 21 => ⟨S8x2048x512, .f32⟩
  | 22 => ⟨S_, .f32⟩
  | 23 => ⟨S8x2048x56, .f32⟩
  | 24 => ⟨S_, .f32⟩
  | 25 => ⟨S8x2048x32, .f32⟩
  | 26 => ⟨S8x2048x128, .f32⟩
  | 27 => ⟨S16384x512, .f32⟩
  | 28 => ⟨S16384x512, .bf16⟩
  | 29 => ⟨S16384x512, .f32⟩
  | 30 => ⟨S16384x512, .bf16⟩
  | 31 => ⟨S16384x512, .f32⟩
  | 32 => ⟨S16384x512, .bf16⟩
  | 33 => ⟨S16384x512, .f32⟩
  | 34 => ⟨S16384x512, .bf16⟩
  | 35 => ⟨S16384x512, .f32⟩
  | 36 => ⟨S16384x512, .bf16⟩
  | 37 => ⟨S16384x512, .f32⟩
  | 38 => ⟨S16384x512, .bf16⟩
  | 39 => ⟨S16384x384, .f32⟩
  | 40 => ⟨S16384x384, .bf16⟩
  | 41 => ⟨S16384x256, .f32⟩
  | 42 => ⟨S16384x256, .bf16⟩
  | 43 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_11 : Ref sig .tc := ⟨.hbm, 93, rfl⟩
abbrev main_v74 : Ref sig .tc := ⟨.hbm, 94, rfl⟩
abbrev main_v75 : Ref sig .tc := ⟨.hbm, 95, rfl⟩
abbrev main_cst_12 : Ref sig .tc := ⟨.hbm, 96, rfl⟩
abbrev main_v76 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_17 : Ref sig .tc := ⟨.hbm, 134, rfl⟩
abbrev main_v109 : Ref sig .tc := ⟨.hbm, 135, rfl⟩
abbrev main_v110 : Ref sig .tc := ⟨.hbm, 136, rfl⟩
abbrev main_cst_18 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_20 : Ref sig .tc := ⟨.hbm, 150, rfl⟩
abbrev main_v122 : Ref sig .tc := ⟨.hbm, 151, rfl⟩
abbrev main_cst_21 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩

abbrev nD : Nat := 1
abbrev τ : Topo := Topo.v7x

variable {F : FTy → Type} [FloatOps F]
-- ==== Proof.FoxPieces.lean ====
/- The body of the attention kernel, restated once for all of its thirty-two units of work. A unit is a tile of
   256 queries and one of the four heads of the grid step; the body runs them longest tile first. What the units
   store, in the order in which they store it, is a recursion on the number of units done, and the lists of pieces
   the run of the body finds are these recursions at thirty-two. -/
module

public import proofs.«01_k».proof.Proof.Gen.KernelIdeal.Frame.RunA

@[expose] public section

set_option maxRecDepth 16384

noncomputable section

namespace Cert.KernelIdeal.Fox

open Idealize.ShloMosaic Idealize.ShloMosaic.TcCoe Cert.KernelIdeal.Gen

variable {F : FTy → Type} [FloatOps F] [Named F] [Facts]

/-! ## The units -/

/-- The query tile of unit `n`. -/
abbrev tile (n : Nat) : Nat := 7 - n / 4
/-- The keys before the tile's own 256. -/
abbrev before (n : Nat) : Nat := 256 * tile n
/-- The pair of heads (one 128-lane register) the unit's head lies in. -/
abbrev pair (n : Nat) : Nat := n % 4 / 2
/-- The score scratch the unit uses. -/
abbrev slot (n : Nat) : Nat := n % 2

theorem tile_le (n : Nat) : tile n ≤ 7 := by unfold tile; omega

theorem inb_rows (n : Nat) : ∀ a, (![0, 256 * tile n, 128 * pair n] : Fin 3 → Nat) a + S1x256x128.size a ≤ S1x2048x256.size a := by
  intro a; fin_cases a
  · show 0 + 1 ≤ 1; omega
  · show 256 * (7 - n / 4) + 256 ≤ 2048; omega
  · show 128 * (n % 4 / 2) + 128 ≤ 256; omega

/-- The rows of the unit's tile, the lanes of its pair. -/
abbrev rows (n : Nat) : Rect S1x2048x256 := Rect.unit (s := S1x2048x256) ![0, 256 * tile n, 128 * pair n] S1x256x128.size (inb_rows n)

theorem inb_gate (n : Nat) : ∀ a, (![0, 256 * tile n, 0] : Fin 3 → Nat) a + S1x256x128.size a ≤ S1x2048x128.size a := by
  intro a; fin_cases a
  · show 0 + 1 ≤ 1; omega
  · show 256 * (7 - n / 4) + 256 ≤ 2048; omega
  · show 0 + 128 ≤ 128; omega

/-- The rows of the unit's tile in the gate lanes. -/
abbrev gateRows (n : Nat) : Rect S1x2048x128 := Rect.unit (s := S1x2048x128) ![0, 256 * tile n, 0] S1x256x128.size (inb_gate n)

theorem inb_keys (p off K : Nat) (hp : p ≤ 1) (h : off + K ≤ 2048) :
    ∀ a, (![p, off, 0] : Fin 3 → Nat) a + (![1, K, 256] : Fin 3 → Nat) a ≤ S2x2048x256.size a := by
  intro a; fin_cases a
  · show p + 1 ≤ 2; omega
  · show off + K ≤ 2048; omega
  · show 0 + 256 ≤ 256; omega

theorem pair_le (n : Nat) : pair n ≤ 1 := by unfold pair; omega
theorem slot_le (n : Nat) : slot n ≤ 1 := by unfold slot; omega
theorem before_le (n : Nat) : 0 + before n ≤ 2048 := by unfold before tile; omega
theorem diag_le (n : Nat) : before n + 256 ≤ 2048 := by unfold before tile; omega
theorem all_le (n : Nat) : 0 + (before n + 256) ≤ 2048 := by unfold before tile; omega

/-- `K` rows of the joined keys of a pair, from row `off`. -/
abbrev keys (p off K : Nat) (hp : p ≤ 1) (h : off + K ≤ 2048) : Rect S2x2048x256 :=
  Rect.unit (s := S2x2048x256) ![p, off, 0] ![1, K, 256] (inb_keys p off K hp h)

theorem inb_sc (p off K : Nat) (hp : p ≤ 1) (h : off + K ≤ 2048) :
    ∀ a, (![p, 0, off] : Fin 3 → Nat) a + (![1, 256, K] : Fin 3 → Nat) a ≤ S2x256x2048.size a := by
  intro a; fin_cases a
  · show p + 1 ≤ 2; omega
  · show 0 + 256 ≤ 256; omega
  · show off + K ≤ 2048; omega

/-- `K` columns of a score scratch, from column `off`. -/
abbrev sc (p off K : Nat) (hp : p ≤ 1) (h : off + K ≤ 2048) : Rect S2x256x2048 :=
  Rect.unit (s := S2x256x2048) ![p, 0, off] ![1, 256, K] (inb_sc p off K hp h)

theorem inb_vals (p K : Nat) (hp : p ≤ 1) (h : 0 + K ≤ 2048) :
    ∀ a, (![0, 0, 128 * p] : Fin 3 → Nat) a + (![1, K, 128] : Fin 3 → Nat) a ≤ S1x2048x256.size a := by
  intro a; fin_cases a
  · show 0 + 1 ≤ 1; omega
  · show 0 + K ≤ 2048; omega
  · show 128 * p + 128 ≤ 256; omega

/-- The first `K` rows of a pair's lanes. -/
abbrev vals (p K : Nat) (hp : p ≤ 1) (h : 0 + K ≤ 2048) : Rect S1x2048x256 :=
  Rect.unit (s := S1x2048x256) ![0, 0, 128 * p] ![1, K, 128] (inb_vals p K hp h)

theorem inb_half (p l : Nat) (hp : p ≤ 1) (hl : l + 128 ≤ 256) :
    ∀ a, (![p, 0, l] : Fin 3 → Nat) a + S1x2048x128.size a ≤ S2x2048x256.size a := by
  intro a; fin_cases a
  · show p + 1 ≤ 2; omega
  · show 0 + 2048 ≤ 2048; omega
  · show l + 128 ≤ 256; omega

/-- A 128-lane half of the joined keys of a pair. -/
abbrev half (p l : Nat) (hp : p ≤ 1) (hl : l + 128 ≤ 256) : Rect S2x2048x256 :=
  Rect.unit (s := S2x2048x256) ![p, 0, l] S1x2048x128.size (inb_half p l hp hl)

theorem inb_lanes (p : Nat) (hp : p ≤ 1) :
    ∀ a, (![0, 0, 128 * p] : Fin 3 → Nat) a + S1x2048x128.size a ≤ S1x2048x256.size a := by
  intro a; fin_cases a
  · show 0 + 1 ≤ 1; omega
  · show 0 + 2048 ≤ 2048; omega
  · show 128 * p + 128 ≤ 256; omega

/-- A pair's lanes of the keys. -/
abbrev lanes (p : Nat) (hp : p ≤ 1) : Rect S1x2048x256 :=
  Rect.unit (s := S1x2048x256) ![0, 0, 128 * p] S1x2048x128.size (inb_lanes p hp)

abbrev gateAll : Rect S1x2048x128 := Rect.unit (s := S1x2048x128) ![0, 0, 0] S1x2048x128.size inb_S1x2048x128_S1x2048x128_0_0_0

/-! ## The vectors of a unit -/

section vectors

/-- The lanes from `lo` up to `hi`. -/
def between (lo hi : BitVec 32) : IVec S1x128 1 :=
  andi (cmpi .sge (iota .tc S1x128 32 [1] iota_S1x128_d1_w32) (broadcast S1x128 lo))
    (cmpi .slt (iota .tc S1x128 32 [1] iota_S1x128_d1_w32) (broadcast S1x128 hi))

/-- The rows of `x` on the lanes `m`, zero on the other lanes. -/
def onLanes (m : IVec S1x128 1) (x : Vec F S1x256x128 .bf16) : FVec F S256x128 .bf16 :=
  select (broadcastTo S256x128 (shapeCast S1x128 m shapeCasts_S1x128_S1x128) broadcasts_S1x128_S256x128)
    (shapeCast S256x128 x shapeCasts_S1x256x128_S256x128) (broadcast S256x128 (Scalar.ofBits .bf16 0x0000#16 : F .bf16))

/-- The first gate lane of head `hd` of head group `a`. -/
def gateLo (a hd : BitVec 32) : BitVec 32 := Scalar.muli (Scalar.addi (Scalar.muli 4#32 a) hd) 16#32

/-- The queries of a head joined with its gate lanes. -/
def joined (a hd lo hi : BitVec 32) (q g : Vec F S1x256x128 .bf16) : FVec F S256x256 .bf16 :=
  concatenate S256x256 1 [⟨S256x128, onLanes (between lo hi) q⟩,
    ⟨S256x128, onLanes (between (gateLo a hd) (Scalar.addi (gateLo a hd) 16#32)) g⟩] concatenates_S256x128_S256x128_S256x256_d1

theorem cast_kx (K : Nat) : Shape.ShapeCasts ⟨3, ![1, K, 256]⟩ ⟨2, ![K, 256]⟩ := by
  simp [Shape.ShapeCasts, Shape.numel, Fin.prod_univ_succ]
theorem cast_v (K : Nat) : Shape.ShapeCasts ⟨3, ![1, K, 128]⟩ ⟨2, ![K, 128]⟩ := by
  simp [Shape.ShapeCasts, Shape.numel, Fin.prod_univ_succ]
theorem cast_s (K : Nat) : Shape.ShapeCasts ⟨2, ![256, K]⟩ ⟨3, ![1, 256, K]⟩ := by
  simp [Shape.ShapeCasts, Shape.numel, Fin.prod_univ_succ]
theorem cast_s' (K : Nat) : Shape.ShapeCasts ⟨3, ![1, 256, K]⟩ ⟨2, ![256, K]⟩ := by
  simp [Shape.ShapeCasts, Shape.numel, Fin.prod_univ_succ]
theorem red_s (K : Nat) : (⟨2, ![256, K]⟩ : Shape).Reduces [1] S256 := by
  refine ⟨rfl, Nat.one_pos, fun b => ?_⟩
  fin_cases b; rfl
theorem bc_s (K : Nat) : S256x1.Broadcasts ⟨2, ![256, K]⟩ := by
  refine ⟨le_refl _, fun a => ?_⟩
  fin_cases a
  · right; intro _; rfl
  · left; rfl

/-- The products of the queries with `K` keys. -/
def products (K : Nat) (q : FVec F S256x256 .bf16) (k : Vec F ⟨3, ![1, K, 256]⟩ .bf16) : FVec F ⟨2, ![256, K]⟩ .f32 :=
  matmul (DotDims.transposedRhs 256 256 K) none q (shapeCast ⟨2, ![K, 256]⟩ k (cast_kx K)) (constant ⟨2, ![256, K]⟩ .f32 0x00000000#32)

/-- On the diagonal block a key counts up to the query. -/
def causal (s : FVec F S256x256 .f32) : FVec F S256x256 .f32 :=
  select (cmpi .sle (iota .tc S256x256 32 [1] iota_S256x256_d1_w32) (iota .tc S256x256 32 [0] iota_S256x256_d0_w32)) s
    (broadcast S256x256 (Named.named κ "mask" 0xF149F2CA#32 : F .f32))

/-- The greatest score of each row. -/
def rowMax (K : Nat) (s : FVec F ⟨2, ![256, K]⟩ .f32) : FVec F S256x1 .f32 :=
  shapeCast S256x1 (multiReduction .maximumf [1] S256 s 0xFF800000#32 (red_s K) (.inl rfl) rfl) shapeCasts_S256_S256x1

/-- The weights of `K` scores, not yet normalised. -/
def weights (K : Nat) (m : FVec F S256x1 .f32) (s : Vec F ⟨3, ![1, 256, K]⟩ .f32) : FVec F ⟨2, ![256, K]⟩ .f32 :=
  exp2 (subf (shapeCast ⟨2, ![256, K]⟩ s (cast_s' K)) (broadcastTo ⟨2, ![256, K]⟩ m (bc_s K)))

/-- The weighted values over the sum of the weights. -/
def average (K : Nat) (w : FVec F ⟨2, ![256, K]⟩ .f32) (v : Vec F ⟨3, ![1, K, 128]⟩ .bf16) : FVec F S256x128 .bf16 :=
  truncf .bf16 (divf (matmul (DotDims.plain 256 K 128) none (truncf .bf16 w bitsLt_bf16_f32) (shapeCast ⟨2, ![K, 128]⟩ v (cast_v K))
      (constant S256x128 .f32 0x00000000#32))
    (broadcastTo S256x128 (shapeCast S256x1 (multiReduction .add [1] S256 w 0x00000000#32 (red_s K) (.inl rfl) rfl) shapeCasts_S256_S256x1)
      broadcasts_S256x1_S256x128)) bitsLt_bf16_f32

/-- The first 64 lanes from `old`, the others from `new`. -/
def upper (old : Vec F S1x256x128 .bf16) (new : FVec F S256x128 .bf16) : FVec F S256x128 .bf16 :=
  select (broadcastTo S256x128 (shapeCast S1x128 (cmpi .slt (iota .tc S1x128 32 [1] iota_S1x128_d1_w32) (broadcast S1x128 64#32)) shapeCasts_S1x128_S1x128)
    broadcasts_S1x128_S256x128) (shapeCast S256x128 old shapeCasts_S1x256x128_S256x128) new

end vectors

/-! ## The stores of the units -/

/-- How the buffers of the body are read: the inputs, the two scratches and the output. -/
structure Reads (F : FTy → Type) where
  q : (r : LoadRect S1x2048x256) → Vec F r.shape .bf16
  k : (r : LoadRect S1x2048x256) → Vec F r.shape .bf16
  v : (r : LoadRect S1x2048x256) → Vec F r.shape .bf16
  aq : (r : LoadRect S1x2048x128) → Vec F r.shape .bf16
  ak : (r : LoadRect S1x2048x128) → Vec F r.shape .bf16
  kx : List (View.Piece (Elt F) S2x2048x256 .bf16) → (r : LoadRect S2x2048x256) → Vec F r.shape .bf16
  s : List (View.Piece (Elt F) S2x256x2048 .f32) → (r : LoadRect S2x256x2048) → Vec F r.shape .f32
  o : List (View.Piece (Elt F) S1x2048x256 .bf16) → (r : LoadRect S1x2048x256) → Vec F r.shape .bf16

section stores
variable (R : Reads F) (a : BitVec 32)

/-- A block written as it is. -/
def pass (x : Vec F S1x2048x128 .bf16) : Vec F S1x2048x128 .bf16 :=
  shapeCast S1x2048x128 (shapeCast S2048x128 x shapeCasts_S1x2048x128_S2048x128) shapeCasts_S2048x128_S1x2048x128

/-- The joined keys of the two pairs. -/
def keyPieces : List (View.Piece (Elt F) S2x2048x256 .bf16) :=
  [⟨half 1 128 (by omega) (by omega), pass (R.ak gateAll.toLoadRect)⟩,
   ⟨half 1 0 (by omega) (by omega), pass (R.k (lanes 1 (by omega)).toLoadRect)⟩,
   ⟨half 0 128 (by omega) (by omega), pass (R.ak gateAll.toLoadRect)⟩,
   ⟨half 0 0 (by omega) (by omega), pass (R.k (lanes 0 (by omega)).toLoadRect)⟩]

/-- The queries of unit `n`. -/
def queries (n : Nat) : FVec F S256x256 .bf16 :=
  joined a (BitVec.ofNat 32 (n % 4)) (BitVec.ofNat 32 (64 * (n % 2))) (BitVec.ofNat 32 (64 * (n % 2) + 64))
    (R.q (rows n).toLoadRect) (R.aq (gateRows n).toLoadRect)

/-- The scores of unit `n` before its diagonal block. -/
def leftScores (n : Nat) : FVec F ⟨2, ![256, before n]⟩ .f32 :=
  products (before n) (queries R a n) (R.kx (keyPieces R) (keys (pair n) 0 (before n) (pair_le n) (before_le n)).toLoadRect)

/-- The scores of its diagonal block. -/
def diagScores (n : Nat) : FVec F S256x256 .f32 :=
  causal (products 256 (queries R a n) (R.kx (keyPieces R) (keys (pair n) (before n) 256 (pair_le n) (diag_le n)).toLoadRect))

/-- What unit `n` stores into its score scratch. -/
def scorePieces (n : Nat) (L : List (View.Piece (Elt F) S2x256x2048 .f32)) : List (View.Piece (Elt F) S2x256x2048 .f32) :=
  ⟨sc (slot n) (before n) 256 (slot_le n) (diag_le n), shapeCast ⟨3, ![1, 256, 256]⟩ (diagScores R a n) (cast_s 256)⟩ ::
    if tile n = 0 then L else
      ⟨sc (slot n) 0 (before n) (slot_le n) (before_le n), shapeCast ⟨3, ![1, 256, before n]⟩ (leftScores R a n) (cast_s (before n))⟩ :: L

/-- The score scratch after the scores of `n` units. -/
def scores : Nat → List (View.Piece (Elt F) S2x256x2048 .f32)
  | 0 => []
  | n + 1 => scorePieces R a n (scores n)

/-- The greatest score of each row of unit `n`. -/
def greatest (n : Nat) : FVec F S256x1 .f32 :=
  if tile n = 0 then rowMax 256 (diagScores R a n)
  else maximumf (rowMax (before n) (leftScores R a n)) (rowMax 256 (diagScores R a n))

/-- The output of unit `n` on all lanes of its pair, its scores read back from the scratch pieces `S`. -/
def output (n : Nat) (S : List (View.Piece (Elt F) S2x256x2048 .f32)) : FVec F S256x128 .bf16 :=
  average (before n + 256)
    (weights (before n + 256) (greatest R a n)
      (R.s S (sc (slot n) 0 (before n + 256) (slot_le n) (all_le n)).toLoadRect))
    (R.v (vals (pair n) (before n + 256) (pair_le n) (all_le n)).toLoadRect)

/-- What unit `n` stores into the output after the pieces `L`: an even head its pair's lanes, an odd head the upper
    half of them, the lower half as it is. -/
def outputPieces (n : Nat) (S : List (View.Piece (Elt F) S2x256x2048 .f32)) (L : List (View.Piece (Elt F) S1x2048x256 .bf16)) :
    List (View.Piece (Elt F) S1x2048x256 .bf16) :=
  ⟨rows n, shapeCast S1x256x128
    (if n % 2 = 0 then output R a n S else upper (R.o L (rows n).toLoadRect) (output R a n S)) shapeCasts_S256x128_S1x256x128⟩ :: L

/-- The output after `n` units: a unit's scores are read back once the next unit's are stored. -/
def outputs : Nat → List (View.Piece (Elt F) S1x2048x256 .bf16)
  | 0 => []
  | n + 1 => outputPieces R a n (scores R a (min (n + 2) 32)) (outputs n)

end stores

section run

/-- The reads of the body at its staging memrefs. -/
abbrev readsOf (arg2 : Memref sig .tc .vmem S1x2048x256 .bf16) (harg2 : arg2.IsWhole) (arg3 : Memref sig .tc .vmem S1x2048x256 .bf16) (harg3 : arg3.IsWhole)
    (arg4 : Memref sig .tc .vmem S1x2048x256 .bf16) (harg4 : arg4.IsWhole) (arg5 : Memref sig .tc .vmem S1x2048x128 .bf16) (harg5 : arg5.IsWhole)
    (arg6 : Memref sig .tc .vmem S1x2048x128 .bf16) (harg6 : arg6.IsWhole) (arg8 : Memref sig .tc .vmem S1x2048x256 .bf16)
    (arg10 : Memref sig .tc .vmem S2x256x2048 .f32) (arg11 : Memref sig .tc .vmem S2x2048x256 .bf16)
    (x0 x1 x2 : Vec F S1x2048x256 .bf16) (x3 x4 : Vec F S1x2048x128 .bf16) : Reads F where
  q r := View.readAt (Elt F) arg2.view r (harg2.unread x0)
  k r := View.readAt (Elt F) arg3.view r (harg3.unread x1)
  v r := View.readAt (Elt F) arg4.view r (harg4.unread x2)
  aq r := View.readAt (Elt F) arg5.view r (harg5.unread x3)
  ak r := View.readAt (Elt F) arg6.view r (harg6.unread x4)
  kx L r := arg11.view.readCov L r
  s L r := arg10.view.readCov L r
  o L r := arg8.view.readCov L r

/-- A list of score pieces the run of the body finds. -/
abbrev ScoreWord (F : FTy → Type) [FloatOps F] [Named F] := (c : Dev nD) → (i : grid0.Coords) →
  (arg2 : Memref sig .tc .vmem S1x2048x256 .bf16) → (harg2 : arg2.IsWhole) → (arg3 : Memref sig .tc .vmem S1x2048x256 .bf16) → (harg3 : arg3.IsWhole) →
  (arg5 : Memref sig .tc .vmem S1x2048x128 .bf16) → (harg5 : arg5.IsWhole) → (arg6 : Memref sig .tc .vmem S1x2048x128 .bf16) → (harg6 : arg6.IsWhole) →
  (arg11 : Memref sig .tc .vmem S2x2048x256 .bf16) →
  Vec F S1x2048x256 .bf16 → Vec F S1x2048x256 .bf16 → Vec F S1x2048x128 .bf16 → Vec F S1x2048x128 .bf16 →
  List (View.Piece (Elt F) S2x256x2048 .f32)

/-- The word `w` is what `n` units store into the scratch. -/
def IsScores (w : ScoreWord F) (n : Nat) : Prop :=
  ∀ c i arg2 harg2 arg3 harg3 arg4 harg4 arg5 harg5 arg6 harg6 arg8 arg10 arg11 x0 x1 x2 x3 x4,
    w c i arg2 harg2 arg3 harg3 arg5 harg5 arg6 harg6 arg11 x0 x1 x3 x4
      = scores (readsOf arg2 harg2 arg3 harg3 arg4 harg4 arg5 harg5 arg6 harg6 arg8 arg10 arg11 x0 x1 x2 x3 x4) (BitVec.ofNat 32 (i 1).val) n

/-- The word `w'` is the word `w` after unit `n`'s stores. -/
def ScoreStep (w w' : ScoreWord F) (n : Nat) : Prop :=
  ∀ c i arg2 harg2 arg3 harg3 arg4 harg4 arg5 harg5 arg6 harg6 arg8 arg10 arg11 x0 x1 x2 x3 x4,
    w' c i arg2 harg2 arg3 harg3 arg5 harg5 arg6 harg6 arg11 x0 x1 x3 x4
      = scorePieces (readsOf arg2 harg2 arg3 harg3 arg4 harg4 arg5 harg5 arg6 harg6 arg8 arg10 arg11 x0 x1 x2 x3 x4) (BitVec.ofNat 32 (i 1).val) n
          (w c i arg2 harg2 arg3 harg3 arg5 harg5 arg6 harg6 arg11 x0 x1 x3 x4)

theorem IsScores.step {w w' : ScoreWord F} {n : Nat} (h : IsScores w n) (h' : ScoreStep w w' n) : IsScores w' (n + 1) := by
  intro c i arg2 harg2 arg3 harg3 arg4 harg4 arg5 harg5 arg6 harg6 arg8 arg10 arg11 x0 x1 x2 x3 x4
  rw [h', h]; rfl

/-- A list of output pieces the run of the body finds. -/
abbrev OutputWord (F : FTy → Type) [FloatOps F] [Named F] := (c : Dev nD) → (i : grid0.Coords) →
  (arg2 : Memref sig .tc .vmem S1x2048x256 .bf16) → (harg2 : arg2.IsWhole) → (arg3 : Memref sig .tc .vmem S1x2048x256 .bf16) → (harg3 : arg3.IsWhole) →
  (arg4 : Memref sig .tc .vmem S1x2048x256 .bf16) → (harg4 : arg4.IsWhole) →
  (arg5 : Memref sig .tc .vmem S1x2048x128 .bf16) → (harg5 : arg5.IsWhole) → (arg6 : Memref sig .tc .vmem S1x2048x128 .bf16) → (harg6 : arg6.IsWhole) →
  (arg8 : Memref sig .tc .vmem S1x2048x256 .bf16) → (arg10 : Memref sig .tc .vmem S2x256x2048 .f32) → (arg11 : Memref sig .tc .vmem S2x2048x256 .bf16) →
  Vec F S1x2048x256 .bf16 → Vec F S1x2048x256 .bf16 → Vec F S1x2048x256 .bf16 → Vec F S1x2048x128 .bf16 → Vec F S1x2048x128 .bf16 →
  List (View.Piece (Elt F) S1x2048x256 .bf16)

/-- The word `w` is what `n` units store into the output. -/
def IsOutputs (w : OutputWord F) (n : Nat) : Prop :=
  ∀ c i arg2 harg2 arg3 harg3 arg4 harg4 arg5 harg5 arg6 harg6 arg8 arg10 arg11 x0 x1 x2 x3 x4,
    w c i arg2 harg2 arg3 harg3 arg4 harg4 arg5 harg5 arg6 harg6 arg8 arg10 arg11 x0 x1 x2 x3 x4
      = outputs (readsOf arg2 harg2 arg3 harg3 arg4 harg4 arg5 harg5 arg6 harg6 arg8 arg10 arg11 x0 x1 x2 x3 x4) (BitVec.ofNat 32 (i 1).val) n

/-- The word `w'` is the word `w` after the stores of the units `n` and `n + 1`, which read the scores `s` and `s'`. -/
def OutputStep (s s' : ScoreWord F) (w w' : OutputWord F) (n : Nat) : Prop :=
  ∀ c i arg2 harg2 arg3 harg3 arg4 harg4 arg5 harg5 arg6 harg6 arg8 arg10 arg11 x0 x1 x2 x3 x4,
    w' c i arg2 harg2 arg3 harg3 arg4 harg4 arg5 harg5 arg6 harg6 arg8 arg10 arg11 x0 x1 x2 x3 x4
      = outputPieces (readsOf arg2 harg2 arg3 harg3 arg4 harg4 arg5 harg5 arg6 harg6 arg8 arg10 arg11 x0 x1 x2 x3 x4) (BitVec.ofNat 32 (i 1).val) (n + 1)
          (s' c i arg2 harg2 arg3 harg3 arg5 harg5 arg6 harg6 arg11 x0 x1 x3 x4)
          (outputPieces (readsOf arg2 harg2 arg3 harg3 arg4 harg4 arg5 harg5 arg6 harg6 arg8 arg10 arg11 x0 x1 x2 x3 x4) (BitVec.ofNat 32 (i 1).val) n
            (s c i arg2 harg2 arg3 harg3 arg5 harg5 arg6 harg6 arg11 x0 x1 x3 x4)
            (w c i arg2 harg2 arg3 harg3 arg4 harg4 arg5 harg5 arg6 harg6 arg8 arg10 arg11 x0 x1 x2 x3 x4))

theorem IsOutputs.step {s s' : ScoreWord F} {w w' : OutputWord F} {n k k' : Nat} (h : IsOutputs w n) (hs : IsScores s k) (hs' : IsScores s' k')
    (h' : OutputStep s s' w w' n) (hk : k = min (n + 2) 32) (hk' : k' = min (n + 3) 32) : IsOutputs w' (n + 2) := by
  subst hk hk'
  intro c i arg2 harg2 arg3 harg3 arg4 harg4 arg5 harg5 arg6 harg6 arg8 arg10 arg11 x0 x1 x2 x3 x4
  rw [h', h, hs c i arg2 harg2 arg3 harg3 arg4 harg4 arg5 harg5 arg6 harg6 arg8 arg10 arg11,
    hs' c i arg2 harg2 arg3 harg3 arg4 harg4 arg5 harg5 arg6 harg6 arg8 arg10 arg11]
  rfl

end run

end Cert.KernelIdeal.Fox

end
-- ==== Proof.FoxScoresA.lean ====
/- The score pieces of the units 3 to 10: each list the run finds is the one before it with one unit more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem scoreStep3 : ScoreStep (F := F) kernelRun0_A.sl.HS0_4 kernelRun0_A.sl.HS0_6 2 := fun _ _ _ _ _ _ _ _ _ _ _ _ _ _ _ _ _ _ _ _ => rfl
theorem scoreStep4 : ScoreStep (F := F) kernelRun0_A.sl.HS0_6 kernelRun0_A.sl.HS0_8 3 := fun _ _ _ _ _ _ _ _ _ _ _ _ _ _ _ _ _ _ _ _ => rfl
theorem scoreStep5 : ScoreStep (F := F) kernelRun0_A.sl.HS0_8 kernelRun0_A.sl.HS0_10 4 := fun _ _ _ _ _ _ _ _ _ _ _ _ _ _ _ _ _ _ _ _ => rfl
theorem scoreStep6 : ScoreStep (F := F) kernelRun0_A.sl.HS0_10 kernelRun0_A.sl.HS0_12 5 := fun _ _ _ _ _ _ _ _ _ _ _ _ _ _ _ _ _ _ _ _ => rfl
theorem scoreStep7 : ScoreStep (F := F) kernelRun0_A.sl.HS0_12 kernelRun0_A.sl.HS0_14 6 := fun _ _ _ _ _ _ _ _ _ _ _ _ _ _ _ _ _ _ _ _ => rfl
theorem scoreStep8 : ScoreStep (F := F) kernelRun0_A.sl.HS0_14 kernelRun0_A.sl.HS0_16 7 := fun _ _ _ _ _ _ _ _ _ _ _ _ _ _ _ _ _ _ _ _ => rfl
theorem scoreStep9 : ScoreStep (F := F) kernelRun0_A.sl.HS0_16 kernelRun0_A.sl.HS0_18 8 := fun _ _ _ _ _ _ _ _ _ _ _ _ _ _ _ _ _ _ _ _ => rfl
theorem scoreStep10 : ScoreStep (F := F) kernelRun0_A.sl.HS0_18 kernelRun0_A.sl.HS0_20 9 := fun _ _ _ _ _ _ _ _ _ _ _ _ _ _ _ _ _ _ _ _ => rfl

end Cert.KernelIdeal.Fox

end
-- ==== Proof.FoxScoresB.lean ====
/- The score pieces of the units 11 to 17: each list the run finds is the one before it with one unit more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem scoreStep11 : ScoreStep (F := F) kernelRun0_A.sl.HS0_20 kernelRun0_A.sl.HS0_22 10 := fun _ _ _ _ _ _ _ _ _ _ _ _ _ _ _ _ _ _ _ _ => rfl
theorem scoreStep12 : ScoreStep (F := F) kernelRun0_A.sl.HS0_22 kernelRun0_A.sl.HS0_24 11 := fun _ _ _ _ _ _ _ _ _ _ _ _ _ _ _ _ _ _ _ _ => rfl
theorem scoreStep13 : ScoreStep (F := F) kernelRun0_A.sl.HS0_24 kernelRun0_A.sl.HS0_26 12 := fun _ _ _ _ _ _ _ _ _ _ _ _ _ _ _ _ _ _ _ _ => rfl
theorem scoreStep14 : ScoreStep (F := F) kernelRun0_A.sl.HS0_26 kernelRun0_A.sl.HS0_28 13 := fun _ _ _ _ _ _ _ _ _ _ _ _ _ _ _ _ _ _ _ _ => rfl
theorem scoreStep15 : ScoreStep (F := F) kernelRun0_A.sl.HS0_28 kernelRun0_A.sl.HS0_30 14 := fun _ _ _ _ _ _ _ _ _ _ _ _ _ _ _ _ _ _ _ _ => rfl
theorem scoreStep16 : ScoreStep (F := F) kernelRun0_A.sl.HS0_30 kernelRun0_A.sl.HS0_32 15 := fun _ _ _ _ _ _ _ _ _ _ _ _ _ _ _ _ _ _ _ _ => rfl
theorem scoreStep17 : ScoreStep (F := F) kernelRun0_A.sl.HS0_32 kernelRun0_A.sl.HS0_34 16 := fun _ _ _ _ _ _ _ _ _ _ _ _ _ _ _ _ _ _ _ _ => rfl

end Cert.KernelIdeal.Fox

end
-- ==== Proof.FoxScoresC.lean ====
/- The score pieces of the units 18 to 24: each list the run finds is the one before it with one unit more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem scoreStep18 : ScoreStep (F := F) kernelRun0_A.sl.HS0_34 kernelRun0_A.sl.HS0_36 17 := fun _ _ _ _ _ _ _ _ _ _ _ _ _ _ _ _ _ _ _ _ => rfl
theorem scoreStep19 : ScoreStep (F := F) kernelRun0_A.sl.HS0_36 kernelRun0_A.sl.HS0_38 18 := fun _ _ _ _ _ _ _ _ _ _ _ _ _ _ _ _ _ _ _ _ => rfl
theorem scoreStep20 : ScoreStep (F := F) kernelRun0_A.sl.HS0_38 kernelRun0_A.sl.HS0_40 19 := fun _ _ _ _ _ _ _ _ _ _ _ _ _ _ _ _ _ _ _ _ => rfl
theorem scoreStep21 : ScoreStep (F := F) kernelRun0_A.sl.HS0_40 kernelRun0_A.sl.HS0_42 20 := fun _ _ _ _ _ _ _ _ _ _ _ _ _ _ _ _ _ _ _ _ => rfl
theorem scoreStep22 : ScoreStep (F := F) kernelRun0_A.sl.HS0_42 kernelRun0_A.sl.HS0_44 21 := fun _ _ _ _ _ _ _ _ _ _ _ _ _ _ _ _ _ _ _ _ => rfl
theorem scoreStep23 : ScoreStep (F := F) kernelRun0_A.sl.HS0_44 kernelRun0_A.sl.HS0_46 22 := fun _ _ _ _ _ _ _ _ _ _ _ _ _ _ _ _ _ _ _ _ => rfl
theorem scoreStep24 : ScoreStep (F := F) kernelRun0_A.sl.HS0_46 kernelRun0_A.sl.HS0_48 23 := fun _ _ _ _ _ _ _ _ _ _ _ _ _ _ _ _ _ _ _ _ => rfl

end Cert.KernelIdeal.Fox

end
-- ==== Proof.FoxScoresD.lean ====
/- The score pieces of the units 25 to 32: each list the run finds is the one before it with one unit more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem scoreStep25 : ScoreStep (F := F) kernelRun0_A.sl.HS0_48 kernelRun0_A.sl.HS0_50 24 := fun _ _ _ _ _ _ _ _ _ _ _ _ _ _ _ _ _ _ _ _ => rfl
theorem scoreStep26 : ScoreStep (F := F) kernelRun0_A.sl.HS0_50 kernelRun0_A.sl.HS0_52 25 := fun _ _ _ _ _ _ _ _ _ _ _ _ _ _ _ _ _ _ _ _ => rfl
theorem scoreStep27 : ScoreStep (F := F) kernelRun0_A.sl.HS0_52 kernelRun0_A.sl.HS0_54 26 := fun _ _ _ _ _ _ _ _ _ _ _ _ _ _ _ _ _ _ _ _ => rfl
theorem scoreStep28 : ScoreStep (F := F) kernelRun0_A.sl.HS0_54 kernelRun0_A.sl.HS0_56 27 := fun _ _ _ _ _ _ _ _ _ _ _ _ _ _ _ _ _ _ _ _ => rfl
theorem scoreStep29 : ScoreStep (F := F) kernelRun0_A.sl.HS0_56 kernelRun0_A.sl.HS0_57 28 := fun _ _ _ _ _ _ _ _ _ _ _ _ _ _ _ _ _ _ _ _ => rfl
theorem scoreStep30 : ScoreStep (F := F) kernelRun0_A.sl.HS0_57 kernelRun0_A.sl.HS0_58 29 := fun _ _ _ _ _ _ _ _ _ _ _ _ _ _ _ _ _ _ _ _ => rfl
theorem scoreStep31 : ScoreStep (F := F) kernelRun0_A.sl.HS0_58 kernelRun0_A.sl.HS0_59 30 := fun _ _ _ _ _ _ _ _ _ _ _ _ _ _ _ _ _ _ _ _ => rfl
theorem scoreStep32 : ScoreStep (F := F) kernelRun0_A.sl.HS0_59 kernelRun0_A.sl.HS0_60 31 := fun _ _ _ _ _ _ _ _ _ _ _ _ _ _ _ _ _ _ _ _ => rfl

end Cert.KernelIdeal.Fox

end
-- ==== Proof.FoxScores.lean ====
/- The lists of score pieces the run of the attention body finds are the recursion of `scores`, unit by unit. -/
module

public import proofs.«01_k».proof.Proof.FoxScoresA
public import proofs.«01_k».proof.Proof.FoxScoresB
public import proofs.«01_k».proof.Proof.FoxScoresC
public import proofs.«01_k».proof.Proof.FoxScoresD

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem scores2 : IsScores (F := F) kernelRun0_A.sl.HS0_4 2 := fun _ _ _ _ _ _ _ _ _ _ _ _ _ _ _ _ _ _ _ _ => rfl
theorem scores3 : IsScores (F := F) kernelRun0_A.sl.HS0_6 3 := scores2.step scoreStep3
theorem scores4 : IsScores (F := F) kernelRun0_A.sl.HS0_8 4 := scores3.step scoreStep4
theorem scores5 : IsScores (F := F) kernelRun0_A.sl.HS0_10 5 := scores4.step scoreStep5
theorem scores6 : IsScores (F := F) kernelRun0_A.sl.HS0_12 6 := scores5.step scoreStep6
theorem scores7 : IsScores (F := F) kernelRun0_A.sl.HS0_14 7 := scores6.step scoreStep7
theorem scores8 : IsScores (F := F) kernelRun0_A.sl.HS0_16 8 := scores7.step scoreStep8
theorem scores9 : IsScores (F := F) kernelRun0_A.sl.HS0_18 9 := scores8.step scoreStep9
theorem scores10 : IsScores (F := F) kernelRun0_A.sl.HS0_20 10 := scores9.step scoreStep10
theorem scores11 : IsScores (F := F) kernelRun0_A.sl.HS0_22 11 := scores10.step scoreStep11
theorem scores12 : IsScores (F := F) kernelRun0_A.sl.HS0_24 12 := scores11.step scoreStep12
theorem scores13 : IsScores (F := F) kernelRun0_A.sl.HS0_26 13 := scores12.step scoreStep13
theorem scores14 : IsScores (F := F) kernelRun0_A.sl.HS0_28 14 := scores13.step scoreStep14
theorem scores15 : IsScores (F := F) kernelRun0_A.sl.HS0_30 15 := scores14.step scoreStep15
theorem scores16 : IsScores (F := F) kernelRun0_A.sl.HS0_32 16 := scores15.step scoreStep16
theorem scores17 : IsScores (F := F) kernelRun0_A.sl.HS0_34 17 := scores16.step scoreStep17
theorem scores18 : IsScores (F := F) kernelRun0_A.sl.HS0_36 18 := scores17.step scoreStep18
theorem scores19 : IsScores (F := F) kernelRun0_A.sl.HS0_38 19 := scores18.step scoreStep19
theorem scores20 : IsScores (F := F) kernelRun0_A.sl.HS0_40 20 := scores19.step scoreStep20
theorem scores21 : IsScores (F := F) kernelRun0_A.sl.HS0_42 21 := scores20.step scoreStep21
theorem scores22 : IsScores (F := F) kernelRun0_A.sl.HS0_44 22 := scores21.step scoreStep22
theorem scores23 : IsScores (F := F) kernelRun0_A.sl.HS0_46 23 := scores22.step scoreStep23
theorem scores24 : IsScores (F := F) kernelRun0_A.sl.HS0_48 24 := scores23.step scoreStep24
theorem scores25 : IsScores (F := F) kernelRun0_A.sl.HS0_50 25 := scores24.step scoreStep25
theorem scores26 : IsScores (F := F) kernelRun0_A.sl.HS0_52 26 := scores25.step scoreStep26
theorem scores27 : IsScores (F := F) kernelRun0_A.sl.HS0_54 27 := scores26.step scoreStep27
theorem scores28 : IsScores (F := F) kernelRun0_A.sl.HS0_56 28 := scores27.step scoreStep28
theorem scores29 : IsScores (F := F) kernelRun0_A.sl.HS0_57 29 := scores28.step scoreStep29
theorem scores30 : IsScores (F := F) kernelRun0_A.sl.HS0_58 30 := scores29.step scoreStep30
theorem scores31 : IsScores (F := F) kernelRun0_A.sl.HS0_59 31 := scores30.step scoreStep31
theorem scores32 : IsScores (F := F) kernelRun0_A.sl.HS0_60 32 := scores31.step scoreStep32

end Cert.KernelIdeal.Fox

end
-- ==== Proof.FoxOutputsA.lean ====
/- The output pieces up to the units 5 to 9: each list the run finds is the one before it with two units more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem outputStep5 : OutputStep (F := F) kernelRun0_A.sl.HS0_10 kernelRun0_A.sl.HS0_12 kernelRun0_A.sl.H6_3 kernelRun0_A.sl.H6_5 3 := fun _ _ _ _ _ _ _ _ _ _ _ _ _ _ _ _ _ _ _ _ => rfl
theorem outputStep7 : OutputStep (F := F) kernelRun0_A.sl.HS0_14 kernelRun0_A.sl.HS0_16 kernelRun0_A.sl.H6_5 kernelRun0_A.sl.H6_7 5 := fun _ _ _ _ _ _ _ _ _ _ _ _ _ _ _ _ _ _ _ _ => rfl
theorem outputStep9 : OutputStep (F := F) kernelRun0_A.sl.HS0_18 kernelRun0_A.sl.HS0_20 kernelRun0_A.sl.H6_7 kernelRun0_A.sl.H6_9 7 := fun _ _ _ _ _ _ _ _ _ _ _ _ _ _ _ _ _ _ _ _ => rfl

end Cert.KernelIdeal.Fox

end
-- ==== Proof.FoxOutputsB.lean ====
/- The output pieces up to the units 11 to 15: each list the run finds is the one before it with two units more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem outputStep11 : OutputStep (F := F) kernelRun0_A.sl.HS0_22 kernelRun0_A.sl.HS0_24 kernelRun0_A.sl.H6_9 kernelRun0_A.sl.H6_11 9 := fun _ _ _ _ _ _ _ _ _ _ _ _ _ _ _ _ _ _ _ _ => rfl
theorem outputStep13 : OutputStep (F := F) kernelRun0_A.sl.HS0_26 kernelRun0_A.sl.HS0_28 kernelRun0_A.sl.H6_11 kernelRun0_A.sl.H6_13 11 := fun _ _ _ _ _ _ _ _ _ _ _ _ _ _ _ _ _ _ _ _ => rfl
theorem outputStep15 : OutputStep (F := F) kernelRun0_A.sl.HS0_30 kernelRun0_A.sl.HS0_32 kernelRun0_A.sl.H6_13 kernelRun0_A.sl.H6_15 13 := fun _ _ _ _ _ _ _ _ _ _ _ _ _ _ _ _ _ _ _ _ => rfl

end Cert.KernelIdeal.Fox

end
-- ==== Proof.FoxOutputsC.lean ====
/- The output pieces up to the units 17 to 21: each list the run finds is the one before it with two units more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem outputStep17 : OutputStep (F := F) kernelRun0_A.sl.HS0_34 kernelRun0_A.sl.HS0_36 kernelRun0_A.sl.H6_15 kernelRun0_A.sl.H6_17 15 := fun _ _ _ _ _ _ _ _ _ _ _ _ _ _ _ _ _ _ _ _ => rfl
theorem outputStep19 : OutputStep (F := F) kernelRun0_A.sl.HS0_38 kernelRun0_A.sl.HS0_40 kernelRun0_A.sl.H6_17 kernelRun0_A.sl.H6_19 17 := fun _ _ _ _ _ _ _ _ _ _ _ _ _ _ _ _ _ _ _ _ => rfl
theorem outputStep21 : OutputStep (F := F) kernelRun0_A.sl.HS0_42 kernelRun0_A.sl.HS0_44 kernelRun0_A.sl.H6_19 kernelRun0_A.sl.H6_21 19 := fun _ _ _ _ _ _ _ _ _ _ _ _ _ _ _ _ _ _ _ _ => rfl

end Cert.KernelIdeal.Fox

end
-- ==== Proof.FoxOutputsD.lean ====
/- The output pieces up to the units 23 to 27: each list the run finds is the one before it with two units more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem outputStep23 : OutputStep (F := F) kernelRun0_A.sl.HS0_46 kernelRun0_A.sl.HS0_48 kernelRun0_A.sl.H6_21 kernelRun0_A.sl.H6_23 21 := fun _ _ _ _ _ _ _ _ _ _ _ _ _ _ _ _ _ _ _ _ => rfl
theorem outputStep25 : OutputStep (F := F) kernelRun0_A.sl.HS0_50 kernelRun0_A.sl.HS0_52 kernelRun0_A.sl.H6_23 kernelRun0_A.sl.H6_25 23 := fun _ _ _ _ _ _ _ _ _ _ _ _ _ _ _ _ _ _ _ _ => rfl
theorem outputStep27 : OutputStep (F := F) kernelRun0_A.sl.HS0_54 kernelRun0_A.sl.HS0_56 kernelRun0_A.sl.H6_25 kernelRun0_A.sl.H6_27 25 := fun _ _ _ _ _ _ _ _ _ _ _ _ _ _ _ _ _ _ _ _ => rfl

end Cert.KernelIdeal.Fox

end
-- ==== Proof.FoxOutputsE.lean ====
/- The output pieces up to the units 29 to 31: each list the run finds is the one before it with two units more. -/
module

public import proofs.«01_k».proof.Proof.FoxPieces

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem outputStep29 : OutputStep (F := F) kernelRun0_A.sl.HS0_57 kernelRun0_A.sl.HS0_58 kernelRun0_A.sl.H6_27 kernelRun0_A.sl.H6_29 27 := fun _ _ _ _ _ _ _ _ _ _ _ _ _ _ _ _ _ _ _ _ => rfl
theorem outputStep31 : OutputStep (F := F) kernelRun0_A.sl.HS0_59 kernelRun0_A.sl.HS0_60 kernelRun0_A.sl.H6_29 kernelRun0_A.sl.H6_31 29 := fun _ _ _ _ _ _ _ _ _ _ _ _ _ _ _ _ _ _ _ _ => rfl

end Cert.KernelIdeal.Fox

end
-- ==== Proof.FoxOutputs.lean ====
/- The lists of output pieces the run of the attention body finds are the recursion of `outputs`, two units at a time. -/
module

public import proofs.«01_k».proof.Proof.FoxScores
public import proofs.«01_k».proof.Proof.FoxOutputsA
public import proofs.«01_k».proof.Proof.FoxOutputsB
public import proofs.«01_k».proof.Proof.FoxOutputsC
public import proofs.«01_k».proof.Proof.FoxOutputsD
public import proofs.«01_k».proof.Proof.FoxOutputsE

@[expose] public section

set_option maxRecDepth 16384
set_option maxHeartbeats 2000000

noncomputable section

namespace Cert.KernelIdeal.Fox

open Idealize.ShloMosaic Idealize.ShloMosaic.TcCoe Cert.KernelIdeal.Gen

variable {F : FTy → Type} [FloatOps F] [Named F] [Facts]

theorem outputs3 : IsOutputs (F := F) kernelRun0_A.sl.H6_3 3 := by
  intro c i arg2 harg2 arg3 harg3 arg4 harg4 arg5 harg5 arg6 harg6 arg8 arg10 arg11 x0 x1 x2 x3 x4
  show _ = outputPieces _ _ 2 (scores _ _ 4) (outputPieces _ _ 1 (scores _ _ 3) (outputPieces _ _ 0 (scores _ _ 2) []))
  rw [← scores2 c i arg2 harg2 arg3 harg3 arg4 harg4 arg5 harg5 arg6 harg6 arg8 arg10 arg11, ← scores3 c i arg2 harg2 arg3 harg3 arg4 harg4 arg5 harg5 arg6 harg6 arg8 arg10 arg11,
    ← scores4 c i arg2 harg2 arg3 harg3 arg4 harg4 arg5 harg5 arg6 harg6 arg8 arg10 arg11]
  rfl
theorem outputs5 : IsOutputs (F := F) kernelRun0_A.sl.H6_5 5 := outputs3.step scores5 scores6 outputStep5 rfl rfl
theorem outputs7 : IsOutputs (F := F) kernelRun0_A.sl.H6_7 7 := outputs5.step scores7 scores8 outputStep7 rfl rfl
theorem outputs9 : IsOutputs (F := F) kernelRun0_A.sl.H6_9 9 := outputs7.step scores9 scores10 outputStep9 rfl rfl
theorem outputs11 : IsOutputs (F := F) kernelRun0_A.sl.H6_11 11 := outputs9.step scores11 scores12 outputStep11 rfl rfl
theorem outputs13 : IsOutputs (F := F) kernelRun0_A.sl.H6_13 13 := outputs11.step scores13 scores14 outputStep13 rfl rfl
theorem outputs15 : IsOutputs (F := F) kernelRun0_A.sl.H6_15 15 := outputs13.step scores15 scores16 outputStep15 rfl rfl
theorem outputs17 : IsOutputs (F := F) kernelRun0_A.sl.H6_17 17 := outputs15.step scores17 scores18 outputStep17 rfl rfl
theorem outputs19 : IsOutputs (F := F) kernelRun0_A.sl.H6_19 19 := outputs17.step scores19 scores20 outputStep19 rfl rfl
theorem outputs21 : IsOutputs (F := F) kernelRun0_A.sl.H6_21 21 := outputs19.step scores21 scores22 outputStep21 rfl rfl
theorem outputs23 : IsOutputs (F := F) kernelRun0_A.sl.H6_23 23 := outputs21.step scores23 scores24 outputStep23 rfl rfl
theorem outputs25 : IsOutputs (F := F) kernelRun0_A.sl.H6_25 25 := outputs23.step scores25 scores26 outputStep25 rfl rfl
theorem outputs27 : IsOutputs (F := F) kernelRun0_A.sl.H6_27 27 := outputs25.step scores27 scores28 outputStep27 rfl rfl
theorem outputs29 : IsOutputs (F := F) kernelRun0_A.sl.H6_29 29 := outputs27.step scores29 scores30 outputStep29 rfl rfl
theorem outputs31 : IsOutputs (F := F) kernelRun0_A.sl.H6_31 31 := outputs29.step scores31 scores32 outputStep31 rfl rfl

end Cert.KernelIdeal.Fox

end
-- ==== Proof.FoxValue.lean ====
/- What the units of the attention body compute, read at an index over the extended reals: the scores of a row, the
   weights, and the weighted average of the values, each over all 2048 keys with the later ones masked. -/
module

public import proofs.«01_k».proof.Proof.FoxPieces
public import Idealize.ShloMosaic.Lib.MatmulPlain
public import Idealize.ShloMosaic.Lib.ValueLayout
public import Idealize.ShloMosaic.Lib.ValueLayoutCasts
public import Idealize.ShloMosaic.Lib.WordCmp
public import Idealize.ShloMosaic.Lib.Pointwise
public import Idealize.ShloMosaic.Lib.IdealHost

@[expose] public section

set_option maxRecDepth 16384

noncomputable section

namespace Cert.KernelIdeal.Fox

open Idealize.ShloMosaic hiding ix1 ix2 ix3 ix4 eq_ix1 eq_ix2 eq_ix3
open Idealize.ShloMosaic.TcCoe Cert.KernelIdeal.Gen
open Idealize.ShloMosaic.ValueIdx (ix1 ix2 ix3 ix4 eq_ix1 eq_ix2 eq_ix3)

variable [Facts]

/-! ## The vectors at an index -/

theorem between_apply (lo hi : Nat) (hlo : lo < 2 ^ 31) (hhi : hi < 2 ^ 31) (u : Fin 1) (c : Fin 128) :
    between (BitVec.ofNat 32 lo) (BitVec.ofNat 32 hi) (ix2 u c) = BitVec.ofBool (decide (lo ≤ c.val ∧ c.val < hi)) := by
  have hc := c.isLt
  show IntOp.andi (IntOp.cmpi .sge (BitVec.ofNat 32 (0 * 128 + c.val)) (BitVec.ofNat 32 lo))
    (IntOp.cmpi .slt (BitVec.ofNat 32 (0 * 128 + c.val)) (BitVec.ofNat 32 hi)) = _
  rw [Nat.zero_mul, Nat.zero_add, WordCmp.cmpi_sge_ofNat (by omega) (by omega), WordCmp.cmpi_slt_ofNat (by omega) (by omega)]
  by_cases h1 : lo ≤ c.val <;> by_cases h2 : c.val < hi <;> simp [h1, h2] <;> rfl

theorem onLanes_apply (lo hi : Nat) (hlo : lo < 2 ^ 31) (hhi : hi < 2 ^ 31) (x : Vec Ideal S1x256x128 .bf16) (t : Fin 256) (c : Fin 128) :
    onLanes (between (BitVec.ofNat 32 lo) (BitVec.ofNat 32 hi)) x (ix2 t c) = if lo ≤ c.val ∧ c.val < hi then x (ix3 0 t c) else (0 : EReal) := by
  show Scalar.select (broadcastTo S256x128 (shapeCast S1x128 _ shapeCasts_S1x128_S1x128) broadcasts_S1x128_S256x128 (ix2 t c))
    (shapeCast S256x128 x shapeCasts_S1x256x128_S256x128 (ix2 t c)) (Ideal.ofBits .bf16 0x0000#16) = _
  rw [ValueIdx.broadcastTo_1b_ab_apply, ValueIdx.shapeCast_1ab_ab_apply, Ideal.ofBits_zero_bf16, shapeCast_self, between_apply lo hi hlo hhi, Scalar.select_decide]

/-- The queries of a head joined with its gate lanes, at an index. -/
theorem joined_apply (a hd lo hi : Nat) (ha : a < 2 ^ 16) (hhd : hd < 4) (hlo : lo < 2 ^ 31) (hhi : hi < 2 ^ 31) (q g : Vec Ideal S1x256x128 .bf16) (t : Fin 256) (c : Fin 256) :
    joined (BitVec.ofNat 32 a) (BitVec.ofNat 32 hd) (BitVec.ofNat 32 lo) (BitVec.ofNat 32 hi) q g (ix2 t c)
      = if h : c.val < 128 then (if lo ≤ c.val ∧ c.val < hi then q (ix3 0 t ⟨c.val, h⟩) else (0 : EReal))
        else (if 16 * (4 * a + hd) ≤ c.val - 128 ∧ c.val - 128 < 16 * (4 * a + hd) + 16 then g (ix3 0 t ⟨c.val - 128, by have := c.isLt; omega⟩) else (0 : EReal)) := by
  have e1 : gateLo (BitVec.ofNat 32 a) (BitVec.ofNat 32 hd) = BitVec.ofNat 32 (16 * (4 * a + hd)) := by
    apply BitVec.eq_of_toNat_eq
    simp [gateLo, Scalar.muli, Scalar.addi, IntOp.muli, IntOp.addi, BitVec.toNat_mul, BitVec.toNat_add, BitVec.toNat_ofNat]
    congr 1; ring
  have e2 : Scalar.addi (gateLo (BitVec.ofNat 32 a) (BitVec.ofNat 32 hd)) 16#32 = BitVec.ofNat 32 (16 * (4 * a + hd) + 16) := by
    rw [e1]
    apply BitVec.eq_of_toNat_eq
    simp [Scalar.addi, IntOp.addi, BitVec.toNat_add, BitVec.toNat_ofNat]
  unfold joined
  rw [e2, e1, concatenate_pair_apply]
  by_cases h : c.val < 128
  · have h' : ((ix2 t c : S256x256.Idx) 1).val < 128 := h
    refine (dif_pos h').trans ?_
    rw [dif_pos h]
    refine Eq.trans (congrArg _ ?_) (onLanes_apply lo hi hlo hhi q t ⟨c.val, h⟩)
    funext b; apply Fin.ext; fin_cases b <;> rfl
  · have h' : ¬ ((ix2 t c : S256x256.Idx) 1).val < 128 := h
    refine (dif_neg h').trans ?_
    rw [dif_neg h]
    have hc := c.isLt
    refine Eq.trans (congrArg _ ?_) (onLanes_apply _ _ (by omega) (by omega) g t ⟨c.val - 128, by omega⟩)
    funext b; apply Fin.ext; fin_cases b <;> rfl

theorem products_apply (K : Nat) (q : FVec Ideal S256x256 .bf16) (k : Vec Ideal ⟨3, ![1, K, 256]⟩ .bf16) (t : Fin 256) (s : Fin K) :
    products K q k (ix2 t s) = ∑ c : Fin 256, (q (ix2 t c) * k (ix3 0 s c) : EReal) := by
  unfold products
  refine (Ideal.matmul_transposedRhs_apply none q _ _ t s).trans ?_
  have : (constant (⟨2, ![256, K]⟩ : Shape) .f32 0x00000000#32 : FVec Ideal _ .f32) (ix2 t s) = (0 : EReal) := Ideal.ofBits_zero_f32
  rw [this, zero_add]
  refine Finset.sum_congr rfl fun c _ => ?_
  rw [ValueIdx.shapeCast_1ab_ab_apply]

theorem causal_apply (s : FVec Ideal S256x256 .f32) (t k : Fin 256) :
    causal s (ix2 t k) = if k.val ≤ t.val then s (ix2 t k) else (⊥ : EReal) := by
  show Scalar.select (IntOp.cmpi .sle (BitVec.ofNat 32 (0 * 256 + k.val)) (BitVec.ofNat 32 (0 * 256 + t.val))) (s (ix2 t k))
    (Named.named (F := Ideal) κ "mask" (φ := .f32) 0xF149F2CA#32) = _
  have hm : Named.named (F := Ideal) κ "mask" (φ := .f32) 0xF149F2CA#32 = (⊥ : EReal) := IdealRules.named_const.ideal_named_scalar _ _ _ _ rfl
  have ht := t.isLt; have hk := k.isLt
  rw [hm, Nat.zero_mul, Nat.zero_add, Nat.zero_add, WordCmp.cmpi_sle_ofNat (by omega) (by omega), Scalar.select_decide]

theorem lift_row (K : Nat) (t : Fin 256) (k : Fin K) : (red_s K).lift (ix1 t) k = ix2 t k := by
  funext c; apply Fin.ext; fin_cases c <;> rfl

theorem rowMax_apply (K : Nat) (s : FVec Ideal ⟨2, ![256, K]⟩ .f32) (t : Fin 256) (u : Fin 1) :
    rowMax K s (ix2 t u) = (Finset.univ : Finset (Fin K)).sup fun k => (s (ix2 t k) : EReal) := by
  unfold rowMax
  refine (ValueIdx.shapeCast_a_a1_apply _ _ t u).trans ?_
  refine (Ideal.multiReduction_maximumf_single _ _ _ _ _ _).trans ?_
  have h0 : (FloatOps.ofBits (F := Ideal) .f32 0xFF800000#32) = (⊥ : EReal) := by
    show Ideal.ofBits .f32 0xFF800000#32 = ⊥
    simp [Ideal.ofBits, Ideal.ieee]
  rw [h0]
  show Finset.fold max (⊥ : EReal) _ _ = Finset.fold max ⊥ _ _
  refine Finset.fold_congr fun k _ => ?_
  exact congrArg s (lift_row K t k)

theorem weights_apply (K : Nat) (m : FVec Ideal S256x1 .f32) (s : Vec Ideal ⟨3, ![1, 256, K]⟩ .f32) (t : Fin 256) (k : Fin K) :
    weights K m s (ix2 t k) = Ideal.exp2 (s (ix3 0 t k) - m (ix2 t 0) : EReal) := by
  unfold weights
  show Ideal.exp2 ((shapeCast ⟨2, ![256, K]⟩ s (cast_s' K) (ix2 t k) - broadcastTo ⟨2, ![256, K]⟩ m (bc_s K) (ix2 t k) : EReal)) = _
  rw [ValueIdx.shapeCast_1ab_ab_apply, broadcastTo_apply m (bc_s K) (ix2 t k) (ix2 t 0)]
  intro b; fin_cases b <;> rfl

theorem average_apply (K : Nat) (w : FVec Ideal ⟨2, ![256, K]⟩ .f32) (v : Vec Ideal ⟨3, ![1, K, 128]⟩ .bf16) (t : Fin 256) (l : Fin 128) :
    average K w v (ix2 t l) = Ideal.div (∑ k : Fin K, (w (ix2 t k) * v (ix3 0 k l) : EReal)) (∑ k : Fin K, (w (ix2 t k) : EReal)) := by
  unfold average
  show Ideal.div (FloatOps.matmul (F := Ideal) (DotDims.plain 256 K 128) none _ _ _ (ix2 t l)) (broadcastTo S256x128 _ broadcasts_S256x1_S256x128 (ix2 t l)) = _
  have hb := broadcastTo_apply (shapeCast S256x1 (multiReduction .add [1] S256 w 0x00000000#32 (red_s K) (.inl rfl) rfl) shapeCasts_S256_S256x1)
    broadcasts_S256x1_S256x128 (ix2 t l) (ix2 t 0) (by intro b; fin_cases b <;> rfl)
  rw [hb, ValueIdx.shapeCast_a_a1_apply, Ideal.matmul_plain_apply]
  have h0 : (constant S256x128 .f32 0x00000000#32 : FVec Ideal _ .f32) (ix2 t l) = (0 : EReal) := Ideal.ofBits_zero_f32
  rw [h0, zero_add]
  refine congrArg₂ Ideal.div ?_ ((Ideal.multiReduction_add_single _ _ _ _ _ _).trans ?_)
  · refine Finset.sum_congr rfl fun k _ => ?_
    rw [ValueIdx.shapeCast_1ab_ab_apply]; rfl
  · refine Finset.sum_congr rfl fun k _ => ?_
    exact congrArg w (lift_row K t k)

theorem upper_apply (old : Vec Ideal S1x256x128 .bf16) (new : FVec Ideal S256x128 .bf16) (t : Fin 256) (l : Fin 128) :
    upper old new (ix2 t l) = if l.val < 64 then old (ix3 0 t l) else new (ix2 t l) := by
  unfold upper
  show Scalar.select (broadcastTo S256x128 (shapeCast S1x128 _ shapeCasts_S1x128_S1x128) broadcasts_S1x128_S256x128 (ix2 t l))
    (shapeCast S256x128 old shapeCasts_S1x256x128_S256x128 (ix2 t l)) (new (ix2 t l)) = _
  rw [ValueIdx.broadcastTo_1b_ab_apply, ValueIdx.shapeCast_1ab_ab_apply, shapeCast_self]
  show Scalar.select (IntOp.cmpi .slt (BitVec.ofNat 32 (0 * 128 + l.val)) (BitVec.ofNat 32 64)) _ _ = _
  have hl := l.isLt
  rw [Nat.zero_mul, Nat.zero_add, WordCmp.cmpi_slt_ofNat (by omega) (by omega), Scalar.select_decide]

end Cert.KernelIdeal.Fox

end
-- ==== Proof.FoxKeys.lean ====
/- The output block of the attention body: every unit's scores as they are read back from the scratch, the greatest of
   a row, its weights and its average, and the block the thirty-two units leave. -/
module

public import proofs.«01_k».proof.Proof.FoxValue

@[expose] public section

set_option maxRecDepth 16384

noncomputable section

namespace Cert.KernelIdeal.Fox

open Idealize.ShloMosaic hiding ix1 ix2 ix3 ix4 eq_ix1 eq_ix2 eq_ix3
open Idealize.ShloMosaic.TcCoe Cert.KernelIdeal.Gen
open Idealize.ShloMosaic.ValueIdx (ix1 ix2 ix3 ix4 eq_ix1 eq_ix2 eq_ix3)

variable [Facts]

/-! ## Blocks of a three-axis array -/

theorem unit_idx {A B C o0 o1 o2 s0 s1 s2 : Nat}
    (inb : ∀ a, (![o0, o1, o2] : Fin 3 → Nat) a + (![s0, s1, s2] : Fin 3 → Nat) a ≤ (⟨3, ![A, B, C]⟩ : Shape).size a)
    (i : Fin s0) (j : Fin s1) (k : Fin s2) :
    (Rect.unit (s := ⟨3, ![A, B, C]⟩) ![o0, o1, o2] ![s0, s1, s2] inb).toLoadRect.idx (ix3 i j k)
      = ix3 (⟨o0 + i.val, by have := inb 0; have := i.isLt; simp at *; omega⟩ : Fin A) (⟨o1 + j.val, by have := inb 1; have := j.isLt; simp at *; omega⟩ : Fin B)
          (⟨o2 + k.val, by have := inb 2; have := k.isLt; simp at *; omega⟩ : Fin C) := by
  funext a; apply Fin.ext
  fin_cases a
  · show o0 + 1 * i.val = o0 + i.val; omega
  · show o1 + 1 * j.val = o1 + j.val; omega
  · show o2 + 1 * k.val = o2 + k.val; omega

/-- A piece over others, read at an index: the piece where it covers it, the others elsewhere. -/
theorem canon_cons_unit {A B C o0 o1 o2 s0 s1 s2 : Nat} {e : EltTy}
    (inb : ∀ a, (![o0, o1, o2] : Fin 3 → Nat) a + (![s0, s1, s2] : Fin 3 → Nat) a ≤ (⟨3, ![A, B, C]⟩ : Shape).size a)
    (w : (Rect.unit (s := ⟨3, ![A, B, C]⟩) ![o0, o1, o2] ![s0, s1, s2] inb).shape.Idx → Elt Ideal e)
    (L : List (View.Piece (Elt Ideal) ⟨3, ![A, B, C]⟩ e)) (i : Fin A) (j : Fin B) (k : Fin C) :
    View.canon (⟨Rect.unit (s := ⟨3, ![A, B, C]⟩) ![o0, o1, o2] ![s0, s1, s2] inb, w⟩ :: L) (ix3 i j k)
      = if h : (o0 ≤ i.val ∧ i.val < o0 + s0) ∧ (o1 ≤ j.val ∧ j.val < o1 + s1) ∧ (o2 ≤ k.val ∧ k.val < o2 + s2) then
          w (ix3 (⟨i.val - o0, by omega⟩ : Fin s0) (⟨j.val - o1, by omega⟩ : Fin s1) (⟨k.val - o2, by omega⟩ : Fin s2))
        else View.canon L (ix3 i j k) := by
  split
  · rename_i h
    have e : (ix3 i j k : (⟨3, ![A, B, C]⟩ : Shape).Idx)
        = (Rect.unit (s := ⟨3, ![A, B, C]⟩) ![o0, o1, o2] ![s0, s1, s2] inb).emb
            (ix3 (⟨i.val - o0, by omega⟩ : Fin s0) (⟨j.val - o1, by omega⟩ : Fin s1) (⟨k.val - o2, by omega⟩ : Fin s2)) := by
      refine Eq.trans ?_ (unit_idx inb _ _ _).symm
      funext a; apply Fin.ext
      fin_cases a
      · show i.val = o0 + (i.val - o0); omega
      · show j.val = o1 + (j.val - o1); omega
      · show k.val = o2 + (k.val - o2); omega
    rw [e, View.canon_cons_emb]
  · rename_i h
    refine View.canon_cons_of_not_mem _ _ fun hm => h ?_
    have hm' := (Rect.mem_set_unit (s := ⟨3, ![A, B, C]⟩) (inb := inb)).mp hm
    exact ⟨hm' 0, hm' 1, hm' 2⟩

/-! ## What the units compute -/

/-- The buffers of the body read as arrays. -/
abbrev pureReads (x0 x1 x2 : Vec Ideal S1x2048x256 .bf16) (x3 x4 : Vec Ideal S1x2048x128 .bf16) : Reads Ideal where
  q r j := x0 (r.idx j)
  k r j := x1 (r.idx j)
  v r j := x2 (r.idx j)
  aq r j := x3 (r.idx j)
  ak r j := x4 (r.idx j)
  kx L r j := View.canon L (r.idx j)
  s L r j := View.canon L (r.idx j)
  o L r j := View.canon L (r.idx j)

theorem readsOf_eq (arg2 : Memref sig .tc .vmem S1x2048x256 .bf16) (harg2 : arg2.IsWhole) (arg3 : Memref sig .tc .vmem S1x2048x256 .bf16) (harg3 : arg3.IsWhole)
    (arg4 : Memref sig .tc .vmem S1x2048x256 .bf16) (harg4 : arg4.IsWhole) (arg5 : Memref sig .tc .vmem S1x2048x128 .bf16) (harg5 : arg5.IsWhole)
    (arg6 : Memref sig .tc .vmem S1x2048x128 .bf16) (harg6 : arg6.IsWhole) (arg8 : Memref sig .tc .vmem S1x2048x256 .bf16)
    (arg10 : Memref sig .tc .vmem S2x256x2048 .f32) (arg11 : Memref sig .tc .vmem S2x2048x256 .bf16)
    (x0 x1 x2 : Vec Ideal S1x2048x256 .bf16) (x3 x4 : Vec Ideal S1x2048x128 .bf16) :
    readsOf arg2 harg2 arg3 harg3 arg4 harg4 arg5 harg5 arg6 harg6 arg8 arg10 arg11 x0 x1 x2 x3 x4 = pureReads x0 x1 x2 x3 x4 := by
  have h0 : ∀ (r : LoadRect S1x2048x256), View.readAt (Elt Ideal) arg2.view r (harg2.unread x0) = fun j => x0 (r.idx j) :=
    fun r => funext fun j => congrFun (harg2.read_unread x0) (r.idx j)
  have h1 : ∀ (r : LoadRect S1x2048x256), View.readAt (Elt Ideal) arg3.view r (harg3.unread x1) = fun j => x1 (r.idx j) :=
    fun r => funext fun j => congrFun (harg3.read_unread x1) (r.idx j)
  have h2 : ∀ (r : LoadRect S1x2048x256), View.readAt (Elt Ideal) arg4.view r (harg4.unread x2) = fun j => x2 (r.idx j) :=
    fun r => funext fun j => congrFun (harg4.read_unread x2) (r.idx j)
  have h3 : ∀ (r : LoadRect S1x2048x128), View.readAt (Elt Ideal) arg5.view r (harg5.unread x3) = fun j => x3 (r.idx j) :=
    fun r => funext fun j => congrFun (harg5.read_unread x3) (r.idx j)
  have h4 : ∀ (r : LoadRect S1x2048x128), View.readAt (Elt Ideal) arg6.view r (harg6.unread x4) = fun j => x4 (r.idx j) :=
    fun r => funext fun j => congrFun (harg6.read_unread x4) (r.idx j)
  unfold readsOf pureReads
  simp only [h0, h1, h2, h3, h4, View.readCov_eq_canon']

section spec
variable (x0 x1 x2 : Vec Ideal S1x2048x256 .bf16) (x3 x4 : Vec Ideal S1x2048x128 .bf16) (g : Nat)

/-- The joined query of head `hd` at row `r`: its 64 lanes of its pair's 128, then its 16 gate lanes of the 128. -/
def qx (hd : Fin 4) (r : Fin 2048) (c : Fin 256) : EReal :=
  if h : c.val < 128 then (if 64 * (hd.val % 2) ≤ c.val ∧ c.val < 64 * (hd.val % 2) + 64 then x0 (ix3 0 r ⟨128 * (hd.val / 2) + c.val, by omega⟩) else (0 : EReal))
  else (if 16 * (4 * g + hd.val) ≤ c.val - 128 ∧ c.val - 128 < 16 * (4 * g + hd.val) + 16 then x3 (ix3 0 r ⟨c.val - 128, by omega⟩) else (0 : EReal))

/-- The joined key of a pair at row `s`. -/
def kx (hd : Fin 4) (s : Fin 2048) (c : Fin 256) : EReal :=
  if h : c.val < 128 then x1 (ix3 0 s ⟨128 * (hd.val / 2) + c.val, by omega⟩) else x4 (ix3 0 s ⟨c.val - 128, by omega⟩)

def score (hd : Fin 4) (r s : Fin 2048) : EReal := ∑ c : Fin 256, qx x0 x3 g hd r c * kx x1 x4 hd s c

/-- The score of a key up to the query, masked after it. -/
def masked (hd : Fin 4) (r s : Fin 2048) : EReal := if s.val ≤ r.val then score x0 x1 x3 x4 g hd r s else ⊥

def top (hd : Fin 4) (r : Fin 2048) : EReal := (Finset.univ : Finset (Fin 2048)).sup fun s => masked x0 x1 x3 x4 g hd r s

def weight (hd : Fin 4) (r s : Fin 2048) : EReal := Ideal.exp2 (masked x0 x1 x3 x4 g hd r s - top x0 x1 x3 x4 g hd r)

def mean (hd : Fin 4) (r : Fin 2048) (l : Fin 128) : EReal :=
  Ideal.div (∑ s : Fin 2048, weight x0 x1 x3 x4 g hd r s * x2 (ix3 0 s ⟨128 * (hd.val / 2) + l.val, by omega⟩)) (∑ s : Fin 2048, weight x0 x1 x3 x4 g hd r s)

end spec

/-- The head of unit `n`. -/
def head (n : Nat) : Fin 4 := ⟨n % 4, by omega⟩
/-- Row `t` of the tile of unit `n`. -/
def row (n : Nat) (t : Fin 256) : Fin 2048 := ⟨256 * tile n + t.val, by unfold tile; omega⟩

variable {x0 x1 x2 : Vec Ideal S1x2048x256 .bf16} {x3 x4 : Vec Ideal S1x2048x128 .bf16} {g : Nat}

local notation "𝓡" => pureReads x0 x1 x2 x3 x4

theorem queries_apply (hg : g < 2 ^ 16) (n : Nat) (t c : Fin 256) :
    queries 𝓡 (BitVec.ofNat 32 g) n (ix2 t c) = qx x0 x3 g (head n) (row n t) c := by
  unfold queries
  rw [joined_apply g (n % 4) (64 * (n % 2)) (64 * (n % 2) + 64) hg (by omega) (by omega) (by omega)]
  unfold qx
  have e : n % 4 % 2 = n % 2 := by omega
  by_cases h : c.val < 128
  · rw [dif_pos h, dif_pos h]
    simp only [head, e]
    refine if_congr Iff.rfl (congrArg x0 ?_) rfl
    exact (unit_idx (inb_rows n) 0 t ⟨c.val, h⟩).trans rfl
  · rw [dif_neg h, dif_neg h]
    simp only [head]
    refine if_congr Iff.rfl (congrArg x3 ?_) rfl
    refine (unit_idx (inb_gate n) 0 t ⟨c.val - 128, by omega⟩).trans ?_
    funext a; apply Fin.ext; fin_cases a
    · rfl
    · rfl
    · show 0 + (c.val - 128) = c.val - 128; omega

theorem pass_apply (x : Vec Ideal S1x2048x128 .bf16) (u : Fin 1) (s : Fin 2048) (l : Fin 128) : pass x (ix3 u s l) = x (ix3 0 s l) := by
  unfold pass
  rw [ValueIdx.shapeCast_ab_1ab_apply, ValueIdx.shapeCast_1ab_ab_apply]

theorem keys_apply (n : Nat) (i : Fin 2) (hi : i.val = pair n) (s : Fin 2048) (c : Fin 256) :
    View.canon (keyPieces 𝓡) (ix3 i s c) = kx x1 x4 (head n) s c := by
  have hp : n % 4 / 2 = pair n := rfl
  have ip := i.isLt; have sl := s.isLt; have cl := c.isLt
  unfold keyPieces kx head
  simp only [hp]
  rw [canon_cons_unit, canon_cons_unit, canon_cons_unit, canon_cons_unit]
  by_cases h : c.val < 128
  · rw [dif_pos h, dif_neg (by omega)]
    by_cases h1 : pair n = 1
    · rw [dif_pos (by omega), pass_apply]
      refine congrArg x1 ?_
      refine (unit_idx (inb_lanes 1 (le_refl 1)) 0 _ _).trans ?_
      funext a; apply Fin.ext; fin_cases a
      · rfl
      · show 0 + (s.val - 0) = s.val; omega
      · show 128 * 1 + (c.val - 0) = 128 * pair n + c.val; omega
    · have h0 : pair n = 0 := by have := pair_le n; omega
      rw [dif_neg (by omega), dif_neg (by omega), dif_pos (by omega), pass_apply]
      refine congrArg x1 ?_
      refine (unit_idx (inb_lanes 0 (Nat.zero_le 1)) 0 _ _).trans ?_
      funext a; apply Fin.ext; fin_cases a
      · rfl
      · show 0 + (s.val - 0) = s.val; omega
      · show 128 * 0 + (c.val - 0) = 128 * pair n + c.val; omega
  · rw [dif_neg h]
    have e : ∀ j : Fin 128, j.val = c.val - 128 → ∀ t : Fin 2048, t.val = s.val →
        gateAll.toLoadRect.idx (ix3 0 t j) = (ix3 0 s ⟨c.val - 128, by omega⟩ : S1x2048x128.Idx) := by
      intro j hj t ht
      refine (unit_idx inb_S1x2048x128_S1x2048x128_0_0_0 0 t j).trans ?_
      funext a; apply Fin.ext; fin_cases a
      · rfl
      · show 0 + t.val = s.val; omega
      · show 0 + j.val = c.val - 128; omega
    by_cases h1 : pair n = 1
    · rw [dif_pos (by omega), pass_apply]
      exact congrArg x4 (e _ rfl _ rfl)
    · have h0 : pair n = 0 := by have := pair_le n; omega
      rw [dif_neg (by omega), dif_neg (by omega), dif_pos (by omega), pass_apply]
      exact congrArg x4 (e _ rfl _ rfl)

theorem keys_idx (n off K : Nat) (h : off + K ≤ 2048) (k : Fin K) (c : Fin 256) (s : Fin 2048) (hs : s.val = off + k.val) :
    (keys (pair n) off K (pair_le n) h).toLoadRect.idx (ix3 0 k c) = (ix3 ⟨pair n, Nat.lt_succ_of_le (pair_le n)⟩ s c : S2x2048x256.Idx) := by
  refine (unit_idx (inb_keys (pair n) off K (pair_le n) h) 0 k c).trans ?_
  refine funext fun a => Fin.ext ?_
  match a with
  | 0 => rfl
  | 1 => exact hs.symm
  | 2 => exact Nat.zero_add _

theorem kx_apply (L : List (View.Piece (Elt Ideal) S2x2048x256 .bf16)) (r : LoadRect S2x2048x256) (j : r.shape.Idx) :
    (𝓡).kx L r j = View.canon L (r.idx j) := rfl

theorem keys_back (n off K : Nat) (h : off + K ≤ 2048) (k : Fin K) (c : Fin 256) (s : Fin 2048) (hs : s.val = off + k.val) :
    (𝓡).kx (keyPieces 𝓡) (keys (pair n) off K (pair_le n) h).toLoadRect (ix3 0 k c) = kx x1 x4 (head n) s c := by
  have e := keys_apply (x0 := x0) (x1 := x1) (x2 := x2) (x3 := x3) (x4 := x4) n ⟨pair n, Nat.lt_succ_of_le (pair_le n)⟩ rfl s c
  rw [← keys_idx n off K h k c s hs] at e
  exact (kx_apply (keyPieces 𝓡) _ _).trans e

end Cert.KernelIdeal.Fox
-- ==== Proof.FoxUnits.lean ====
/- The output block of the attention body: every unit's scores as they are read back from the scratch, the greatest of
   a row, its weights and its average, and the block the thirty-two units leave. -/
module

public import proofs.«01_k».proof.Proof.FoxKeys

@[expose] public section

set_option maxRecDepth 16384

noncomputable section

namespace Cert.KernelIdeal.Fox

open Idealize.ShloMosaic hiding ix1 ix2 ix3 ix4 eq_ix1 eq_ix2 eq_ix3
open Idealize.ShloMosaic.TcCoe Cert.KernelIdeal.Gen
open Idealize.ShloMosaic.ValueIdx (ix1 ix2 ix3 ix4 eq_ix1 eq_ix2 eq_ix3)

variable [Facts]

variable {x0 x1 x2 : Vec Ideal S1x2048x256 .bf16} {x3 x4 : Vec Ideal S1x2048x128 .bf16} {g : Nat}

local notation "𝓡" => pureReads x0 x1 x2 x3 x4

theorem scoresOf (hg : g < 2 ^ 16) (n off K : Nat) (h : off + K ≤ 2048) (t : Fin 256) (k : Fin K) (s : Fin 2048) (hs : s.val = off + k.val) :
    products K (queries 𝓡 (BitVec.ofNat 32 g) n) ((𝓡).kx (keyPieces 𝓡) (keys (pair n) off K (pair_le n) h).toLoadRect) (ix2 t k)
      = score x0 x1 x3 x4 g (head n) (row n t) s := by
  have hq := queries_apply (x0 := x0) (x1 := x1) (x2 := x2) (x3 := x3) (x4 := x4) hg n t
  have hk := fun c => keys_back (x0 := x0) (x1 := x1) (x2 := x2) (x3 := x3) (x4 := x4) n off K h k c s hs
  generalize queries 𝓡 (BitVec.ofNat 32 g) n = Q at hq ⊢
  generalize (𝓡).kx (keyPieces 𝓡) (keys (pair n) off K (pair_le n) h).toLoadRect = B at hk ⊢
  rw [products_apply]
  unfold score
  exact Finset.sum_congr rfl fun c _ => congrArg₂ (· * ·) (hq c) (hk c)

theorem leftScores_apply (hg : g < 2 ^ 16) (n : Nat) (t : Fin 256) (k : Fin (before n)) (s : Fin 2048) (hs : s.val = k.val) :
    leftScores 𝓡 (BitVec.ofNat 32 g) n (ix2 t k) = masked x0 x1 x3 x4 g (head n) (row n t) s := by
  have hk : k.val < 256 * tile n := k.isLt
  have hr : (row n t).val = 256 * tile n + t.val := rfl
  unfold masked
  rw [if_pos (by omega)]
  exact scoresOf hg n 0 (before n) (before_le n) t k s (by omega)

theorem diagScores_apply (hg : g < 2 ^ 16) (n : Nat) (t k : Fin 256) (s : Fin 2048) (hs : s.val = before n + k.val) :
    diagScores 𝓡 (BitVec.ofNat 32 g) n (ix2 t k) = masked x0 x1 x3 x4 g (head n) (row n t) s := by
  have hr : (row n t).val = 256 * tile n + t.val := rfl
  have hb : before n = 256 * tile n := rfl
  unfold masked diagScores
  rw [causal_apply]
  exact if_congr (by omega) (scoresOf hg n (before n) 256 (diag_le n) t k s hs) rfl

/-! ## The scores read back -/

theorem scorePieces_other (a : BitVec 32) (n : Nat) (L : List (View.Piece (Elt Ideal) S2x256x2048 .f32)) (i : Fin 2) (hi : i.val ≠ slot n) (t : Fin 256) (k : Fin 2048) :
    View.canon (scorePieces 𝓡 a n L) (ix3 i t k) = View.canon L (ix3 i t k) := by
  unfold scorePieces
  rw [canon_cons_unit, dif_neg (by omega)]
  split
  · rfl
  · rw [canon_cons_unit, dif_neg (by omega)]

theorem scorePieces_own (hg : g < 2 ^ 16) (n : Nat) (L : List (View.Piece (Elt Ideal) S2x256x2048 .f32)) (i : Fin 2) (hi : i.val = slot n) (t : Fin 256) (k : Fin 2048)
    (hk : k.val < before n + 256) :
    View.canon (scorePieces 𝓡 (BitVec.ofNat 32 g) n L) (ix3 i t k) = masked x0 x1 x3 x4 g (head n) (row n t) k := by
  have ht := t.isLt; have hkl := k.isLt
  unfold scorePieces
  rw [canon_cons_unit]
  by_cases h : before n ≤ k.val
  · rw [dif_pos (by omega), ValueIdx.shapeCast_ab_1ab_apply]
    exact diagScores_apply hg n _ _ k (by show k.val = before n + (k.val - before n); omega)
  · rw [dif_neg (by omega), if_neg (by intro h0; unfold before at h; omega), canon_cons_unit, dif_pos (by omega), ValueIdx.shapeCast_ab_1ab_apply]
    exact leftScores_apply hg n _ _ k (by show k.val = k.val - 0; omega)

/-- The scores of unit `n` as they are read back. -/
theorem scores_back (hg : g < 2 ^ 16) (n : Nat) (hn : n < 32) (i : Fin 2) (hi : i.val = slot n) (t : Fin 256) (k : Fin 2048) (hk : k.val < before n + 256) :
    View.canon (scores 𝓡 (BitVec.ofNat 32 g) (min (n + 2) 32)) (ix3 i t k) = masked x0 x1 x3 x4 g (head n) (row n t) k := by
  by_cases h : n = 31
  · subst h
    exact scorePieces_own hg 31 _ i hi t k hk
  · rw [Nat.min_eq_left (by omega)]
    refine (scorePieces_other _ (n + 1) _ i (by unfold slot at *; omega) t k).trans ?_
    exact scorePieces_own hg n _ i hi t k hk

theorem greatest_apply (hg : g < 2 ^ 16) (n : Nat) (t : Fin 256) (u : Fin 1) :
    greatest 𝓡 (BitVec.ofNat 32 g) n (ix2 t u) = top x0 x1 x3 x4 g (head n) (row n t) := by
  have hb : before n + 256 ≤ 2048 := diag_le n
  have ht := t.isLt
  have hd : rowMax 256 (diagScores 𝓡 (BitVec.ofNat 32 g) n) (ix2 t u)
      = (Finset.univ : Finset (Fin 256)).sup fun k => masked x0 x1 x3 x4 g (head n) (row n t) ⟨before n + k.val, by omega⟩ := by
    rw [rowMax_apply]
    exact Finset.sup_congr rfl fun k _ => diagScores_apply hg n t k _ rfl
  have hl : rowMax (before n) (leftScores 𝓡 (BitVec.ofNat 32 g) n) (ix2 t u)
      = (Finset.univ : Finset (Fin (before n))).sup fun k => masked x0 x1 x3 x4 g (head n) (row n t) ⟨k.val, by omega⟩ := by
    rw [rowMax_apply]
    exact Finset.sup_congr rfl fun k _ => leftScores_apply hg n t k _ rfl
  have hm : greatest 𝓡 (BitVec.ofNat 32 g) n (ix2 t u)
      = max ((Finset.univ : Finset (Fin (before n))).sup fun k => masked x0 x1 x3 x4 g (head n) (row n t) ⟨k.val, by omega⟩)
          ((Finset.univ : Finset (Fin 256)).sup fun k => masked x0 x1 x3 x4 g (head n) (row n t) ⟨before n + k.val, by omega⟩) := by
    unfold greatest
    split
    · rename_i h0
      have h00 : before n = 0 := by unfold before; omega
      rw [hd]
      refine (max_eq_right ?_).symm
      refine Finset.sup_le fun k _ => ?_
      have := k.isLt; omega
    · exact congrArg₂ max hl hd
  rw [hm]
  unfold top
  apply le_antisymm
  · refine max_le (Finset.sup_le fun k _ => ?_) (Finset.sup_le fun k _ => ?_)
    · exact Finset.le_sup (f := fun s => masked x0 x1 x3 x4 g (head n) (row n t) s) (Finset.mem_univ _)
    · exact Finset.le_sup (f := fun s => masked x0 x1 x3 x4 g (head n) (row n t) s) (Finset.mem_univ _)
  · refine Finset.sup_le fun s _ => ?_
    by_cases h1 : s.val < before n
    · refine le_max_of_le_left ?_
      exact Finset.le_sup (f := fun k : Fin (before n) => masked x0 x1 x3 x4 g (head n) (row n t) ⟨k.val, by omega⟩) (Finset.mem_univ ⟨s.val, h1⟩)
    by_cases h2 : s.val < before n + 256
    · refine le_max_of_le_right ?_
      have := Finset.le_sup (f := fun k : Fin 256 => masked x0 x1 x3 x4 g (head n) (row n t) ⟨before n + k.val, by omega⟩) (Finset.mem_univ ⟨s.val - before n, by omega⟩)
      refine le_trans (le_of_eq (congrArg _ (Fin.ext ?_))) this
      show s.val = before n + (s.val - before n); omega
    · have : masked x0 x1 x3 x4 g (head n) (row n t) s = ⊥ := if_neg (by show ¬ s.val ≤ 256 * tile n + t.val; unfold before at *; omega)
      rw [this]; exact bot_le

/-! ## The average -/

/-- A sum over the first `K` of `N` terms, the others zero. -/
theorem sum_first {K N : Nat} (hK : K ≤ N) (f : Fin K → EReal) (F : Fin N → EReal) (h : ∀ k : Fin K, f k = F ⟨k.val, by omega⟩)
    (h0 : ∀ s : Fin N, K ≤ s.val → F s = 0) : ∑ k : Fin K, f k = ∑ s : Fin N, F s := by
  have e1 : ∑ k : Fin K, f k = ∑ i ∈ Finset.range K, if hi : i < N then F ⟨i, hi⟩ else 0 := by
    rw [← Fin.sum_univ_eq_sum_range (fun i => if hi : i < N then F ⟨i, hi⟩ else 0) K]
    refine Finset.sum_congr rfl fun k _ => ?_
    rw [dif_pos (by omega), h]
  have e2 : ∑ s : Fin N, F s = ∑ i ∈ Finset.range N, if hi : i < N then F ⟨i, hi⟩ else 0 := by
    rw [← Fin.sum_univ_eq_sum_range (fun i => if hi : i < N then F ⟨i, hi⟩ else 0) N]
    refine Finset.sum_congr rfl fun k _ => ?_
    rw [dif_pos k.isLt]
  rw [e1, e2]
  refine Finset.sum_subset (Finset.range_mono hK) fun i hi hi' => ?_
  have hi1 : i < N := Finset.mem_range.mp hi
  have hi2 : ¬ i < K := fun h => hi' (Finset.mem_range.mpr h)
  rw [dif_pos hi1]
  exact h0 ⟨i, hi1⟩ (by show K ≤ i; omega)

theorem weight_after (hd : Fin 4) (r s : Fin 2048) (h : r.val < s.val) : weight x0 x1 x3 x4 g hd r s = 0 := by
  unfold weight masked
  rw [if_neg (by omega), EReal.bot_sub]; rfl

theorem output_apply (hg : g < 2 ^ 16) (n : Nat) (hn : n < 32) (t : Fin 256) (l : Fin 128) :
    output 𝓡 (BitVec.ofNat 32 g) n (scores 𝓡 (BitVec.ofNat 32 g) (min (n + 2) 32)) (ix2 t l) = mean x0 x1 x2 x3 x4 g (head n) (row n t) l := by
  have hb : before n + 256 ≤ 2048 := diag_le n
  have ht := t.isLt
  unfold output mean
  rw [average_apply]
  have hw : ∀ k : Fin (before n + 256),
      weights (before n + 256) (greatest 𝓡 (BitVec.ofNat 32 g) n)
        ((𝓡).s (scores 𝓡 (BitVec.ofNat 32 g) (min (n + 2) 32)) (sc (slot n) 0 (before n + 256) (slot_le n) (all_le n)).toLoadRect) (ix2 t k)
        = weight x0 x1 x3 x4 g (head n) (row n t) ⟨k.val, by omega⟩ := by
    intro k
    have hs := slot_le n
    rw [weights_apply, greatest_apply hg]
    unfold weight
    rw [← scores_back hg n hn ⟨slot n, by omega⟩ rfl t ⟨k.val, by omega⟩ k.isLt]
    refine congrArg (fun y => Ideal.exp2 (View.canon (scores 𝓡 (BitVec.ofNat 32 g) (min (n + 2) 32)) y - top x0 x1 x3 x4 g (head n) (row n t))) ?_
    refine (unit_idx (inb_sc _ _ _ (slot_le n) (all_le n)) 0 t k).trans ?_
    funext a; apply Fin.ext; fin_cases a
    · rfl
    · show 0 + t.val = t.val; omega
    · show 0 + k.val = k.val; omega
  have hv : ∀ k : Fin (before n + 256), (𝓡).v (vals (pair n) (before n + 256) (pair_le n) (all_le n)).toLoadRect (ix3 0 k l)
      = x2 (ix3 0 ⟨k.val, by omega⟩ ⟨128 * ((head n).val / 2) + l.val, by omega⟩) := by
    intro k
    refine congrArg x2 ?_
    refine (unit_idx (inb_vals _ _ (pair_le n) (all_le n)) 0 k l).trans ?_
    funext a; apply Fin.ext; fin_cases a
    · rfl
    · show 0 + k.val = k.val; omega
    · rfl
  have hz : ∀ s : Fin 2048, before n + 256 ≤ s.val → weight x0 x1 x3 x4 g (head n) (row n t) s = 0 := fun s hs =>
    weight_after _ _ _ (by show 256 * tile n + t.val < s.val; unfold before at hs; omega)
  refine congrArg₂ Ideal.div (sum_first hb _ _ ?_ ?_) (sum_first hb _ _ hw hz)
  · intro k; rw [hw, hv]
  · intro s hs; rw [hz s hs, zero_mul]

/-! ## The block -/

/-- The head that owns column `c` of the block. -/
def headOf (c : Fin 256) : Fin 4 := ⟨2 * (c.val / 128) + c.val % 128 / 64, by omega⟩

theorem outputs_apply (hg : g < 2 ^ 16) (n : Nat) (hn : n ≤ 32) (u : Fin 1) (r : Fin 2048) (c : Fin 256)
    (hm : 4 * (7 - r.val / 256) + (headOf c).val < n) :
    View.canon (outputs 𝓡 (BitVec.ofNat 32 g) n) (ix3 u r c) = mean x0 x1 x2 x3 x4 g (headOf c) r ⟨c.val % 128, by omega⟩ := by
  induction n with
  | zero => omega
  | succ n ih =>
    have hu := u.isLt; have hr := r.isLt; have hc := c.isLt
    have hh : (headOf c).val = 2 * (c.val / 128) + c.val % 128 / 64 := rfl
    show View.canon (outputPieces 𝓡 _ n (scores 𝓡 _ (min (n + 2) 32)) (outputs 𝓡 _ n)) (ix3 u r c) = _
    unfold outputPieces
    rw [canon_cons_unit]
    by_cases hcov : r.val / 256 = tile n ∧ c.val / 128 = pair n
    · obtain ⟨h1, h2⟩ := hcov
      rw [dif_pos (by unfold tile at *; omega), ValueIdx.shapeCast_ab_1ab_apply]
      have key : (headOf c) = head n → output 𝓡 (BitVec.ofNat 32 g) n (scores 𝓡 (BitVec.ofNat 32 g) (min (n + 2) 32))
          (ix2 (⟨r.val - 256 * tile n, by unfold tile at *; omega⟩ : Fin 256) (⟨c.val - 128 * pair n, by omega⟩ : Fin 128))
          = mean x0 x1 x2 x3 x4 g (headOf c) r ⟨c.val % 128, by omega⟩ := by
        intro e
        rw [output_apply hg n (by omega), e]
        congr 1
        · apply Fin.ext; show 256 * tile n + (r.val - 256 * tile n) = r.val; omega
        · apply Fin.ext; show c.val - 128 * pair n = c.val % 128; omega
      split
      · rename_i he
        refine key (Fin.ext ?_)
        show 2 * (c.val / 128) + c.val % 128 / 64 = n % 4
        unfold tile pair at *; omega
      · rename_i he
        rw [upper_apply]
        split
        · rename_i hl
          refine Eq.trans (congrArg (View.canon (outputs 𝓡 (BitVec.ofNat 32 g) n)) ?_) (ih (by omega) ?_)
          · refine (unit_idx (inb_rows n) 0 _ _).trans ?_
            funext a; apply Fin.ext; fin_cases a
            · show 0 + 0 = u.val; omega
            · show 256 * tile n + (r.val - 256 * tile n) = r.val; omega
            · show 128 * pair n + (c.val - 128 * pair n) = c.val; omega
          · change c.val - 128 * pair n < 64 at hl
            unfold tile pair at *; omega
        · rename_i hl
          refine key (Fin.ext ?_)
          change ¬ c.val - 128 * pair n < 64 at hl
          show 2 * (c.val / 128) + c.val % 128 / 64 = n % 4
          unfold tile pair at *; omega
    · rw [dif_neg (by unfold tile pair at *; omega)]
      refine ih (by omega) ?_
      by_contra hne
      exact hcov (by unfold tile pair at *; omega)

end Cert.KernelIdeal.Fox

end
-- ==== Proof.FoxRun.lean ====
/- What one run of the attention body leaves in its two outputs, at an index. -/
module

public import proofs.«01_k».proof.Proof.FoxOutputs
public import proofs.«01_k».proof.Proof.FoxUnits
public import proofs.«01_k».proof.Proof.Gen.KernelIdeal.Frame

@[expose] public section

set_option maxRecDepth 16384
set_option maxHeartbeats 2000000

noncomputable section

namespace Cert.KernelIdeal.Fox

open Idealize.ShloMosaic hiding ix1 ix2 ix3 ix4 eq_ix1 eq_ix2 eq_ix3
open Idealize.ShloMosaic.TcCoe Cert.KernelIdeal Cert.KernelIdeal.Gen
open Idealize.ShloMosaic.ValueIdx (ix1 ix2 ix3 ix4 eq_ix1 eq_ix2 eq_ix3)

section run
variable {F : FTy → Type} [FloatOps F] [Named F]
  (c : Dev nD) (i : grid0.Coords) (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x192x1024 .f32) (harg7 : arg7.IsWhole)
  (arg8 : Memref sig .tc .vmem S1x2048x256 .bf16) (harg8 : arg8.IsWhole) (arg9 : Memref sig .tc .vmem S192x1024 .bf16) (harg9 : arg9.IsWhole)
  (arg10 : Memref sig .tc .vmem S2x256x2048 .f32) (harg10 : arg10.IsWhole) (arg11 : Memref sig .tc .vmem S2x2048x256 .bf16) (harg11 : arg11.IsWhole)
  (x0 x1 x2 : Vec F S1x2048x256 .bf16) (x3 x4 : Vec F S1x2048x128 .bf16) (x5 : Vec F S1x192x1024 .f32)

theorem run_outputs :
    (kernelRun0_A c i arg2 harg2 arg3 harg3 arg4 harg4 arg5 harg5 arg6 harg6 arg7 harg7 arg8 harg8 arg9 harg9 arg10 harg10 arg11 harg11 x0 x1 x2 x3 x4 x5).1
      = outputs (readsOf arg2 harg2 arg3 harg3 arg4 harg4 arg5 harg5 arg6 harg6 arg8 arg10 arg11 x0 x1 x2 x3 x4) (BitVec.ofNat 32 (i 1).val) 32 := by
  show _ = outputPieces _ _ 31 (scores _ _ 32) (outputs _ _ 31)
  rw [← scores32 c i arg2 harg2 arg3 harg3 arg4 harg4 arg5 harg5 arg6 harg6 arg8 arg10 arg11,
    ← outputs31 c i arg2 harg2 arg3 harg3 arg4 harg4 arg5 harg5 arg6 harg6 arg8 arg10 arg11]
  unfold kernelRun0_A
  dsimp only
  rfl

end run

section ideal
variable
  (c : Dev nD) (i : grid0.Coords) (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x192x1024 .f32) (harg7 : arg7.IsWhole)
  (arg8 : Memref sig .tc .vmem S1x2048x256 .bf16) (harg8 : arg8.IsWhole) (arg9 : Memref sig .tc .vmem S192x1024 .bf16) (harg9 : arg9.IsWhole)
  (arg10 : Memref sig .tc .vmem S2x256x2048 .f32) (harg10 : arg10.IsWhole) (arg11 : Memref sig .tc .vmem S2x2048x256 .bf16) (harg11 : arg11.IsWhole)
  (x0 x1 x2 : Vec Ideal S1x2048x256 .bf16) (x3 x4 : Vec Ideal S1x2048x128 .bf16) (x5 : Vec Ideal S1x192x1024 .f32)

theorem attn_run (u : Fin 1) (r : Fin 2048) (l : Fin 256) :
    out0_A_6 c i arg2 harg2 arg3 harg3 arg4 harg4 arg5 harg5 arg6 harg6 arg7 harg7 arg8 harg8 arg9 harg9 arg10 harg10 arg11 harg11 x0 x1 x2 x3 x4 x5 (ix3 u r l) = mean x0 x1 x2 x3 x4 (i 1).val (headOf l) r ⟨l.val % 128, by omega⟩ := by
  have hl := l.isLt
  have hi : (i 1).val < 2 := (i 1).isLt
  have hm : 4 * (7 - r.val / 256) + (headOf l).val < 32 := by
    have := (headOf l).isLt
    omega
  unfold out0_A_6
  rw [View.read_writes_junk_eq_canon, run_outputs, readsOf_eq arg2 harg2 arg3 harg3 arg4 harg4 arg5 harg5 arg6 harg6 arg8 arg10 arg11]
  exact outputs_apply (by omega) 32 le_rfl u r l hm

end ideal
end Cert.KernelIdeal.Fox

end
-- ==== Proof.FoxCast.lean ====
/- What one run of the attention body leaves in the second output: the block of weights it loads, cast. -/
module

public import proofs.«01_k».proof.Proof.FoxUnits
public import proofs.«01_k».proof.Proof.Gen.KernelIdeal.Frame
public import Idealize.ShloMosaic.Lib.Pipeline.Value

@[expose] public section

set_option maxRecDepth 16384
set_option maxHeartbeats 2000000

noncomputable section

namespace Cert.KernelIdeal.Fox

open Idealize.ShloMosaic hiding ix1 ix2 ix3 ix4 eq_ix1 eq_ix2 eq_ix3
open Idealize.ShloMosaic.TcCoe Cert.KernelIdeal Cert.KernelIdeal.Gen
open Idealize.ShloMosaic.ValueIdx (ix1 ix2 ix3 ix4 eq_ix1 eq_ix2 eq_ix3)

/-- The cast of the block of weights, at an index. -/
theorem cast_apply (x : Vec Ideal S1x192x1024 .f32) (r : Fin 192) (k : Fin 1024) : k0_pay2 x (ix2 r k) = x (ix3 0 r k) := by
  show shapeCast S192x1024 (shapeCast S1x192x1024 x _) _ (ix2 r k) = _
  rw [ValueIdx.shapeCast_1ab_ab_apply, shapeCast_self]

/-- The load of the whole block reads the block. -/
theorem load_all (arg7 : Memref sig .tc .vmem S1x192x1024 .f32) (harg7 : arg7.IsWhole) (x : Vec Ideal S1x192x1024 .f32) :
    View.readAt (Elt Ideal) arg7.view (Rect.unit ![0, 0, 0] S1x192x1024.size inb_S1x192x1024_S1x192x1024_0_0_0).toLoadRect (harg7.unread x) = x := by
  refine (funext fun j => congrFun (harg7.read_unread x) _ : _ = fun j => x ((Rect.unit (s := S1x192x1024) ![0, 0, 0] S1x192x1024.size inb_S1x192x1024_S1x192x1024_0_0_0).toLoadRect.idx j)).trans ?_
  funext j
  refine congrArg x (funext fun a => Fin.ext ?_)
  fin_cases a <;> simp [Rect.toLoadRect, LoadRect.idx, Rect.unit]

section run
variable
  (c : Dev nD) (i : grid0.Coords) (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x192x1024 .f32) (harg7 : arg7.IsWhole)
  (arg8 : Memref sig .tc .vmem S1x2048x256 .bf16) (harg8 : arg8.IsWhole) (arg9 : Memref sig .tc .vmem S192x1024 .bf16) (harg9 : arg9.IsWhole)
  (arg10 : Memref sig .tc .vmem S2x256x2048 .f32) (harg10 : arg10.IsWhole) (arg11 : Memref sig .tc .vmem S2x2048x256 .bf16) (harg11 : arg11.IsWhole)
  (x0 x1 x2 : Vec Ideal S1x2048x256 .bf16) (x3 x4 : Vec Ideal S1x2048x128 .bf16) (x5 : Vec Ideal S1x192x1024 .f32)

theorem cast_run (r : Fin 192) (k : Fin 1024) :
    out0_A_7 c i arg2 harg2 arg3 harg3 arg4 harg4 arg5 harg5 arg6 harg6 arg7 harg7 arg8 harg8 arg9 harg9 arg10 harg10 arg11 harg11 x0 x1 x2 x3 x4 x5 (ix2 r k) = x5 (ix3 0 r k) := by
  have e : (kernelRun0_A c i arg2 harg2 arg3 harg3 arg4 harg4 arg5 harg5 arg6 harg6 arg7 harg7 arg8 harg8 arg9 harg9 arg10 harg10 arg11 harg11 x0 x1 x2 x3 x4 x5).2.1 = [⟨Rect.unit ![0, 0] S192x1024.size inb_S192x1024_S192x1024_0_0, k0_pay2 x5⟩] := by
    unfold kernelRun0_A
    dsimp only
    exact congrArg (fun x => ([⟨Rect.unit ![0, 0] S192x1024.size inb_S192x1024_S192x1024_0_0, k0_pay2 x⟩] : List (View.Piece (Elt Ideal) S192x1024 .bf16))) (load_all arg7 harg7 x5)
  unfold out0_A_7
  rw [View.read_writes_junk_eq_canon, e, View.canon_unit_zero (funext fun a => by fin_cases a <;> rfl)]
  exact cast_apply x5 r k

end run
end Cert.KernelIdeal.Fox

end
-- ==== Proof.FoxArrays.lean ====
/- The blocks of the attention call's windows: grid point `t` is batch row `t / 2`, group `t % 2` of four heads; its
   blocks of the arrays, and where its two result blocks lie in theirs. -/
module

public import proofs.«01_k».proof.Proof.Gen.KernelIdeal.Value
public import Idealize.ShloMosaic.Lib.ValueLayout

@[expose] public section

set_option maxRecDepth 16384

noncomputable section

namespace Cert.KernelIdeal.Fox

open Idealize.ShloMosaic
open Idealize.ShloMosaic.TcCoe Cert.KernelIdeal Cert.KernelIdeal.Gen
open Idealize.ShloMosaic.ValueIdx (ix1 ix2 ix3 ix4 eq_ix1 eq_ix2 eq_ix3)

variable (m : (ℓ : Loc nD τ sig) → Buf (Elt Ideal) ℓ) (c : Dev nD)

theorem group_eq (t : Fin cfg0.N) : ((grid0.coords t) 1).val = t.val % 2 :=
  (by decide +kernel : ∀ t : Fin grid0.N, ((grid0.coords t) 1).val = t.val % 2) t

theorem points (t : Fin cfg0.N) : t.val < 16 := lt_of_lt_of_eq t.isLt N_0

/-- The batch row of a grid point. -/
abbrev batch (t : Fin cfg0.N) : Fin 8 := ⟨t.val / 2, by have := points t; omega⟩

theorem at0 (t : Fin cfg0.N) : win0_0.index t 0 = t.val / 2 ∧ win0_0.index t 1 = 0 ∧ win0_0.index t 2 = t.val % 2 :=
  (by decide +kernel : ∀ t : Fin grid0.N, win0_0.index t 0 = t.val / 2 ∧ win0_0.index t 1 = 0 ∧ win0_0.index t 2 = t.val % 2) t
theorem at1 (t : Fin cfg0.N) : win0_1.index t 0 = t.val / 2 ∧ win0_1.index t 1 = 0 ∧ win0_1.index t 2 = t.val % 2 :=
  (by decide +kernel : ∀ t : Fin grid0.N, win0_1.index t 0 = t.val / 2 ∧ win0_1.index t 1 = 0 ∧ win0_1.index t 2 = t.val % 2) t
theorem at2 (t : Fin cfg0.N) : win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2) t
theorem at3 (t : Fin cfg0.N) : win0_3.index t 0 = t.val / 2 ∧ win0_3.index t 1 = 0 ∧ win0_3.index t 2 = 0 :=
  (by decide +kernel : ∀ t : Fin grid0.N, win0_3.index t 0 = t.val / 2 ∧ win0_3.index t 1 = 0 ∧ win0_3.index t 2 = 0) t
theorem at4 (t : Fin cfg0.N) : win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0) t
/-- The weight window's offsets are elements: its rows begin 3752 rows into the array, 192 rows a point. -/
theorem at5 (t : Fin cfg0.N) : win0_5.index t 0 = 0 ∧ win0_5.index t 1 = 3752 + 192 * t.val ∧ win0_5.index t 2 = 0 :=
  (by decide +kernel : ∀ t : Fin grid0.N, win0_5.index t 0 = 0 ∧ win0_5.index t 1 = 3752 + 192 * t.val ∧ win0_5.index t 2 = 0) t
theorem at6 (t : Fin cfg0.N) : win0_6.index t 0 = t.val / 2 ∧ win0_6.index t 1 = 0 ∧ win0_6.index t 2 = t.val % 2 :=
  (by decide +kernel : ∀ t : Fin grid0.N, win0_6.index t 0 = t.val / 2 ∧ win0_6.index t 1 = 0 ∧ win0_6.index t 2 = t.val % 2) t
theorem at7 (t : Fin cfg0.N) : win0_7.index t 0 = t.val ∧ win0_7.index t 1 = 0 :=
  (by decide +kernel : ∀ t : Fin grid0.N, win0_7.index t 0 = t.val ∧ win0_7.index t 1 = 0) t

/-- Lane `l` of group `t % 2`. -/
abbrev wide (t : Fin cfg0.N) (l : Fin 256) : Fin 512 := ⟨256 * (t.val % 2) + l.val, by omega⟩

theorem block0 (t : Fin cfg0.N) (u : Fin 1) (r : Fin 2048) (l : Fin 256) :
    (iblk m c 0 t : Vec Ideal S1x2048x256 .bf16) (ix3 u r l) = V m c main_v62 (ix3 (batch t) r (wide t l)) := by
  obtain ⟨h0, h1, h2⟩ := at0 t
  have hu := u.isLt
  unfold iblk
  rw [View.read_apply]
  show V m c main_v62 _ = V m c main_v62 _
  refine congrArg _ (funext fun a => Fin.ext ?_)
  match a with
  | 0 => show win0_0.index t 0 * 1 + 1 * u.val = t.val / 2; rw [h0]; omega
  | 1 => show win0_0.index t 1 * 2048 + 1 * r.val = r.val; rw [h1]; omega
  | 2 => show win0_0.index t 2 * 256 + 1 * l.val = 256 * (t.val % 2) + l.val; rw [h2]; omega

theorem block1 (t : Fin cfg0.N) (u : Fin 1) (r : Fin 2048) (l : Fin 256) :
    (iblk m c 1 t : Vec Ideal S1x2048x256 .bf16) (ix3 u r l) = V m c main_v64 (ix3 (batch t) r (wide t l)) := by
  obtain ⟨h0, h1, h2⟩ := at1 t
  have hu := u.isLt
  unfold iblk
  rw [View.read_apply]
  show V m c main_v64 _ = V m c main_v64 _
  refine congrArg _ (funext fun a => Fin.ext ?_)
  match a with
  | 0 => show win0_1.index t 0 * 1 + 1 * u.val = t.val / 2; rw [h0]; omega
  | 1 => show win0_1.index t 1 * 2048 + 1 * r.val = r.val; rw [h1]; omega
  | 2 => show win0_1.index t 2 * 256 + 1 * l.val = 256 * (t.val % 2) + l.val; rw [h2]; omega

theorem block2 (t : Fin cfg0.N) (u : Fin 1) (r : Fin 2048) (l : Fin 256) :
    (iblk m c 2 t : Vec Ideal S1x2048x256 .bf16) (ix3 u r l) = V m c main_v66 (ix3 (batch t) r (wide t l)) := by
  obtain ⟨h0, h1, h2⟩ := at2 t
  have hu := u.isLt
  unfold iblk
  rw [View.read_apply]
  show V m c main_v66 _ = V m c main_v66 _
  refine congrArg _ (funext fun a => Fin.ext ?_)
  match a with
  | 0 => show win0_2.index t 0 * 1 + 1 * u.val = t.val / 2; rw [h0]; omega
  | 1 => show win0_2.index t 1 * 2048 + 1 * r.val = r.val; rw [h1]; omega
  | 2 => show win0_2.index t 2 * 256 + 1 * l.val = 256 * (t.val % 2) + l.val; rw [h2]; omega

theorem block3 (t : Fin cfg0.N) (u : Fin 1) (r : Fin 2048) (l : Fin 128) :
    (iblk m c 3 t : Vec Ideal S1x2048x128 .bf16) (ix3 u r l) = V m c main_v55 (ix3 (batch t) r l) := by
  obtain ⟨h0, h1, h2⟩ := at3 t
  have hu := u.isLt
  unfold iblk
  rw [View.read_apply]
  show V m c main_v55 _ = V m c main_v55 _
  refine congrArg _ (funext fun a => Fin.ext ?_)
  match a with
  | 0 => show win0_3.index t 0 * 1 + 1 * u.val = t.val / 2; rw [h0]; omega
  | 1 => show win0_3.index t 1 * 2048 + 1 * r.val = r.val; rw [h1]; omega
  | 2 => show win0_3.index t 2 * 128 + 1 * l.val = l.val; rw [h2]; omega

theorem block4 (t : Fin cfg0.N) (u : Fin 1) (r : Fin 2048) (l : Fin 128) :
    (iblk m c 4 t : Vec Ideal S1x2048x128 .bf16) (ix3 u r l) = V m c main_v57 (ix3 (batch t) r l) := by
  obtain ⟨h0, h1, h2⟩ := at4 t
  have hu := u.isLt
  unfold iblk
  rw [View.read_apply]
  show V m c main_v57 _ = V m c main_v57 _
  refine congrArg _ (funext fun a => Fin.ext ?_)
  match a with
  | 0 => show win0_4.index t 0 * 1 + 1 * u.val = t.val / 2; rw [h0]; omega
  | 1 => show win0_4.index t 1 * 2048 + 1 * r.val = r.val; rw [h1]; omega
  | 2 => show win0_4.index t 2 * 128 + 1 * l.val = l.val; rw [h2]; omega

theorem block5 (t : Fin cfg0.N) (u : Fin 1) (r : Fin 192) (k : Fin 1024) :
    (iblk m c 5 t : Vec Ideal S1x192x1024 .f32) (ix3 u r k)
      = V m c main_v58 (ix3 0 ⟨3752 + 192 * t.val + r.val, by have := points t; omega⟩ k) := by
  obtain ⟨h0, h1, h2⟩ := at5 t
  have hu := u.isLt
  unfold iblk
  rw [View.read_apply]
  show V m c main_v58 _ = V m c main_v58 _
  refine congrArg _ (funext fun a => Fin.ext ?_)
  match a with
  | 0 => show win0_5.index t 0 + 1 * u.val = 0; rw [h0]; omega
  | 1 => show win0_5.index t 1 + 1 * r.val = 3752 + 192 * t.val + r.val; rw [h1]; omega
  | 2 => show win0_5.index t 2 + 1 * k.val = k.val; rw [h2]; omega

/-! ## The result arrays at an index -/

theorem attn_at (t : Fin cfg0.N) (u : Fin 1) (r : Fin 2048) (l : Fin 256) :
    ((dats m 0 c).arrAt 6 cfg0.N : Vec Ideal S8x2048x512 .bf16) (ix3 (batch t) r (wide t l)) = (outsAt0 m c t).1 (ix3 u r l) := by
  obtain ⟨h0, h1, h2⟩ := at6 t
  have hu := u.isLt
  have e := congrFun (Value.blocks6 m c t (flush0_6 t)) (ix3 u r l)
  rw [Value.flushed6, View.read_apply] at e
  refine Eq.trans (congrArg _ (funext fun a => Fin.ext ?_)) e
  match a with
  | 0 => show t.val / 2 = win0_6.index t 0 * 1 + 1 * u.val; rw [h0]; omega
  | 1 => show r.val = win0_6.index t 1 * 2048 + 1 * r.val; rw [h1]; omega
  | 2 => show 256 * (t.val % 2) + l.val = win0_6.index t 2 * 256 + 1 * l.val; rw [h2]; omega

theorem cast_at (t : Fin cfg0.N) (r : Fin 192) (k : Fin 1024) :
    ((dats m 0 c).arrAt 7 cfg0.N : Vec Ideal S3072x1024 .bf16) (ix2 ⟨192 * t.val + r.val, by have := points t; omega⟩ k)
      = (outsAt0 m c t).2 (ix2 r k) := by
  obtain ⟨h0, h1⟩ := at7 t
  have e := congrFun (Value.blocks7 m c t (flush0_7 t)) (ix2 r k)
  rw [Value.flushed7, View.read_apply] at e
  refine Eq.trans (congrArg _ (funext fun a => Fin.ext ?_)) e
  match a with
  | 0 => show 192 * t.val + r.val = win0_7.index t 0 * 192 + 1 * r.val; rw [h0]; omega
  | 1 => show k.val = win0_7.index t 1 * 1024 + 1 * k.val; rw [h1]; omega

end Cert.KernelIdeal.Fox

end
-- ==== Proof.FoxSoftmax.lean ====
/- The weighted mean of a row of attention: base-two weights of scores times `1/log 2`, summed with the values and then
   divided by their sum, are the softmax's weights `e^(score − max) / Σ`, each times its value and summed. -/
module

public import proofs.«01_k».proof.Proof.FoxKeys
public import Mathlib.Analysis.SpecialFunctions.Pow.Real

@[expose] public section

noncomputable section

namespace Cert.KernelIdeal.Fox

open Idealize.ShloMosaic

variable {n : Nat} (P : Fin n → Prop) [DecidablePred P] (S : Fin n → ℝ)

/-- The supremum of masked real scores is the largest of the unmasked ones. -/
theorem sup_masked (s₀ : Fin n) (h₀ : P s₀) (hmax : ∀ s, P s → S s ≤ S s₀) :
    (Finset.univ.sup fun s => if P s then (S s : EReal) else ⊥) = (S s₀ : EReal) := by
  refine le_antisymm (Finset.sup_le fun s _ => ?_) ?_
  · split
    · rename_i h; exact EReal.coe_le_coe_iff.mpr (hmax s h)
    · exact bot_le
  · refine le_trans ?_ (Finset.le_sup (Finset.mem_univ s₀))
    simp [h₀]

theorem fold_max_eq_sup (f : Fin n → EReal) : (Finset.univ : Finset (Fin n)).fold max ⊥ f = Finset.univ.sup f := rfl

theorem exp2_scaled (x : ℝ) : Ideal.exp2 ((x * (Real.log 2)⁻¹ : ℝ) : EReal) = ((Real.exp x : ℝ) : EReal) := by
  rw [Ideal.exp2_coe]
  have h2 : Real.log 2 ≠ 0 := (Real.log_pos (by norm_num)).ne'
  show ((2 : ℝ) ^ (x * (Real.log 2)⁻¹) : ℝ) = ((Real.exp x : ℝ) : EReal)
  rw [Real.rpow_def_of_pos (by norm_num), mul_comm x, ← mul_assoc, mul_inv_cancel₀ h2, one_mul]

theorem sum_mul_real (c : ℝ) (hc : 0 ≤ c) (f : Fin n → EReal) : (∑ s, f s) * (c : EReal) = ∑ s, f s * (c : EReal) := by
  have key : ∀ T : Finset (Fin n), (∑ s ∈ T, f s) * (c : EReal) = ∑ s ∈ T, f s * (c : EReal) := fun T => by
    induction T using Finset.induction_on with
    | empty => simp
    | insert a T ha ih =>
      rw [Finset.sum_insert ha, Finset.sum_insert ha,
        EReal.right_distrib_of_nonneg_of_ne_top (EReal.coe_nonneg.mpr hc) (EReal.coe_ne_top c), ih]
  exact key _

/-- The two forms of a row's mean agree when the scores are real and some key is visible. -/
theorem mean_eq (s₁ : Fin n) (h₁ : P s₁) (v : Fin n → EReal) (K M : Fin n → EReal)
    (hK : ∀ s, K s = if P s then ((S s * (Real.log 2)⁻¹ : ℝ) : EReal) else ⊥) (hM : ∀ s, M s = if P s then (S s : EReal) else ⊥) :
    Ideal.div (∑ s, Ideal.exp2 (K s - Finset.univ.sup K) * v s) (∑ s, Ideal.exp2 (K s - Finset.univ.sup K))
      = ∑ s, v s * Ideal.div (Ideal.exp (M s - Finset.univ.sup M)) (∑ s, Ideal.exp (M s - Finset.univ.sup M)) := by
  obtain ⟨s₀, h₀, hmax⟩ : ∃ s₀, P s₀ ∧ ∀ s, P s → S s ≤ S s₀ := by
    obtain ⟨s₀, hs, hm⟩ := Finset.exists_max_image (Finset.univ.filter P) S ⟨s₁, by simp [h₁]⟩
    exact ⟨s₀, by simpa using hs, fun s h => hm s (by simp [h])⟩
  have hlog : 0 < (Real.log 2)⁻¹ := inv_pos.mpr (Real.log_pos (by norm_num))
  obtain rfl : K = fun s => if P s then ((S s * (Real.log 2)⁻¹ : ℝ) : EReal) else ⊥ := funext hK
  obtain rfl : M = fun s => if P s then (S s : EReal) else ⊥ := funext hM
  rw [sup_masked P S s₀ h₀ hmax, sup_masked P (fun s => S s * (Real.log 2)⁻¹) s₀ h₀ fun s h => mul_le_mul_of_nonneg_right (hmax s h) hlog.le]
  let w : Fin n → ℝ := fun s => if P s then Real.exp (S s - S s₀) else 0
  have hw2 : ∀ s, Ideal.exp2 ((if P s then ((S s * (Real.log 2)⁻¹ : ℝ) : EReal) else ⊥) - ((S s₀ * (Real.log 2)⁻¹ : ℝ) : EReal)) = (w s : EReal) := fun s => by
    by_cases h : P s
    · simp only [w, if_pos h]
      rw [← EReal.coe_sub, ← sub_mul, exp2_scaled]
    · simp only [w, if_neg h, EReal.bot_sub, Ideal.exp2_bot, EReal.coe_zero]
  have hw : ∀ s, Ideal.exp ((if P s then (S s : EReal) else ⊥) - (S s₀ : EReal)) = (w s : EReal) := fun s => by
    by_cases h : P s
    · simp only [w, if_pos h]
      rw [← EReal.coe_sub, Ideal.exp_coe]
    · simp only [w, if_neg h, EReal.bot_sub, Ideal.exp_bot, EReal.coe_zero]
  simp only [hw2, hw]
  have hnn : ∀ s, 0 ≤ w s := fun s => by simp only [w]; split <;> positivity
  have hsum : (∑ s, (w s : EReal)) = ((∑ s, w s : ℝ) : EReal) := by
    have key : ∀ T : Finset (Fin n), (∑ s ∈ T, (w s : EReal)) = ((∑ s ∈ T, w s : ℝ) : EReal) := fun T => by
      induction T using Finset.induction_on with
      | empty => simp
      | insert a T ha ih => rw [Finset.sum_insert ha, Finset.sum_insert ha, ih, EReal.coe_add]
    exact key _
  have hpos : 0 < ∑ s, w s := lt_of_lt_of_le (by simp only [w, if_pos h₀]; positivity) (Finset.single_le_sum (fun s _ => hnn s) (Finset.mem_univ s₀))
  have hne : ((∑ s, w s : ℝ) : EReal) ≠ 0 := EReal.coe_ne_zero.mpr hpos.ne'
  have hdiv : ∀ x : EReal, Ideal.div x ((∑ s, w s : ℝ) : EReal) = x * (((∑ s, w s)⁻¹ : ℝ) : EReal) := fun x => by
    unfold Ideal.div; rw [if_neg hne, EReal.coe_inv]
  rw [hsum]
  simp only [hdiv]
  rw [sum_mul_real _ (inv_nonneg.mpr hpos.le)]
  refine Finset.sum_congr rfl fun s _ => ?_
  rw [mul_comm (w s : EReal), mul_assoc]

/-! ## The score of two joined rows -/

/-- A sum over the sixteen lanes of one block of 128 is the sum over the block. -/
theorem sum_block {L W : Nat} (o : Nat) (ho : o + W ≤ L) (f : Fin L → EReal) (hf : ∀ l : Fin L, ¬ (o ≤ l.val ∧ l.val < o + W) → f l = 0) :
    ∑ l, f l = ∑ w : Fin W, f ⟨o + w.val, by omega⟩ := by
  refine (Finset.sum_of_injOn (fun w : Fin W => (⟨o + w.val, by omega⟩ : Fin L)) ?_ (fun _ _ => Finset.mem_univ _) ?_ fun _ _ => rfl).symm
  · intro a _ b _ h
    have := congrArg Fin.val h
    exact Fin.ext (by simpa using this)
  · intro l _ h
    refine hf l fun hl => h ⟨⟨l.val - o, by omega⟩, Finset.mem_coe.mpr (Finset.mem_univ _), Fin.ext (by show o + (l.val - o) = l.val; omega)⟩

end Cert.KernelIdeal.Fox

end
-- ==== Proof.FoxHost.lean ====
/- The arrays the attention call receives, at an index: the scaled queries, the keys and values, the lanes of the
   cumulative gate and the transposed weights, each over the elements of the arguments. -/
module

public import proofs.«01_k».proof.Proof.Gen.KernelIdeal.Frame
public import Idealize.ShloMosaic.Lib.StableHlo.ReadAt
public import Idealize.ShloMosaic.Lib.IdealHost

@[expose] public section

set_option maxRecDepth 16384

noncomputable section

namespace Cert.KernelIdeal.Fox

open Idealize.ShloMosaic hiding ix1 ix2 ix3 ix4 eq_ix1 eq_ix2 eq_ix3
open Idealize.ShloMosaic.TcCoe Cert.KernelIdeal Cert.KernelIdeal.Gen
open Idealize.ShloMosaic.ValueIdx (ix1 ix2 ix3 ix4 eq_ix1 eq_ix2 eq_ix3)

variable (m : (ℓ : Loc nD τ sig) → Buf (Elt Ideal) ℓ) (c : Dev nD)

/-- The arguments as functions of their indices. -/
abbrev argQ (b : Fin 8) (s : Fin 2048) (h : Fin 8) (d : Fin 64) : EReal := m ((c : Thread nD τ).loc main_arg0) (ix4 b s h d)
abbrev argK (b : Fin 8) (s : Fin 2048) (h : Fin 8) (d : Fin 64) : EReal := m ((c : Thread nD τ).loc main_arg1) (ix4 b s h d)
abbrev argV (b : Fin 8) (s : Fin 2048) (h : Fin 8) (d : Fin 64) : EReal := m ((c : Thread nD τ).loc main_arg2) (ix4 b s h d)
abbrev argG (b : Fin 8) (h : Fin 8) (s : Fin 2048) : EReal := m ((c : Thread nD τ).loc main_arg3) (ix3 b h s)

/-- The base-two logarithm of `e`. -/
def log2e : EReal := Ideal.div (Ideal.ofBits .f32 0x3F800000#32) (Ideal.log (Ideal.ofBits .f32 0x40000000#32))

/-- The scaled queries' factor. -/
def queryScale : EReal := Ideal.ofBits .f32 0x3E000000#32 * log2e

theorem log2e_eq : log2e = (((Real.log 2)⁻¹ : ℝ) : EReal) := by
  have h2 : Ideal.ofBits .f32 0x40000000#32 = ((2 : ℝ) : EReal) := by simp [Ideal.ofBits, Ideal.ieee, -EReal.coe_mul]; norm_num
  have hl : Real.log 2 ≠ 0 := (Real.log_pos (by norm_num)).ne'
  unfold log2e
  rw [h2, Ideal.ofBits_one_f32, Ideal.log_coe, if_neg (by norm_num)]
  unfold Ideal.div
  rw [if_neg (by exact_mod_cast hl), one_mul, EReal.coe_inv]

theorem queryScale_eq : queryScale = ((1 / 8 * (Real.log 2)⁻¹ : ℝ) : EReal) := by
  have h : Ideal.ofBits .f32 0x3E000000#32 = ((1 / 8 : ℝ) : EReal) := by simp [Ideal.ofBits, Ideal.ieee, -EReal.coe_mul]; norm_num
  unfold queryScale
  rw [h, log2e_eq, ← EReal.coe_mul]

/-- Lane `t` of the sixteen a head's query carries for a gate `x`. -/
def queryLane (x : EReal) (t : Nat) : EReal :=
  if t = 0 then x else if t = 1 then x - x else if t = 2 then x - x - (x - x) else if t < 6 then 1 else 0

/-- Lane `t` of the sixteen a head's key carries for a gate `x`. -/
def keyLane (x : EReal) (t : Nat) : EReal :=
  if t < 3 then 1 else if t = 3 then -x else if t = 4 then -(x - x) else if t = 5 then -(x - x - (x - x)) else 0

theorem select_eq (t n : Nat) (ht : t < 16) (hn : n < 16) (x y : EReal) :
    Scalar.select (IntOp.cmpi .eq (BitVec.ofNat 32 t) (BitVec.ofNat 32 n)) x y = if t = n then x else y := by
  rw [WordCmp.cmpi_eq_ofNat (by omega) (by omega), Scalar.select_decide]

theorem select_lt (t n : Nat) (ht : t < 16) (hn : n < 16) (x y : EReal) :
    Scalar.select (IntOp.cmpi .slt (BitVec.ofNat 32 t) (BitVec.ofNat 32 n)) x y = if t < n then x else y := by
  rw [WordCmp.cmpi_slt_ofNat (by omega) (by omega), Scalar.select_decide]

theorem V_w (a : Fin 4) (n : Fin 6824) (k : Fin 1024) :
    V m c main_v58 (ix3 a n k) = m ((c : Thread nD τ).loc main_arg4) (ix3 a k n) := by
  unfold V
  after_reads_at
  rfl

theorem V_q (b : Fin 8) (s : Fin 2048) (l : Fin 512) :
    V m c main_v62 (ix3 b s l) = argQ m c b s ⟨l.val / 64, by omega⟩ ⟨l.val % 64, by omega⟩ * queryScale := by
  unfold V
  after_reads_at
  rfl

theorem V_k (b : Fin 8) (s : Fin 2048) (l : Fin 512) :
    V m c main_v64 (ix3 b s l) = argK m c b s ⟨l.val / 64, by omega⟩ ⟨l.val % 64, by omega⟩ := by
  unfold V
  after_reads_at
  rfl

theorem V_v (b : Fin 8) (s : Fin 2048) (l : Fin 512) :
    V m c main_v66 (ix3 b s l) = argV m c b s ⟨l.val / 64, by omega⟩ ⟨l.val % 64, by omega⟩ := by
  unfold V
  after_reads_at
  rfl

theorem V_aq (b : Fin 8) (s : Fin 2048) (l : Fin 128) :
    V m c main_v55 (ix3 b s l) = queryLane (argG m c b ⟨l.val / 16, by omega⟩ s * log2e) (l.val % 16) := by
  unfold V
  after_reads_at
  have ht : l.val % 16 < 16 := by omega
  have z : Ideal.ofBits .f32 0#32 = 0 := Ideal.ofBits_zero_f32
  have o : Ideal.ofBits .f32 1065353216#32 = 1 := Ideal.ofBits_one_f32
  unfold queryLane
  refine (select_eq (l.val % 16) 0 ht (by omega) _ _).trans (if_congr Iff.rfl rfl ?_)
  refine (select_eq (l.val % 16) 1 ht (by omega) _ _).trans (if_congr Iff.rfl rfl ?_)
  refine (select_eq (l.val % 16) 2 ht (by omega) _ _).trans (if_congr Iff.rfl rfl ?_)
  exact (select_lt (l.val % 16) 6 ht (by omega) _ _).trans (if_congr Iff.rfl o z)

theorem V_ak (b : Fin 8) (s : Fin 2048) (l : Fin 128) :
    V m c main_v57 (ix3 b s l) = keyLane (argG m c b ⟨l.val / 16, by omega⟩ s * log2e) (l.val % 16) := by
  unfold V
  after_reads_at
  have ht : l.val % 16 < 16 := by omega
  have z : Ideal.ofBits .f32 0#32 = 0 := Ideal.ofBits_zero_f32
  have o : Ideal.ofBits .f32 1065353216#32 = 1 := Ideal.ofBits_one_f32
  unfold keyLane
  refine (select_lt (l.val % 16) 3 ht (by omega) _ _).trans (if_congr Iff.rfl o ?_)
  refine (select_eq (l.val % 16) 3 ht (by omega) _ _).trans (if_congr Iff.rfl rfl ?_)
  refine (select_eq (l.val % 16) 4 ht (by omega) _ _).trans (if_congr Iff.rfl rfl ?_)
  exact (select_eq (l.val % 16) 5 ht (by omega) _ _).trans (if_congr Iff.rfl rfl z)

end Cert.KernelIdeal.Fox

end
-- ==== Proof.FoxScore.lean ====
/- The score of a query and a key: the product of their joined rows is the scaled product of the head's lanes plus the
   difference of the cumulative gates, all times `1/log 2`. -/
module

public import proofs.«01_k».proof.Proof.FoxSoftmax
public import proofs.«01_k».proof.Proof.FoxHost

@[expose] public section

noncomputable section

namespace Cert.KernelIdeal.Fox

open Idealize.ShloMosaic hiding ix1 ix2 ix3 ix4 eq_ix1 eq_ix2 eq_ix3
open Idealize.ShloMosaic.TcCoe Cert.KernelIdeal.Gen
open Idealize.ShloMosaic.ValueIdx (ix1 ix2 ix3 ix4 eq_ix1 eq_ix2 eq_ix3)

theorem coe_sum {n : Nat} (f : Fin n → ℝ) : (∑ s, (f s : EReal)) = ((∑ s, f s : ℝ) : EReal) := by
  have key : ∀ T : Finset (Fin n), (∑ s ∈ T, (f s : EReal)) = ((∑ s ∈ T, f s : ℝ) : EReal) := fun T => by
    induction T using Finset.induction_on with
    | empty => simp
    | insert a T ha ih => rw [Finset.sum_insert ha, Finset.sum_insert ha, ih, EReal.coe_add]
  exact key _

/-- The sixteen lanes of two real gates multiply to their difference: the remainders are zero. -/
theorem gate_lanes (a b : ℝ) : ∑ t : Fin 16, queryLane (a : EReal) t.val * keyLane (b : EReal) t.val = ((a - b : ℝ) : EReal) := by
  have ha : (a : EReal) - a = ((0 : ℝ) : EReal) := by rw [← EReal.coe_sub, sub_self]
  have hb : (b : EReal) - b = ((0 : ℝ) : EReal) := by rw [← EReal.coe_sub, sub_self]
  simp only [Fin.sum_univ_succ, Fin.sum_univ_zero, queryLane, keyLane, ha, hb]
  simp [sub_eq_add_neg]

variable {x0 x1 : Vec Ideal S1x2048x256 .bf16} {x3 x4 : Vec Ideal S1x2048x128 .bf16} {g : Nat} {hd : Fin 4} {r s : Fin 2048}

theorem qx_pair (c : Fin 256) (h : c.val < 128) (hm : 64 * (hd.val % 2) ≤ c.val ∧ c.val < 64 * (hd.val % 2) + 64) :
    qx x0 x3 g hd r c = x0 (ix3 0 r ⟨128 * (hd.val / 2) + c.val, by omega⟩) := by
  unfold qx; rw [dif_pos h, if_pos hm]
theorem qx_other (c : Fin 256) (h : c.val < 128) (hm : ¬ (64 * (hd.val % 2) ≤ c.val ∧ c.val < 64 * (hd.val % 2) + 64)) : qx x0 x3 g hd r c = 0 := by
  unfold qx; rw [dif_pos h, if_neg hm]
theorem qx_gate (c : Fin 256) (h : ¬ c.val < 128) (hm : 16 * (4 * g + hd.val) ≤ c.val - 128 ∧ c.val - 128 < 16 * (4 * g + hd.val) + 16) :
    qx x0 x3 g hd r c = x3 (ix3 0 r ⟨c.val - 128, by omega⟩) := by
  unfold qx; rw [dif_neg h, if_pos hm]
theorem qx_gate_other (c : Fin 256) (h : ¬ c.val < 128) (hm : ¬ (16 * (4 * g + hd.val) ≤ c.val - 128 ∧ c.val - 128 < 16 * (4 * g + hd.val) + 16)) :
    qx x0 x3 g hd r c = 0 := by
  unfold qx; rw [dif_neg h, if_neg hm]
theorem kx_pair (c : Fin 256) (h : c.val < 128) : kx x1 x4 hd s c = x1 (ix3 0 s ⟨128 * (hd.val / 2) + c.val, by omega⟩) := by
  unfold kx; rw [dif_pos h]
theorem kx_gate (c : Fin 256) (h : ¬ c.val < 128) : kx x1 x4 hd s c = x4 (ix3 0 s ⟨c.val - 128, by omega⟩) := by
  unfold kx; rw [dif_neg h]

theorem score_eq (hg : g < 2) (q k : Fin 64 → ℝ) (a b : ℝ)
    (h0 : ∀ d : Fin 64, x0 (ix3 0 r ⟨64 * hd.val + d.val, by omega⟩) = (q d : EReal) * queryScale)
    (h1 : ∀ d : Fin 64, x1 (ix3 0 s ⟨64 * hd.val + d.val, by omega⟩) = (k d : EReal))
    (h3 : ∀ t : Fin 16, x3 (ix3 0 r ⟨16 * (4 * g + hd.val) + t.val, by omega⟩) = queryLane ((a : EReal) * log2e) t.val)
    (h4 : ∀ t : Fin 16, x4 (ix3 0 s ⟨16 * (4 * g + hd.val) + t.val, by omega⟩) = keyLane ((b : EReal) * log2e) t.val) :
    score x0 x1 x3 x4 g hd r s = ((((∑ d, q d * k d) * (1 / 8) + (a - b)) * (Real.log 2)⁻¹ : ℝ) : EReal) := by
  unfold score
  refine (Fin.sum_univ_add (a := 128) (b := 128) fun c : Fin 256 => qx x0 x3 g hd r c * kx x1 x4 hd s c).trans ?_
  have e1 : ∑ c : Fin 128, qx x0 x3 g hd r (Fin.castAdd 128 c) * kx x1 x4 hd s (Fin.castAdd 128 c)
      = (((∑ d, q d * k d) * (1 / 8 * (Real.log 2)⁻¹) : ℝ) : EReal) := by
    refine (sum_block (L := 128) (W := 64) (64 * (hd.val % 2)) (by omega) _ fun l hl => ?_).trans ?_
    · rw [qx_other (Fin.castAdd 128 l) l.isLt hl, zero_mul]
    · rw [Finset.sum_mul, ← coe_sum]
      refine Finset.sum_congr rfl fun d _ => ?_
      have hl : 64 * (hd.val % 2) + d.val < 128 := by omega
      have hm : 64 * (hd.val % 2) ≤ 64 * (hd.val % 2) + d.val ∧ 64 * (hd.val % 2) + d.val < 64 * (hd.val % 2) + 64 := by omega
      rw [qx_pair (Fin.castAdd 128 ⟨64 * (hd.val % 2) + d.val, hl⟩) hl hm, kx_pair (Fin.castAdd 128 ⟨64 * (hd.val % 2) + d.val, hl⟩) hl]
      have ei : (⟨128 * (hd.val / 2) + (Fin.castAdd 128 (⟨64 * (hd.val % 2) + d.val, hl⟩ : Fin 128)).val, by show 128 * (hd.val / 2) + (64 * (hd.val % 2) + d.val) < 256; omega⟩ : Fin 256)
          = ⟨64 * hd.val + d.val, by omega⟩ := Fin.ext (by show 128 * (hd.val / 2) + (64 * (hd.val % 2) + d.val) = 64 * hd.val + d.val; omega)
      rw [ei, h0, h1, queryScale_eq, ← EReal.coe_mul, ← EReal.coe_mul]
      congr 1; ring
  have e2 : ∑ c : Fin 128, qx x0 x3 g hd r (Fin.natAdd 128 c) * kx x1 x4 hd s (Fin.natAdd 128 c)
      = ((a * (Real.log 2)⁻¹ - b * (Real.log 2)⁻¹ : ℝ) : EReal) := by
    refine (sum_block (L := 128) (W := 16) (16 * (4 * g + hd.val)) (by omega) _ fun l hl => ?_).trans ?_
    · rw [qx_gate_other (Fin.natAdd 128 l) (by show ¬ 128 + l.val < 128; omega)
        (by show ¬ (16 * (4 * g + hd.val) ≤ 128 + l.val - 128 ∧ 128 + l.val - 128 < 16 * (4 * g + hd.val) + 16); omega), zero_mul]
    · rw [← gate_lanes]
      refine Finset.sum_congr rfl fun t _ => ?_
      have hl : 16 * (4 * g + hd.val) + t.val < 128 := by omega
      have hn : ¬ (Fin.natAdd 128 (⟨16 * (4 * g + hd.val) + t.val, hl⟩ : Fin 128)).val < 128 := by show ¬ 128 + (16 * (4 * g + hd.val) + t.val) < 128; omega
      rw [qx_gate (Fin.natAdd 128 ⟨16 * (4 * g + hd.val) + t.val, hl⟩) hn
          (by show 16 * (4 * g + hd.val) ≤ 128 + (16 * (4 * g + hd.val) + t.val) - 128 ∧ 128 + (16 * (4 * g + hd.val) + t.val) - 128 < 16 * (4 * g + hd.val) + 16; omega),
        kx_gate (Fin.natAdd 128 ⟨16 * (4 * g + hd.val) + t.val, hl⟩) hn]
      have ei : (⟨(Fin.natAdd 128 (⟨16 * (4 * g + hd.val) + t.val, hl⟩ : Fin 128)).val - 128, by show 128 + (16 * (4 * g + hd.val) + t.val) - 128 < 128; omega⟩ : Fin 128)
          = ⟨16 * (4 * g + hd.val) + t.val, hl⟩ := Fin.ext (by show 128 + (16 * (4 * g + hd.val) + t.val) - 128 = 16 * (4 * g + hd.val) + t.val; omega)
      rw [ei, h3, h4, log2e_eq, EReal.coe_mul, EReal.coe_mul]
  refine (congr (congrArg HAdd.hAdd e1) e2).trans ?_
  rw [← EReal.coe_add]
  congr 1; ring

end Cert.KernelIdeal.Fox

end
-- ==== Proof.FoxReference.lean ====
/- The reference's attention at an index: the softmax of the masked, gated scores of a row, times the values and summed;
   and its weights at an index. -/
module

public import proofs.«01_k».proof.Proof.Gen.ReferenceIdeal.Read
public import Idealize.ShloMosaic.Lib.IdealHost
public import Idealize.ShloMosaic.Lib.Pointwise.Reduce
public import Idealize.ShloMosaic.Lib.StableHlo.ReadAt
public import Idealize.ShloMosaic.Lib.WordCmp

@[expose] public section

set_option maxRecDepth 16384

noncomputable section

namespace Cert.ReferenceIdeal.Fox

open Idealize.ShloMosaic hiding ix1 ix2 ix3 ix4 eq_ix1 eq_ix2 eq_ix3
open Idealize.ShloMosaic.TcCoe Cert.ReferenceIdeal Cert.ReferenceIdeal.Read
open Idealize.ShloMosaic.ValueIdx (ix1 ix2 ix3 ix4 eq_ix1 eq_ix2 eq_ix3)

variable (q k v : Vec Ideal S8x2048x8x64 .f32) (G : Vec Ideal S8x8x2048 .f32) (w : Vec Ideal S4x1024x6824 .f32)

/-- The gated score of a query and a key of a head. -/
def score (b h : Fin 8) (r s : Fin 2048) : EReal :=
  (∑ d : Fin 64, q (ix4 b r h d) * k (ix4 b s h d)) * Ideal.ofBits .f32 0x3E000000#32 + (G (ix3 b h r) - G (ix3 b h s))

/-- The same, masked after the query. -/
def masked (b h : Fin 8) (r s : Fin 2048) : EReal := if s.val ≤ r.val then score q k G b h r s else ⊥

def top (b h : Fin 8) (r : Fin 2048) : EReal := Finset.univ.sup fun s => masked q k G b h r s

theorem neg_inf : Ideal.ofBits .f32 0xFF800000#32 = ⊥ := by simp [Ideal.ofBits, Ideal.ieee]

theorem v16_at (b h : Fin 8) (r s : Fin 2048) : val_main_v16 (F := Ideal) q k G (ix4 b h r s) = masked q k G b h r s := by
  rw [val_main_v16_apply, val_main_call0_v1_apply, val_main_v9_apply, val_main_v15_apply, val_main_v2_apply, val_main_v0_apply,
    val_main_v1_apply, val_main_v14_apply, val_main_v12_apply, val_main_v13_apply, val_main_v10_apply, val_main_v11_apply,
    val_main_call0_v2_apply, val_main_call0_v0_apply, val_main_v7_apply, val_main_v8_apply, val_main_v4_apply, val_main_v6_apply]
  have hc : ∀ x y : EReal, Scalar.select (IntOp.cmpi .sle (BitVec.ofNat 32 s.val) (BitVec.ofNat 32 r.val)) x y = if s.val ≤ r.val then x else y := fun x y => by
    rw [WordCmp.cmpi_sle_ofNat (by omega) (by omega), Scalar.select_decide]
  refine (hc _ _).trans (if_congr Iff.rfl ?_ neg_inf)
  unfold score
  show (∑ d : Fin 64, q (lidx_main_v0 (ix4 b h r s) d) * k (ridx_main_v0 (ix4 b h r s) d)) * Ideal.ofBits .f32 0x3E000000#32 + ((_ : EReal) - _) = _
  refine congr (congrArg HAdd.hAdd (congr (congrArg HMul.hMul (Finset.sum_congr rfl fun d _ => ?_)) rfl)) (congr (congrArg HSub.hSub ?_) ?_)
  · refine congr (congrArg HMul.hMul (congrArg q (funext fun a => Fin.ext ?_))) (congrArg k (funext fun a => Fin.ext ?_)) <;> fin_cases a <;> rfl
  · exact congrArg G (funext fun a => Fin.ext (by fin_cases a <;> rfl))
  · exact congrArg G (funext fun a => Fin.ext (by fin_cases a <;> rfl))

theorem v17_at (b h : Fin 8) (r : Fin 2048) : val_main_v17 (F := Ideal) q k G (ix3 b h r) = top q k G b h r := by
  unfold val_main_v17
  rw [Host.reduce_eq_fold, Shape.ReducesTo.fold_fiber_r4_a3]
  show (Finset.univ : Finset (Fin 2048)).fold max (Ideal.ofBits .f32 0xFF800000#32) (fun s => val_main_v16 (F := Ideal) q k G (ix4 b h r s)) = _
  rw [neg_inf]
  simp only [v16_at]
  rfl

theorem v19_at (b h : Fin 8) (r : Fin 2048) : val_main_v19 (F := Ideal) q k G (ix3 b h r) = top q k G b h r := by
  rw [val_main_v19_apply, v17_at, val_main_v18_apply, val_main_cst_2_apply]
  show max (Ideal.ofBits .f32 0xFF800000#32) (top q k G b h r) = _
  rw [neg_inf]
  exact max_eq_right bot_le

theorem v23_at (b h : Fin 8) (r s : Fin 2048) :
    val_main_v23 (F := Ideal) q k G (ix4 b h r s) = Ideal.exp (masked q k G b h r s - top q k G b h r) := by
  rw [val_main_v23_apply, val_main_v22_apply, v16_at, val_main_v21_apply, val_main_v20_apply]
  show Ideal.exp (_ - val_main_v19 (F := Ideal) q k G _) = _
  rw [← v19_at]
  exact congrArg (fun y => Ideal.exp (_ - val_main_v19 (F := Ideal) q k G y)) (funext fun a => Fin.ext (by fin_cases a <;> rfl))

theorem v26_at (b h : Fin 8) (r s : Fin 2048) :
    val_main_v26 (F := Ideal) q k G (ix4 b h r s) = ∑ s, Ideal.exp (masked q k G b h r s - top q k G b h r) := by
  rw [val_main_v26_apply, val_main_v25_apply, val_main_v24_apply, val_main_cst_3_apply]
  show Ideal.ofBits .f32 0x00000000#32 + _ = _
  rw [Ideal.ofBits_zero_f32, zero_add]
  refine Finset.sum_congr rfl fun s _ => ?_
  rw [← v23_at]
  exact congrArg (val_main_v23 (F := Ideal) q k G) (funext fun a => Fin.ext (by fin_cases a <;> rfl))

/-- The attention's result at an index. -/
theorem v34_at (b : Fin 8) (r : Fin 2048) (l : Fin 512) :
    val_main_v34 (F := Ideal) q k v G (ix3 b r l)
      = ∑ s : Fin 2048, v (ix4 b s ⟨l.val / 64, by omega⟩ ⟨l.val % 64, by omega⟩)
          * Ideal.div (Ideal.exp (masked q k G b ⟨l.val / 64, by omega⟩ r s - top q k G b ⟨l.val / 64, by omega⟩ r))
              (∑ s, Ideal.exp (masked q k G b ⟨l.val / 64, by omega⟩ r s - top q k G b ⟨l.val / 64, by omega⟩ r)) := by
  rw [val_main_v34_apply, val_main_v30_apply, val_main_v29_apply, val_main_v28_apply]
  refine Finset.sum_congr rfl fun s _ => ?_
  rw [val_main_v27_apply]
  have e1 : lidx_main_v28 (idx_main_v29 (idx_main_v30 (ix3 b r l))) s = ix4 b s ⟨l.val / 64, by omega⟩ ⟨l.val % 64, by omega⟩ := by
    funext a; apply Fin.ext; fin_cases a
    · show ((b.val * 2048 + r.val) * 512 + l.val) / 1048576 = b.val; omega
    · rfl
    · show ((b.val * 2048 + r.val) * 512 + l.val) / 64 % 8 = l.val / 64; omega
    · show ((b.val * 2048 + r.val) * 512 + l.val) % 64 = l.val % 64; omega
  have e2 : ridx_main_v28 (idx_main_v29 (idx_main_v30 (ix3 b r l))) s = ix4 b ⟨l.val / 64, by omega⟩ r s := by
    funext a; apply Fin.ext; fin_cases a
    · show ((b.val * 2048 + r.val) * 512 + l.val) / 1048576 = b.val; omega
    · show ((b.val * 2048 + r.val) * 512 + l.val) / 64 % 8 = l.val / 64; omega
    · show ((b.val * 2048 + r.val) * 512 + l.val) / 512 % 2048 = r.val; omega
    · rfl
  rw [e1, e2, v23_at, v26_at]
  rfl

/-- The weights' result at an index. -/
theorem v36_at (n : Fin 3072) (k : Fin 1024) : val_main_v36 (F := Ideal) w (ix2 n k) = w (ix3 0 k ⟨3752 + n.val, by omega⟩) := by
  rw [val_main_v36_apply, val_main_v35_apply, val_main_v33_apply, val_main_v32_apply, val_main_v31_apply]
  refine congrArg w (funext fun a => Fin.ext ?_)
  fin_cases a
  · rfl
  · show (k.val * 6824 + (3752 + n.val)) / 6824 % 1024 = k.val; omega
  · show (k.val * 6824 + (3752 + n.val)) % 6824 = 3752 + n.val; omega

end Cert.ReferenceIdeal.Fox

end
-- ==== Proof.FoxMean.lean ====
/- The mean a grid point's blocks give, over the arguments: where queries, keys and gates are real, it is the
   reference's softmax mean. -/
module

public import proofs.«01_k».proof.Proof.FoxArrays
public import proofs.«01_k».proof.Proof.FoxScore
public import proofs.«01_k».proof.Proof.FoxUnits
public import proofs.«01_k».proof.Proof.FoxReference

@[expose] public section

noncomputable section

namespace Cert.KernelIdeal.Fox

open Idealize.ShloMosaic hiding ix1 ix2 ix3 ix4 eq_ix1 eq_ix2 eq_ix3
open Idealize.ShloMosaic.TcCoe Cert.KernelIdeal Cert.KernelIdeal.Gen
open Idealize.ShloMosaic.ValueIdx (ix1 ix2 ix3 ix4 eq_ix1 eq_ix2 eq_ix3)

variable (m : (ℓ : Loc nD τ sig) → Buf (Elt Ideal) ℓ) (c : Dev nD)

/-- Queries, keys and gates of core `c` are real numbers. -/
structure Finite : Prop where
  q : ∀ b s h d, ∃ x : ℝ, argQ m c b s h d = (x : EReal)
  k : ∀ b s h d, ∃ x : ℝ, argK m c b s h d = (x : EReal)
  g : ∀ b h s, ∃ x : ℝ, argG m c b h s = (x : EReal)

theorem queryLane_congr {x y : EReal} {s t : Nat} (h : x = y) (ht : s = t) : queryLane x s = queryLane y t := by rw [h, ht]
theorem keyLane_congr {x y : EReal} {s t : Nat} (h : x = y) (ht : s = t) : keyLane x s = keyLane y t := by rw [h, ht]

/-- The head, among eight, of head `hd` of the group of point `t`. -/
abbrev headAt (t : Fin cfg0.N) (hd : Fin 4) : Fin 8 := ⟨4 * (t.val % 2) + hd.val, by omega⟩

theorem score_blocks (t : Fin cfg0.N) (hd : Fin 4) (r s : Fin 2048) (q k : Fin 64 → ℝ) (a b : ℝ)
    (hq : ∀ d, argQ m c (batch t) r (headAt t hd) d = (q d : EReal)) (hk : ∀ d, argK m c (batch t) s (headAt t hd) d = (k d : EReal))
    (ha : argG m c (batch t) (headAt t hd) r = (a : EReal)) (hb : argG m c (batch t) (headAt t hd) s = (b : EReal)) :
    score (iblk m c 0 t) (iblk m c 1 t) (iblk m c 3 t) (iblk m c 4 t) (t.val % 2) hd r s
      = ((((∑ d, q d * k d) * (1 / 8) + (a - b)) * (Real.log 2)⁻¹ : ℝ) : EReal) := by
  refine score_eq (by omega) q k a b (fun d => ?_) (fun d => ?_) (fun l => ?_) fun l => ?_
  · refine (block0 m c t 0 r ⟨64 * hd.val + d.val, by omega⟩).trans ((V_q m c _ _ _).trans ?_)
    rw [← hq d]
    refine congrArg (· * queryScale) (congr (congrArg (argQ m c (batch t) r) (Fin.ext ?_)) (Fin.ext ?_))
    · show (256 * (t.val % 2) + (64 * hd.val + d.val)) / 64 = 4 * (t.val % 2) + hd.val; omega
    · show (256 * (t.val % 2) + (64 * hd.val + d.val)) % 64 = d.val; omega
  · refine (block1 m c t 0 s ⟨64 * hd.val + d.val, by omega⟩).trans ((V_k m c _ _ _).trans ?_)
    rw [← hk d]
    refine congr (congrArg (argK m c (batch t) s) (Fin.ext ?_)) (Fin.ext ?_)
    · show (256 * (t.val % 2) + (64 * hd.val + d.val)) / 64 = 4 * (t.val % 2) + hd.val; omega
    · show (256 * (t.val % 2) + (64 * hd.val + d.val)) % 64 = d.val; omega
  · refine (block3 m c t 0 r ⟨16 * (4 * (t.val % 2) + hd.val) + l.val, by omega⟩).trans ((V_aq m c _ _ _).trans ?_)
    rw [← ha]
    refine queryLane_congr (congrArg (· * log2e) (congrArg (fun h => argG m c (batch t) h r) (Fin.ext ?_))) ?_
    · show (16 * (4 * (t.val % 2) + hd.val) + l.val) / 16 = 4 * (t.val % 2) + hd.val; omega
    · show (16 * (4 * (t.val % 2) + hd.val) + l.val) % 16 = l.val; omega
  · refine (block4 m c t 0 s ⟨16 * (4 * (t.val % 2) + hd.val) + l.val, by omega⟩).trans ((V_ak m c _ _ _).trans ?_)
    rw [← hb]
    refine keyLane_congr (congrArg (· * log2e) (congrArg (fun h => argG m c (batch t) h s) (Fin.ext ?_))) ?_
    · show (16 * (4 * (t.val % 2) + hd.val) + l.val) / 16 = 4 * (t.val % 2) + hd.val; omega
    · show (16 * (4 * (t.val % 2) + hd.val) + l.val) % 16 = l.val; omega

theorem eighth : Ideal.ofBits .f32 0x3E000000#32 = ((1 / 8 : ℝ) : EReal) := by simp [Ideal.ofBits, Ideal.ieee, -EReal.coe_mul]; norm_num

/-- The mean of a row whose scores are real, as a softmax's. -/
theorem mean_of {x0 x1 x2 : Vec Ideal S1x2048x256 .bf16} {x3 x4 : Vec Ideal S1x2048x128 .bf16} {g : Nat} {hd : Fin 4} {r : Fin 2048} {l : Fin 128}
    (S : Fin 2048 → ℝ) (hS : ∀ s, score x0 x1 x3 x4 g hd r s = ((S s * (Real.log 2)⁻¹ : ℝ) : EReal))
    (v : Fin 2048 → EReal) (hv : ∀ s, x2 (ix3 0 s ⟨128 * (hd.val / 2) + l.val, by omega⟩) = v s)
    (M : Fin 2048 → EReal) (hM : ∀ s, M s = if s.val ≤ r.val then (S s : EReal) else ⊥) :
    mean x0 x1 x2 x3 x4 g hd r l = ∑ s, v s * Ideal.div (Ideal.exp (M s - Finset.univ.sup M)) (∑ s, Ideal.exp (M s - Finset.univ.sup M)) := by
  refine Eq.trans ?_ (mean_eq (fun s : Fin 2048 => s.val ≤ r.val) S r le_rfl v (fun s => masked x0 x1 x3 x4 g hd r s) M (fun s => ?_) hM)
  · unfold mean weight top
    exact congr (congrArg Ideal.div (Finset.sum_congr rfl fun s _ => congrArg (_ * ·) (hv s))) rfl
  · unfold masked
    exact if_congr Iff.rfl (hS s) rfl

/-- The reference's masked score of real queries, keys and gates. -/
theorem masked_of {Q K : Vec Ideal Cert.ReferenceIdeal.S8x2048x8x64 .f32} {G : Vec Ideal Cert.ReferenceIdeal.S8x8x2048 .f32} {b h : Fin 8} {r s : Fin 2048}
    (q k : Fin 64 → ℝ) (x y : ℝ) (hq : ∀ d, Q (ix4 b r h d) = (q d : EReal)) (hk : ∀ d, K (ix4 b s h d) = (k d : EReal))
    (hx : G (ix3 b h r) = (x : EReal)) (hy : G (ix3 b h s) = (y : EReal)) :
    Cert.ReferenceIdeal.Fox.masked Q K G b h r s = if s.val ≤ r.val then (((∑ d, q d * k d) * (1 / 8) + (x - y) : ℝ) : EReal) else ⊥ := by
  unfold Cert.ReferenceIdeal.Fox.masked Cert.ReferenceIdeal.Fox.score
  refine if_congr Iff.rfl ?_ rfl
  rw [eighth, hx, hy, EReal.coe_add, EReal.coe_mul, EReal.coe_sub, ← coe_sum]
  simp only [hq, hk, EReal.coe_mul]

theorem head_wide (t : Fin cfg0.N) (l : Fin 256) (h : (wide t l).val / 64 < 8) : (⟨(wide t l).val / 64, h⟩ : Fin 8) = headAt t (headOf l) := by
  refine Fin.ext ?_
  show (256 * (t.val % 2) + l.val) / 64 = 4 * (t.val % 2) + (2 * (l.val / 128) + l.val % 128 / 64)
  omega

theorem lane_of (l : Fin 256) (h : 128 * ((headOf l).val / 2) + l.val % 128 < 256) : (⟨128 * ((headOf l).val / 2) + l.val % 128, h⟩ : Fin 256) = l := by
  refine Fin.ext ?_
  show 128 * ((2 * (l.val / 128) + l.val % 128 / 64) / 2) + l.val % 128 = l.val
  omega

theorem values_blocks (t : Fin cfg0.N) (l : Fin 256) (s : Fin 2048) :
    (iblk m c 2 t : Vec Ideal S1x2048x256 .bf16) (ix3 0 s l) = argV m c (batch t) s (headAt t (headOf l)) ⟨(wide t l).val % 64, by omega⟩ :=
  (block2 m c t 0 s l).trans ((V_v m c _ _ _).trans (congrArg (fun h => argV m c (batch t) s h _) (head_wide t l _)))

theorem mean_blocks (fin : Finite m c) (t : Fin cfg0.N) (r : Fin 2048) (l : Fin 256) :
    mean (iblk m c 0 t) (iblk m c 1 t) (iblk m c 2 t) (iblk m c 3 t) (iblk m c 4 t) (t.val % 2) (headOf l) r ⟨l.val % 128, by omega⟩
      = Cert.ReferenceIdeal.Read.val_main_v34 (F := Ideal) (m ((c : Thread nD τ).loc main_arg0)) (m ((c : Thread nD τ).loc main_arg1)) (m ((c : Thread nD τ).loc main_arg2))
          (m ((c : Thread nD τ).loc main_arg3)) (ix3 (batch t) r (wide t l)) := by
  obtain ⟨q, hq⟩ := Classical.axiomOfChoice (fin.q (batch t) r (headAt t (headOf l)))
  obtain ⟨k, hk⟩ := Classical.axiomOfChoice (fun s => Classical.axiomOfChoice (fin.k (batch t) s (headAt t (headOf l))))
  obtain ⟨g, hg⟩ := Classical.axiomOfChoice (fin.g (batch t) (headAt t (headOf l)))
  refine Eq.trans (mean_of (fun s => (∑ d, q d * k s d) * (1 / 8) + (g r - g s))
    (fun s => score_blocks m c t (headOf l) r s q (k s) (g r) (g s) hq (hk s) (hg r) (hg s)) _
    (fun s => (congrArg (fun y => (iblk m c 2 t : Vec Ideal S1x2048x256 .bf16) (ix3 0 s y)) (lane_of l _)).trans (values_blocks m c t l s)) _
    (fun s => masked_of q (k s) (g r) (g s) hq (hk s) (hg r) (hg s))) ?_
  refine Eq.trans ?_ (Cert.ReferenceIdeal.Fox.v34_at _ _ _ _ _ _ _).symm
  rw [head_wide]
  rfl

end Cert.KernelIdeal.Fox

end
-- ==== Proof.FoxFinite.lean ====
/- The precondition read back: queries, keys and gates are real numbers. -/
module

public import proofs.«01_k».proof.Proof.FoxMean
public import proofs.«01_k».proof.Proof.Gen.Pre_finite
public import Idealize.ShloMosaic.Lib.ReduceAll
public import Idealize.ShloMosaic.Lib.Pointwise.Select

@[expose] public section

noncomputable section

namespace Cert.KernelIdeal.Fox

open Idealize.ShloMosaic hiding ix1 ix2 ix3 ix4 eq_ix1 eq_ix2 eq_ix3
open Idealize.ShloMosaic.TcCoe Cert.KernelIdeal Cert.KernelIdeal.Gen
open Idealize.ShloMosaic.ValueIdx (ix1 ix2 ix3 ix4 eq_ix1 eq_ix2 eq_ix3)

/-- A value whose magnitude is below infinity is a real number. -/
theorem real_of_lt {x : EReal} (h : Ideal.cmp .olt (max x (-x)) (Ideal.ofBits .f32 0x7F800000#32) = 1#1) : ∃ r : ℝ, x = (r : EReal) := by
  have hi : Ideal.ofBits .f32 0x7F800000#32 = ⊤ := by simp [Ideal.ofBits, Ideal.ieee]
  rw [hi] at h
  have hlt := (Ideal.cmp_olt_eq_one _ _).mp h
  induction x using EReal.rec with
  | bot => simp at hlt
  | top => simp at hlt
  | coe r => exact ⟨r, rfl⟩

instance : Subsingleton Cert.Pre_finite.S_.Idx := ⟨fun a b => funext fun i => i.elim0⟩

theorem finite_of (x0 x1 x2 : Vec Ideal Cert.Pre_finite.S8x2048x8x64 .f32) (x3 : Vec Ideal Cert.Pre_finite.S8x8x2048 .f32) (x4 : Vec Ideal Cert.Pre_finite.S4x1024x6824 .f32)
    (h : Cert.Pre_finite.fn (F := Ideal) x0 x1 x2 x3 x4 = fun _ => 1#1) :
    (∀ i, ∃ r : ℝ, x0 i = (r : EReal)) ∧ (∀ i, ∃ r : ℝ, x1 i = (r : EReal)) ∧ ∀ i, ∃ r : ℝ, x3 i = (r : EReal) := by
  have e := congrFun h (fun a => a.elim0)
  unfold Cert.Pre_finite.fn at e
  dsimp only at e
  obtain ⟨e01, e3⟩ := IntOp.andi_eq_one.mp e
  obtain ⟨e0, e1⟩ := IntOp.andi_eq_one.mp e01
  exact ⟨fun i => real_of_lt (Host.reduce_andi_all _ _ _ _ _ e0 i), fun i => real_of_lt (Host.reduce_andi_all _ _ _ _ _ e1 i),
    fun i => real_of_lt (Host.reduce_andi_all _ _ _ _ _ e3 i)⟩

end Cert.KernelIdeal.Fox

end
-- ==== Proof.FoxResult.lean ====
/- The two arrays the attention call leaves are the two results of the reference. -/
module

public import proofs.«01_k».proof.Proof.FoxRun
public import proofs.«01_k».proof.Proof.FoxCast
public import proofs.«01_k».proof.Proof.FoxFinite
public import proofs.«01_k».proof.Proof.FoxHost

@[expose] public section

noncomputable section

namespace Cert.KernelIdeal.Fox

open Idealize.ShloMosaic hiding ix1 ix2 ix3 ix4 eq_ix1 eq_ix2 eq_ix3
open Idealize.ShloMosaic.TcCoe Cert.KernelIdeal Cert.KernelIdeal.Gen
open Idealize.ShloMosaic.ValueIdx (ix1 ix2 ix3 ix4 eq_ix1 eq_ix2 eq_ix3)

variable (m : (ℓ : Loc nD τ sig) → Buf (Elt Ideal) ℓ) (c : Dev nD)

/-- The grid point that writes lane `l` of batch row `b`. -/
def pointOf (b : Fin 8) (l : Fin 512) : Fin cfg0.N := ⟨2 * b.val + l.val / 256, by rw [show cfg0.N = 16 from N_0]; omega⟩

theorem attn_outs (t : Fin cfg0.N) (u : Fin 1) (r : Fin 2048) (l : Fin 256) :
    (outsAt0 m c t).1 (ix3 u r l)
      = mean (iblk m c 0 t) (iblk m c 1 t) (iblk m c 2 t) (iblk m c 3 t) (iblk m c 4 t) ((grid0.coords t) 1).val (headOf l) r ⟨l.val % 128, by omega⟩ := by
  unfold outsAt0
  dsimp only
  exact attn_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) (iblk m c 0 t) (iblk m c 1 t) (iblk m c 2 t) (iblk m c 3 t) (iblk m c 4 t) (iblk m c 5 t) u r l

theorem cast_outs (t : Fin cfg0.N) (r : Fin 192) (k : Fin 1024) :
    (outsAt0 m c t).2 (ix2 r k) = (iblk m c 5 t : Vec Ideal S1x192x1024 .f32) (ix3 0 r k) := by
  unfold outsAt0
  dsimp only
  exact cast_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) (iblk m c 0 t) (iblk m c 1 t) (iblk m c 2 t) (iblk m c 3 t) (iblk m c 4 t) (iblk m c 5 t) r k

theorem attn_point (fin : Finite m c) (t : Fin cfg0.N) (r : Fin 2048) (l : Fin 256) :
    ((dats m 0 c).arrAt 6 cfg0.N : Vec Ideal S8x2048x512 .bf16) (ix3 (batch t) r (wide t l))
      = Cert.ReferenceIdeal.Read.val_main_v34 (F := Ideal) (m ((c : Thread nD τ).loc main_arg0)) (m ((c : Thread nD τ).loc main_arg1)) (m ((c : Thread nD τ).loc main_arg2))
          (m ((c : Thread nD τ).loc main_arg3)) (ix3 (batch t) r (wide t l)) := by
  rw [attn_at m c t 0 r l, attn_outs, group_eq t]
  exact mean_blocks m c fin t r l

theorem attn_result (fin : Finite m c) :
    ((dats m 0 c).arrAt 6 cfg0.N : Vec Ideal S8x2048x512 .bf16)
      = Cert.ReferenceIdeal.Read.val_main_v34 (F := Ideal) (m ((c : Thread nD τ).loc main_arg0)) (m ((c : Thread nD τ).loc main_arg1)) (m ((c : Thread nD τ).loc main_arg2))
          (m ((c : Thread nD τ).loc main_arg3)) := by
  funext j
  obtain ⟨b, r, l, rfl⟩ : ∃ (b : Fin 8) (r : Fin 2048) (l : Fin 512), j = ix3 b r l := ⟨j 0, j 1, j 2, eq_ix3 j⟩
  have e := attn_point m c fin (pointOf b l) r ⟨l.val % 256, by omega⟩
  have hb : batch (pointOf b l) = b := Fin.ext (by show (2 * b.val + l.val / 256) / 2 = b.val; omega)
  have hl : wide (pointOf b l) ⟨l.val % 256, by omega⟩ = l :=
    Fin.ext (by show 256 * ((2 * b.val + l.val / 256) % 2) + l.val % 256 = l.val; omega)
  rw [hb, hl] at e
  exact e

theorem cast_point (t : Fin cfg0.N) (r : Fin 192) (k : Fin 1024) :
    ((dats m 0 c).arrAt 7 cfg0.N : Vec Ideal S3072x1024 .bf16) (ix2 ⟨192 * t.val + r.val, by have := points t; omega⟩ k)
      = m ((c : Thread nD τ).loc main_arg4) (ix3 0 k ⟨3752 + (192 * t.val + r.val), by have := points t; omega⟩) := by
  rw [cast_at m c t r k, cast_outs, block5 m c t 0 r k]
  refine (V_w m c 0 _ k).trans ?_
  exact congrArg (fun n => m ((c : Thread nD τ).loc main_arg4) (ix3 0 k n)) (Fin.ext (Nat.add_assoc _ _ _))

theorem cast_result :
    ((dats m 0 c).arrAt 7 cfg0.N : Vec Ideal S3072x1024 .bf16)
      = Cert.ReferenceIdeal.Read.val_main_v36 (F := Ideal) (m ((c : Thread nD τ).loc main_arg4)) := by
  funext j
  obtain ⟨n, k, rfl⟩ : ∃ (n : Fin 3072) (k : Fin 1024), j = ix2 n k := ⟨j 0, j 1, eq_ix2 j⟩
  have e := cast_point m c ⟨n.val / 192, by rw [show cfg0.N = 16 from N_0]; omega⟩ ⟨n.val % 192, by omega⟩ k
  have hn : (⟨192 * (n.val / 192) + n.val % 192, by omega⟩ : Fin 3072) = n := Fin.ext (by show 192 * (n.val / 192) + n.val % 192 = n.val; omega)
  have hn' : (⟨3752 + (192 * (n.val / 192) + n.val % 192), by omega⟩ : Fin 6824) = ⟨3752 + n.val, by omega⟩ :=
    Fin.ext (by show 3752 + (192 * (n.val / 192) + n.val % 192) = 3752 + n.val; omega)
  refine Eq.trans (congrArg (fun n => ((dats m 0 c).arrAt 7 cfg0.N : Vec Ideal S3072x1024 .bf16) (ix2 n k)) hn.symm) (e.trans ?_)
  refine (congrArg (fun n => m ((c : Thread nD τ).loc main_arg4) (ix3 0 k n)) hn').trans ?_
  exact (Cert.ReferenceIdeal.Fox.v36_at _ n k).symm

end Cert.KernelIdeal.Fox

end
-- ==== Proof.FoxClaims.lean ====
/- The claims about the attention call. -/
module

public import proofs.«01_k».proof.Defs
public import proofs.«01_k».proof.Proof.FoxResult
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof.Fox

open Idealize.ShloMosaic Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

/-- The reference runs, keeps its arguments and touches no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)
theorem frame_reference_finite : Cert.quiescent_ReferenceIdeal_pre_finite := fun m ρ _ => frame_reference m ρ trivial

theorem preserves : Cert.preserves_Kernel_KernelIdeal :=
  IdealRules.named_const.statement Cert.KernelIdeal.κ "mask" .f32 0xF149F2CA#32 ⊥ rfl

/-- The precondition says of every device's arrays that queries, keys and gates are real. -/
theorem finite (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Fox.Finite m c := by
  obtain ⟨h0, h1, h3⟩ := Cert.KernelIdeal.Fox.finite_of _ _ _ _ _ (h c)
  exact ⟨fun b s h d => h0 _, fun b s h d => h1 _, fun b h s => h3 _⟩

theorem algebraic : Cert.algebraic_KernelIdeal_ReferenceIdeal_pre_finite := by
  intro m ρ m' ρ' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks (F := Ideal) m ρ, ?_⟩
  refine (θ_run Cert.ReferenceIdeal.defs _ _).mono (fun _ h c => ?_) (Cert.ReferenceIdeal.Value.run (F := Ideal) m' ρ')
  obtain ⟨e0, e1, e2, e3, e4⟩ := hagree c
  refine ⟨(h c).1.trans ?_, (h c).2.1.trans ?_, (h c).2.2⟩
  · refine (Cert.ReferenceIdeal.Read.val_main_v34_eq m' c).trans (Eq.trans ?_ (Cert.KernelIdeal.Fox.attn_result m c (finite m hpre c)).symm)
    rw [e0, e1, e2, e3]
  · refine (Cert.ReferenceIdeal.Read.val_main_v36_eq _).trans (Eq.trans ?_ (Cert.KernelIdeal.Fox.cast_result m c).symm)
    rw [e4]

end Cert.Proof.Fox

end
-- ==== Proof.FfnValue.lean ====
/- What the feed-forward call computes of its blocks, at an index: the normalized row, the four chunks of the hidden
   layer, and their sum as one sum over the whole hidden layer. -/
module

public import proofs.«01_k».proof.Proof.Gen.Kernel2Ideal.Value
public import Idealize.ShloMosaic.Lib.ValueIdx
public import Idealize.ShloMosaic.Lib.ValueLayout
public import Idealize.ShloMosaic.Lib.MatmulPlain
public import Idealize.ShloMosaic.Lib.ValueLayoutCasts
public import Idealize.ShloMosaic.Lib.IdealHost
public import Idealize.ShloMosaic.Lib.Pipeline.ValueKit.Tiles

@[expose] public section

set_option maxRecDepth 16384

noncomputable section

namespace Cert.Kernel2Ideal.Ffn

open Idealize.ShloMosaic Idealize.ShloMosaic.TcCoe Cert.Kernel2Ideal Cert.Kernel2Ideal.Gen
open Idealize.ShloMosaic.ValueIdx (ix1 ix2 ix3 ix4 eq_ix1 eq_ix2 eq_ix3)

/-- The root-mean-square normalization of a row by its gains. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The square of the positive part. -/
def reluSq (y : EReal) : EReal := max y 0 * max y 0

/-- A row's part of the result that comes from the hidden units of one family. -/
def part {N : Nat} (x g : Fin 1024 → EReal) (w1 : Fin 1024 → Fin N → EReal) (w2 : Fin N → Fin 1024 → EReal) (d : Fin 1024) : EReal :=
  ∑ f, reluSq (∑ k, rms x g k * w1 k f) * w2 f d

theorem pay3_apply (x : Vec Ideal S1024x1024 .f32) (g : Vec Ideal S1x1024 .f32) (r k : Fin 1024) :
    k0_pay3 x g (ix2 r k) = rms (fun j => x (ix2 r j)) (fun j => g (ix2 0 j)) k := by
  simp only [k0_pay3, k0_pay2, shapeCast_self]
  show (x (ix2 r k) : EReal) * broadcastTo S1024x1024 _ broadcasts_S1024x1_S1024x1024 (ix2 r k)
    * broadcastTo S1024x1024 g broadcasts_S1x1024_S1024x1024 (ix2 r k) = _
  have hb : ∀ v : FVec Ideal S1024x1 .f32, broadcastTo S1024x1024 v broadcasts_S1024x1_S1024x1024 (ix2 r k) = v (ix2 r 0) := fun v =>
    broadcastTo_apply v _ (ix2 r k) (ix2 r 0) (by intro b; fin_cases b <;> rfl)
  rw [hb, ValueIdx.broadcastTo_1b_ab_apply]
  show (x (ix2 r k) : EReal) * Ideal.rsqrt (Ideal.div (shapeCast S1024x1 _ shapeCasts_S1024_S1024x1 (ix2 r 0)) (Ideal.ofBits .f32 0x44800000#32) + Ideal.ofBits .f32 0x358637BD#32) * g (ix2 0 k) = _
  rw [ValueIdx.shapeCast_a_a1_apply]
  have hs : ∀ v : FVec Ideal S1024x1024 .f32, multiReduction (F := Ideal) .add [1] S1024 v 0x00000000#32 reduces_S1024x1024_S1024 (.inl rfl) rfl (ix1 r) = ∑ j, (v (ix2 r j) : EReal) := fun v => by
    refine (Ideal.multiReduction_add_single _ _ _ _ _ _).trans (Finset.sum_congr rfl fun j _ => congrArg v ?_)
    funext b; apply Fin.ext; fin_cases b <;> rfl
  rw [hs]
  rfl

/-- The product of two square blocks, added to nothing. -/
theorem product_apply (a b : FVec Ideal S1024x1024 .bf16) (r c : Fin 1024) :
    matmul dot_S1024x1024_S1024x1024_S1024x1024_1_0_0_1_n_n none a b (constant S1024x1024 .f32 0x00000000#32) (ix2 r c)
      = ∑ k : Fin 1024, (a (ix2 r k) * b (ix2 k c) : EReal) := by
  refine (Ideal.matmul_plain_apply none a b _ r c).trans ?_
  have h0 : (constant S1024x1024 .f32 0x00000000#32 : FVec Ideal _ .f32) (ix2 r c) = (0 : EReal) := Ideal.ofBits_zero_f32
  rw [h0, zero_add]

/-- One chunk of the hidden layer and its product. -/
def chunk (h a b : FVec Ideal S1024x1024 .bf16) : FVec Ideal S1024x1024 .f32 :=
  matmul dot_S1024x1024_S1024x1024_S1024x1024_1_0_0_1_n_n none
    (truncf .bf16 (mulf (maximumf (matmul dot_S1024x1024_S1024x1024_S1024x1024_1_0_0_1_n_n none h a (constant S1024x1024 .f32 0x00000000#32)) (broadcast S1024x1024 (Scalar.ofBits .f32 0x00000000#32)))
      (maximumf (matmul dot_S1024x1024_S1024x1024_S1024x1024_1_0_0_1_n_n none h a (constant S1024x1024 .f32 0x00000000#32)) (broadcast S1024x1024 (Scalar.ofBits .f32 0x00000000#32)))) bitsLt_bf16_f32)
    b (constant S1024x1024 .f32 0x00000000#32)

theorem chunk_apply (h a b : FVec Ideal S1024x1024 .bf16) (r d : Fin 1024) :
    chunk h a b (ix2 r d) = ∑ f : Fin 1024, reluSq (∑ k : Fin 1024, (h (ix2 r k) * a (ix2 k f) : EReal)) * (b (ix2 f d) : EReal) := by
  unfold chunk
  rw [product_apply]
  refine Finset.sum_congr rfl fun f _ => congrArg (· * (b (ix2 f d) : EReal)) ?_
  have hm : maximumf (matmul dot_S1024x1024_S1024x1024_S1024x1024_1_0_0_1_n_n none h a (constant S1024x1024 .f32 0x00000000#32)) (broadcast S1024x1024 (Scalar.ofBits .f32 0x00000000#32)) (ix2 r f)
      = (max (∑ k : Fin 1024, (h (ix2 r k) * a (ix2 k f) : EReal)) 0 : EReal) := by
    show (max (matmul dot_S1024x1024_S1024x1024_S1024x1024_1_0_0_1_n_n none h a (constant S1024x1024 .f32 0x00000000#32) (ix2 r f)) (Ideal.ofBits .f32 0x00000000#32) : EReal) = _
    rw [product_apply, Ideal.ofBits_zero_f32]
  exact congrArg₂ (fun y z : EReal => y * z) hm hm

/-- The body's result is the row and its four chunks. -/
theorem body_apply (x : Vec Ideal S1024x1024 .f32) (g : Vec Ideal S1x1024 .f32) (a0 b0 a1 b1 a2 b2 a3 b3 : Vec Ideal S1024x1024 .bf16) (r d : Fin 1024) :
    k0_pay1 (k0_pay3 x g) (k0_pay4 x g a0 b0) (k0_pay5 x g a1 b1) a2 b2 a3 b3 (ix2 r d)
      = ((((x (ix2 r d) + chunk (k0_pay3 x g) a0 b0 (ix2 r d)) + chunk (k0_pay3 x g) a1 b1 (ix2 r d)) + chunk (k0_pay3 x g) a2 b2 (ix2 r d))
          + chunk (k0_pay3 x g) a3 b3 (ix2 r d) : EReal) := by
  simp only [k0_pay1, k0_pay4, k0_pay5, k0_pay2, shapeCast_self]
  rfl

/-- A sum over the hidden layer in its four quarters. -/
theorem sum_quarters (F : Fin 4096 → EReal) :
    ∑ f, F f = ((∑ f : Fin 1024, F ⟨f.val, by omega⟩ + ∑ f : Fin 1024, F ⟨1024 + f.val, by omega⟩) + ∑ f : Fin 1024, F ⟨2048 + f.val, by omega⟩)
      + ∑ f : Fin 1024, F ⟨3072 + f.val, by omega⟩ := by
  rw [Fin.sum_univ_add (a := 3072) (b := 1024) F, Fin.sum_univ_add (a := 2048) (b := 1024), Fin.sum_univ_add (a := 1024) (b := 1024)]
  rfl

/-- What the body leaves in the result's block, over the blocks it read. -/
theorem out_apply (x0 : Vec Ideal S1024x1024 .f32) (x1 : Vec Ideal S1x1024 .f32) (x2 : Vec Ideal S1024x4096 .bf16) (x3 : Vec Ideal S4096x1024 .bf16) (r d : Fin 1024) :
    out0_4 x0 x1 x2 x3 (ix2 r d)
      = (x0 (ix2 r d) + part (fun j => x0 (ix2 r j)) (fun j => x1 (ix2 0 j)) (fun k f => x2 (ix2 k f)) (fun f d => x3 (ix2 f d)) d : EReal) := by
  have z : (![0, 0] : Fin 2 → Nat) = 0 := by funext a; fin_cases a <;> rfl
  unfold out0_4
  rw [View.canon_unit_zero z, View.ld_unit_zero z, View.ld_unit_zero z, body_apply]
  unfold part
  rw [sum_quarters]
  simp only [chunk_apply, pay3_apply, ← add_assoc]
  have c : ∀ (n : Nat) (hn : n + 1024 ≤ 4096) (inb) (k f : Fin 1024), View.ld x2 (Rect.unit (s := S1024x4096) ![0, n] S1024x1024.size inb) (ix2 k f) = x2 (ix2 k ⟨n + f.val, by omega⟩) :=
    fun n hn inb k f => View.ld_unit_apply_of x2 _ _ _ _ _ (by intro a; fin_cases a <;> simp [ix2])
  have w : ∀ (n : Nat) (hn : n + 1024 ≤ 4096) (inb) (f d : Fin 1024), View.ld x3 (Rect.unit (s := S4096x1024) ![n, 0] S1024x1024.size inb) (ix2 f d) = x3 (ix2 ⟨n + f.val, by omega⟩ d) :=
    fun n hn inb k f => View.ld_unit_apply_of x3 _ _ _ _ _ (by intro a; fin_cases a <;> simp [ix2])
  refine congr (congrArg HAdd.hAdd (congr (congrArg HAdd.hAdd (congr (congrArg HAdd.hAdd (congrArg (x0 (ix2 r d) + · : EReal → EReal) ?_)) ?_)) ?_)) ?_
  · refine Finset.sum_congr rfl fun f _ => ?_
    rw [w 0 (by omega)]
    simp only [c 0 (by omega), zero_add]
  · refine Finset.sum_congr rfl fun f _ => ?_
    rw [w 1024 (by omega)]
    simp only [c 1024 (by omega)]
  · refine Finset.sum_congr rfl fun f _ => ?_
    rw [w 2048 (by omega)]
    simp only [c 2048 (by omega)]
  · refine Finset.sum_congr rfl fun f _ => ?_
    rw [w 3072 (by omega)]
    simp only [c 3072 (by omega)]

end Cert.Kernel2Ideal.Ffn

end
-- ==== Proof.FfnArrays.lean ====
/- The arrays the feed-forward call receives and its result, at an index. -/
module

public import proofs.«01_k».proof.Proof.FfnValue
public import Idealize.ShloMosaic.Lib.StableHlo.ReadAt

@[expose] public section

set_option maxRecDepth 16384

noncomputable section

namespace Cert.Kernel2Ideal.Ffn

open Idealize.ShloMosaic hiding ix1 ix2 ix3 ix4 eq_ix1 eq_ix2 eq_ix3
open Idealize.ShloMosaic.TcCoe Cert.Kernel2Ideal Cert.Kernel2Ideal.Gen
open Idealize.ShloMosaic.ValueIdx (ix1 ix2 ix3 ix4 eq_ix1 eq_ix2 eq_ix3)

variable (m : (ℓ : Loc nD τ sig) → Buf (Elt Ideal) ℓ) (c : Dev nD)

/-- The arguments as functions of their indices; a token is a batch row and a position. -/
abbrev argX (n : Fin 16384) (k : Fin 1024) : EReal := m ((c : Thread nD τ).loc main_arg0) (ix3 ⟨n.val / 2048, by omega⟩ ⟨n.val % 2048, by omega⟩ k)
abbrev argG (k : Fin 1024) : EReal := m ((c : Thread nD τ).loc main_arg1) (ix2 3 k)
abbrev argU (k : Fin 1024) (f : Fin 4096) : EReal := m ((c : Thread nD τ).loc main_arg2) (ix3 3 k f)
abbrev argD (f : Fin 4096) (d : Fin 1024) : EReal := m ((c : Thread nD τ).loc main_arg3) (ix3 3 f d)

theorem V_x (n : Fin 16384) (k : Fin 1024) : V m c main_v0 (ix2 n k) = argX m c n k := by
  unfold V
  after_reads_at
  rfl

theorem V_g (u : Fin 1) (k : Fin 1024) : V m c main_v3 (ix2 u k) = argG m c k := by
  unfold V
  after_reads_at
  rfl

theorem V_up (k : Fin 1024) (f : Fin 4096) : V m c main_v6 (ix2 k f) = argU m c k f := by
  unfold V
  after_reads_at
  rfl

theorem V_down (f : Fin 4096) (d : Fin 1024) : V m c main_v9 (ix2 f d) = argD m c f d := by
  unfold V
  after_reads_at
  rfl

theorem points (t : Fin cfg0.N) : t.val < 16 := lt_of_lt_of_eq t.isLt N_0

theorem at0 (t : Fin cfg0.N) : win0_0.index t 0 = t.val ∧ win0_0.index t 1 = 0 :=
  (by decide +kernel : ∀ t : Fin grid0.N, win0_0.index t 0 = t.val ∧ win0_0.index t 1 = 0) t
theorem at1 (t : Fin cfg0.N) : win0_1.index t 0 = 0 ∧ win0_1.index t 1 = 0 :=
  (by decide +kernel : ∀ t : Fin grid0.N, win0_1.index t 0 = 0 ∧ win0_1.index t 1 = 0) t
theorem at2 (t : Fin cfg0.N) : win0_2.index t 0 = 0 ∧ win0_2.index t 1 = 0 :=
  (by decide +kernel : ∀ t : Fin grid0.N, win0_2.index t 0 = 0 ∧ win0_2.index t 1 = 0) t
theorem at3 (t : Fin cfg0.N) : win0_3.index t 0 = 0 ∧ win0_3.index t 1 = 0 :=
  (by decide +kernel : ∀ t : Fin grid0.N, win0_3.index t 0 = 0 ∧ win0_3.index t 1 = 0) t
theorem at4 (t : Fin cfg0.N) : win0_4.index t 0 = t.val ∧ win0_4.index t 1 = 0 :=
  (by decide +kernel : ∀ t : Fin grid0.N, win0_4.index t 0 = t.val ∧ win0_4.index t 1 = 0) t

/-- Token `r` of tile `t`. -/
abbrev token (t : Fin cfg0.N) (r : Fin 1024) : Fin 16384 := ⟨1024 * t.val + r.val, by have := points t; omega⟩

theorem block0 (t : Fin cfg0.N) (r k : Fin 1024) : (iblk m c 0 t : Vec Ideal S1024x1024 .f32) (ix2 r k) = argX m c (token t r) k := by
  obtain ⟨h0, h1⟩ := at0 t
  refine Eq.trans ?_ (V_x m c (token t r) k)
  unfold iblk
  rw [View.read_apply]
  show V m c main_v0 _ = V m c main_v0 _
  refine congrArg (V m c main_v0) (funext fun a => Fin.ext ?_)
  match a with
  | 0 => show win0_0.index t 0 * 1024 + 1 * r.val = 1024 * t.val + r.val; rw [h0]; omega
  | 1 => show win0_0.index t 1 * 1024 + 1 * k.val = k.val; rw [h1]; omega

theorem block1 (t : Fin cfg0.N) (u : Fin 1) (k : Fin 1024) : (iblk m c 1 t : Vec Ideal S1x1024 .f32) (ix2 u k) = argG m c k := by
  obtain ⟨h0, h1⟩ := at1 t
  refine Eq.trans ?_ (V_g m c u k)
  unfold iblk
  rw [View.read_apply]
  show V m c main_v3 _ = V m c main_v3 _
  refine congrArg (V m c main_v3) (funext fun a => Fin.ext ?_)
  match a with
  | 0 => show win0_1.index t 0 * 1 + 1 * u.val = u.val; rw [h0]; omega
  | 1 => show win0_1.index t 1 * 1024 + 1 * k.val = k.val; rw [h1]; omega

theorem block2 (t : Fin cfg0.N) (k : Fin 1024) (f : Fin 4096) : (iblk m c 2 t : Vec Ideal S1024x4096 .bf16) (ix2 k f) = argU m c k f := by
  obtain ⟨h0, h1⟩ := at2 t
  refine Eq.trans ?_ (V_up m c k f)
  unfold iblk
  rw [View.read_apply]
  show V m c main_v6 _ = V m c main_v6 _
  refine congrArg (V m c main_v6) (funext fun a => Fin.ext ?_)
  match a with
  | 0 => show win0_2.index t 0 * 1024 + 1 * k.val = k.val; rw [h0]; omega
  | 1 => show win0_2.index t 1 * 4096 + 1 * f.val = f.val; rw [h1]; omega

theorem block3 (t : Fin cfg0.N) (f : Fin 4096) (d : Fin 1024) : (iblk m c 3 t : Vec Ideal S4096x1024 .bf16) (ix2 f d) = argD m c f d := by
  obtain ⟨h0, h1⟩ := at3 t
  refine Eq.trans ?_ (V_down m c f d)
  unfold iblk
  rw [View.read_apply]
  show V m c main_v9 _ = V m c main_v9 _
  refine congrArg (V m c main_v9) (funext fun a => Fin.ext ?_)
  match a with
  | 0 => show win0_3.index t 0 * 4096 + 1 * f.val = f.val; rw [h0]; omega
  | 1 => show win0_3.index t 1 * 1024 + 1 * d.val = d.val; rw [h1]; omega

/-- The call's result at a token of a tile. -/
theorem result_at (t : Fin cfg0.N) (r d : Fin 1024) :
    ((dats m 0 c).arrAt 4 cfg0.N : Vec Ideal S16384x1024 .f32) (ix2 (token t r) d)
      = argX m c (token t r) d + part (argX m c (token t r)) (argG m c) (argU m c) (argD m c) d := by
  obtain ⟨h0, h1⟩ := at4 t
  have e := congrFun (Value.blocks4 m c t (flush0_4 t)) (ix2 r d)
  rw [Value.flushed4, View.read_apply] at e
  have p : ((dats m 0 c).arrAt 4 cfg0.N : Vec Ideal S16384x1024 .f32) (ix2 (token t r) d)
      = out0_4 (iblk m c 0 t) (iblk m c 1 t) (iblk m c 2 t) (iblk m c 3 t) (ix2 r d) := by
    refine Eq.trans (congrArg _ (funext fun a => Fin.ext ?_)) e
    match a with
    | 0 => show 1024 * t.val + r.val = win0_4.index t 0 * 1024 + 1 * r.val; rw [h0]; omega
    | 1 => show d.val = win0_4.index t 1 * 1024 + 1 * d.val; rw [h1]; omega
  rw [p, out_apply, block0 m c t r d]
  simp only [block0 m c t r, block1 m c t, block2 m c t, block3 m c t]

/-- The call's result at a token. -/
theorem result_token (n : Fin 16384) (d : Fin 1024) :
    ((dats m 0 c).arrAt 4 cfg0.N : Vec Ideal S16384x1024 .f32) (ix2 n d)
      = argX m c n d + part (argX m c n) (argG m c) (argU m c) (argD m c) d := by
  have e := result_at m c ⟨n.val / 1024, lt_of_lt_of_eq (by omega) N_0.symm⟩ ⟨n.val % 1024, by omega⟩ d
  have h : token ⟨n.val / 1024, lt_of_lt_of_eq (by omega) N_0.symm⟩ ⟨n.val % 1024, by omega⟩ = n := Fin.ext (by show 1024 * (n.val / 1024) + n.val % 1024 = n.val; omega)
  rw [h] at e
  exact e

end Cert.Kernel2Ideal.Ffn

end
-- ==== Proof.FfnReference.lean ====
/- The feed-forward reference at an index. -/
module

public import proofs.«01_k».proof.Proof.FfnValue
public import proofs.«01_k».proof.Proof.Gen.Reference2Ideal.Read

@[expose] public section

set_option maxRecDepth 16384

noncomputable section

namespace Cert.Reference2Ideal.Ffn

open Idealize.ShloMosaic Idealize.ShloMosaic.TcCoe Cert.Reference2Ideal Cert.Reference2Ideal.Gen Cert.Reference2Ideal.Read
open Idealize.ShloMosaic.ValueIdx (ix1 ix2 ix3 ix4 eq_ix1 eq_ix2 eq_ix3)
open Cert.Kernel2Ideal.Ffn (rms reluSq part)

variable (x : (⟨S8x2048x1024, .f32⟩ : BufTy).Contents (Elt Ideal)) (g : (⟨S4x1024, .f32⟩ : BufTy).Contents (Elt Ideal))
  (u : (⟨S4x1024x4096, .f32⟩ : BufTy).Contents (Elt Ideal)) (w : (⟨S4x4096x1024, .f32⟩ : BufTy).Contents (Elt Ideal))

theorem squares_at (b : Fin 8) (s : Fin 2048) : val_main_v3 (F := Ideal) x (ix2 b s) = ∑ j : Fin 1024, (x (ix3 b s j) * x (ix3 b s j) : EReal) := by
  rw [val_main_v3_apply, val_main_cst_apply]
  show Ideal.ofBits .f32 0x00000000#32 + _ = _
  rw [Ideal.ofBits_zero_f32, zero_add]
  refine Finset.sum_congr rfl fun j _ => ?_
  rw [val_main_v2_apply]
  have e : ∀ i : S8x2048x1024.Idx, i = ix3 b s j → FloatOps.mulf (F := Ideal) (φ := .f32) (x i) (x i) = (x (ix3 b s j) * x (ix3 b s j) : EReal) := fun i h => by rw [h]; rfl
  exact e _ (funext fun a => Fin.ext (by fin_cases a <;> rfl))

/-- The normalized rows. -/
theorem v14_at (b : Fin 8) (s : Fin 2048) (k : Fin 1024) :
    val_main_v14 (F := Ideal) x g (ix3 b s k) = rms (fun j => x (ix3 b s j)) (fun j => g (ix2 3 j)) k := by
  rw [val_main_v14_apply, val_main_v11_apply, val_main_v10_apply, val_main_v9_apply, val_main_v8_apply, val_main_v6_apply, val_main_v4_apply,
    val_main_v5_apply, val_main_cst_0_apply, val_main_v7_apply, val_main_cst_1_apply, val_main_v13_apply, val_main_v12_apply, val_main_v1_apply, val_main_v0_apply]
  have e1 : idx_main_v4 (idx_main_v10 (ix3 b s k)) = ix2 b s := funext fun a => Fin.ext (by fin_cases a <;> rfl)
  have e2 : idx_main_v0 (idx_main_v1 (idx_main_v12 (idx_main_v13 (ix3 b s k)))) = ix2 3 k := funext fun a => Fin.ext (by
    have := k.isLt
    fin_cases a
    · rfl
    · show k.val % 1024 = k.val; omega)
  rw [e1, e2, squares_at]
  rfl

/-- The hidden layer before its square. -/
theorem v17_at (b : Fin 8) (s : Fin 2048) (f : Fin 4096) :
    val_main_v17 (F := Ideal) x g u (ix3 b s f) = ∑ k : Fin 1024, rms (fun j => x (ix3 b s j)) (fun j => g (ix2 3 j)) k * (u (ix3 3 k f) : EReal) := by
  rw [val_main_v17_apply]
  refine Finset.sum_congr rfl fun k _ => ?_
  rw [val_main_v16_apply, val_main_v15_apply]
  have e1 : lidx_main_v17 (ix3 b s f) k = ix3 b s k := funext fun a => Fin.ext (by fin_cases a <;> rfl)
  have e2 : idx_main_v15 (idx_main_v16 (ridx_main_v17 (ix3 b s f) k)) = ix3 3 k f := funext fun a => Fin.ext (by
    have := k.isLt; have := f.isLt
    fin_cases a
    · rfl
    · show (k.val * 4096 + f.val) / 4096 % 1024 = k.val; omega
    · show (k.val * 4096 + f.val) % 4096 = f.val; omega)
  rw [e1, e2, v14_at]

theorem v19_at (b : Fin 8) (s : Fin 2048) (f : Fin 4096) :
    val_main_v19 (F := Ideal) x g u (ix3 b s f) = reluSq (∑ k : Fin 1024, rms (fun j => x (ix3 b s j)) (fun j => g (ix2 3 j)) k * (u (ix3 3 k f) : EReal)) := by
  rw [val_main_v19_apply, val_main_v18_apply, v17_at, val_main_call0_v0_apply, val_main_call0_cst_apply]
  show (max _ (Ideal.ofBits .f32 0x00000000#32) * max _ (Ideal.ofBits .f32 0x00000000#32) : EReal) = _
  rw [Ideal.ofBits_zero_f32]
  rfl

theorem v23_at (b : Fin 8) (s : Fin 2048) (d : Fin 1024) :
    val_main_v23 (F := Ideal) x g u w (ix3 b s d)
      = (x (ix3 b s d) + part (fun j => x (ix3 b s j)) (fun j => g (ix2 3 j)) (fun k f => u (ix3 3 k f)) (fun f d => w (ix3 3 f d)) d : EReal) := by
  rw [val_main_v23_apply, val_main_v22_apply]
  refine congrArg (x (ix3 b s d) + · : EReal → EReal) (Finset.sum_congr rfl fun f _ => ?_)
  rw [val_main_v21_apply, val_main_v20_apply]
  have e1 : lidx_main_v22 (ix3 b s d) f = ix3 b s f := funext fun a => Fin.ext (by fin_cases a <;> rfl)
  have e2 : idx_main_v20 (idx_main_v21 (ridx_main_v22 (ix3 b s d) f)) = ix3 3 f d := funext fun a => Fin.ext (by
    have := f.isLt; have := d.isLt
    fin_cases a
    · rfl
    · show (f.val * 1024 + d.val) / 1024 % 4096 = f.val; omega
    · show (f.val * 1024 + d.val) % 1024 = d.val; omega)
  rw [e1, e2, v19_at]

/-- The reference's result at a token. -/
theorem v24_at (n : Fin 16384) (d : Fin 1024) :
    val_main_v24 (F := Ideal) x g u w (ix2 n d)
      = (x (ix3 ⟨n.val / 2048, by omega⟩ ⟨n.val % 2048, by omega⟩ d)
          + part (fun j => x (ix3 ⟨n.val / 2048, by omega⟩ ⟨n.val % 2048, by omega⟩ j)) (fun j => g (ix2 3 j)) (fun k f => u (ix3 3 k f)) (fun f d => w (ix3 3 f d)) d : EReal) := by
  rw [val_main_v24_apply]
  have e : idx_main_v24 (ix2 n d) = ix3 ⟨n.val / 2048, by omega⟩ ⟨n.val % 2048, by omega⟩ d := funext fun a => Fin.ext (by
    have := n.isLt; have := d.isLt
    fin_cases a
    · show (n.val * 1024 + d.val) / 2097152 = n.val / 2048; omega
    · show (n.val * 1024 + d.val) / 1024 % 2048 = n.val % 2048; omega
    · show (n.val * 1024 + d.val) % 1024 = d.val; omega)
  rw [e, v23_at]

end Cert.Reference2Ideal.Ffn

end
-- ==== Proof.FfnClaims.lean ====
/- The claims about the feed-forward call. -/
module

public import proofs.«01_k».proof.Defs
public import proofs.«01_k».proof.Proof.FfnArrays
public import proofs.«01_k».proof.Proof.FfnReference
public import proofs.«01_k».proof.Proof.Gen.Kernel2.Frame
public import proofs.«01_k».proof.Proof.Gen.Reference2Ideal.Run
public import Idealize.ShloMosaic.Adequacy
public import Idealize.ShloMosaic.Init

@[expose] public section

noncomputable section

namespace Cert.Proof.Ffn

open Idealize.ShloMosaic hiding ix2 eq_ix2
open Idealize.SL.Sem
open Idealize.ShloMosaic.ValueIdx (ix2 eq_ix2)

theorem frame_kernel : Cert.quiescent_Kernel2 := fun m ρ _ => Cert.Kernel2.Gen.frame m ρ
theorem frame_ideal : Cert.quiescent_Kernel2Ideal := fun m ρ _ => Cert.Kernel2Ideal.Gen.frame m ρ

/-- The reference runs, keeps its arguments and touches no semaphore. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' hpre hagree
  refine ⟨fun c => (Cert.Kernel2Ideal.Gen.dats m 0 c).arrAt 4 Cert.Kernel2Ideal.cfg0.N, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨e0, e1, e2, e3⟩ := hagree c
  refine ⟨(h c).1.trans ?_, (h c).2⟩
  refine (Cert.Reference2Ideal.Read.val_main_v24_eq _ _ _ _).trans ?_
  rw [e0, e1, e2, e3]
  funext j
  obtain ⟨n, d, rfl⟩ : ∃ (n : Fin 16384) (d : Fin 1024), j = ix2 n d := ⟨j 0, j 1, eq_ix2 j⟩
  exact (Cert.Reference2Ideal.Ffn.v24_at _ _ _ _ n d).trans (Cert.Kernel2Ideal.Ffn.result_token m c n d).symm

end Cert.Proof.Ffn

end
-- ==== Proof.MergeValue.lean ====
/- What the merging call computes of its blocks, at an index: each branch's product under its gate, their sum, and the
   product with the output weights added to the row. -/
module

public import proofs.«01_k».proof.Proof.FfnValue
public import proofs.«01_k».proof.Proof.Gen.Kernel3Ideal.Value

@[expose] public section

set_option maxRecDepth 16384

noncomputable section

namespace Cert.Kernel3Ideal.Merge

open Idealize.ShloMosaic
open Idealize.ShloMosaic.TcCoe Cert.Kernel3Ideal Cert.Kernel3Ideal.Gen
open Idealize.ShloMosaic.ValueIdx (ix1 ix2 ix3 ix4 eq_ix1 eq_ix2 eq_ix3)
open Cert.Kernel2Ideal.Ffn (rms)

/-- A branch's output, projected to the model's width and multiplied by its gate. -/
def gated (x g : Fin 1024 → EReal) (w : Fin 1024 → EReal) (b : EReal) (y : Fin 512 → EReal) (v : Fin 512 → EReal) : EReal :=
  Ideal.logistic (∑ k, rms x g k * w k + b) * ∑ l, y l * v l

/-- The three gated branches of a row, added. -/
def mixed (x g : Fin 1024 → EReal) (w : Fin 1024 → Fin 3072 → EReal) (b : Fin 3072 → EReal) (ya yb yc : Fin 512 → EReal)
    (v : Fin 3 → Fin 512 → Fin 1024 → EReal) (e : Fin 1024) : EReal :=
  gated x g (fun k => w k ⟨e.val, by omega⟩) (b ⟨e.val, by omega⟩) ya (fun l => v 0 l e)
    + gated x g (fun k => w k ⟨1024 + e.val, by omega⟩) (b ⟨1024 + e.val, by omega⟩) yb (fun l => v 1 l e)
    + gated x g (fun k => w k ⟨2048 + e.val, by omega⟩) (b ⟨2048 + e.val, by omega⟩) yc (fun l => v 2 l e)

theorem pay3_apply (x : Vec Ideal S1024x1024 .f32) (g : Vec Ideal S1x1024 .f32) (r k : Fin 1024) :
    k0_pay3 x g (ix2 r k) = rms (fun j => x (ix2 r j)) (fun j => g (ix2 0 j)) k :=
  Cert.Kernel2Ideal.Ffn.pay3_apply x g r k

theorem gates_apply (a b : FVec Ideal S1024x1024 .bf16) (r c : Fin 1024) :
    matmul dot_S1024x1024_S1024x1024_S1024x1024_1_1_0_0_n_n none a b (constant S1024x1024 .f32 0x00000000#32) (ix2 r c)
      = ∑ k : Fin 1024, (a (ix2 r k) * b (ix2 c k) : EReal) := by
  refine (Ideal.matmul_transposedRhs_apply none a b _ r c).trans ?_
  have h0 : (constant S1024x1024 .f32 0x00000000#32 : FVec Ideal _ .f32) (ix2 r c) = (0 : EReal) := Ideal.ofBits_zero_f32
  rw [h0, zero_add]

theorem branch_apply (a : FVec Ideal S1024x512 .bf16) (b : FVec Ideal S512x1024 .bf16) (r c : Fin 1024) :
    matmul dot_S1024x512_S512x1024_S1024x1024_1_0_0_1_n_n none a b (constant S1024x1024 .f32 0x00000000#32) (ix2 r c)
      = ∑ l : Fin 512, (a (ix2 r l) * b (ix2 l c) : EReal) := by
  refine (Ideal.matmul_plain_apply none a b _ r c).trans ?_
  have h0 : (constant S1024x1024 .f32 0x00000000#32 : FVec Ideal _ .f32) (ix2 r c) = (0 : EReal) := Ideal.ofBits_zero_f32
  rw [h0, zero_add]

theorem output_apply (a b : FVec Ideal S1024x1024 .bf16) (r c : Fin 1024) :
    matmul dot_S1024x1024_S1024x1024_S1024x1024_1_0_0_1_n_n none a b (constant S1024x1024 .f32 0x00000000#32) (ix2 r c)
      = ∑ k : Fin 1024, (a (ix2 r k) * b (ix2 k c) : EReal) :=
  Cert.Kernel2Ideal.Ffn.product_apply a b r c

/-- One branch of a tile under its gate. -/
def branchBlock (h w : FVec Ideal S1024x1024 .bf16) (b : FVec Ideal S1x1024 .f32) (y : FVec Ideal S1024x512 .bf16) (v : Vec Ideal S1x512x1024 .bf16) :
    FVec Ideal S1024x1024 .f32 :=
  mulf (logistic (addf (matmul dot_S1024x1024_S1024x1024_S1024x1024_1_1_0_0_n_n none h w (constant S1024x1024 .f32 0x00000000#32))
      (broadcastTo S1024x1024 b broadcasts_S1x1024_S1024x1024)))
    (matmul dot_S1024x512_S512x1024_S1024x1024_1_0_0_1_n_n none y (shapeCast S512x1024 v shapeCasts_S1x512x1024_S512x1024 : FVec Ideal S512x1024 .bf16) (constant S1024x1024 .f32 0x00000000#32))

theorem branchBlock_apply (x : Vec Ideal S1024x1024 .f32) (g : Vec Ideal S1x1024 .f32) (w : FVec Ideal S1024x1024 .bf16) (b : FVec Ideal S1x1024 .f32)
    (y : FVec Ideal S1024x512 .bf16) (v : Vec Ideal S1x512x1024 .bf16) (r e : Fin 1024) :
    branchBlock (k0_pay3 x g) w b y v (ix2 r e)
      = gated (fun j => x (ix2 r j)) (fun j => g (ix2 0 j)) (fun k => w (ix2 e k)) (b (ix2 0 e)) (fun l => y (ix2 r l)) (fun l => v (ix3 0 l e)) := by
  show (Ideal.logistic (matmul dot_S1024x1024_S1024x1024_S1024x1024_1_1_0_0_n_n none (k0_pay3 x g) w (constant S1024x1024 .f32 0x00000000#32) (ix2 r e)
      + broadcastTo S1024x1024 b broadcasts_S1x1024_S1024x1024 (ix2 r e))
    * matmul dot_S1024x512_S512x1024_S1024x1024_1_0_0_1_n_n none y (shapeCast S512x1024 v shapeCasts_S1x512x1024_S512x1024 : FVec Ideal S512x1024 .bf16) (constant S1024x1024 .f32 0x00000000#32) (ix2 r e) : EReal) = _
  rw [gates_apply, branch_apply, ValueIdx.broadcastTo_1b_ab_apply]
  simp only [pay3_apply, ValueIdx.shapeCast_1ab_ab_apply]
  rfl

/-- The body's result is the row and the product of its three gated branches with the output weights. -/
theorem body_apply (x : Vec Ideal S1024x1024 .f32) (g : Vec Ideal S1x1024 .f32) (w0 w1 w2 : Vec Ideal S1024x1024 .bf16) (b0 b1 b2 : Vec Ideal S1x1024 .f32)
    (y0 y1 y2 : Vec Ideal S1024x512 .bf16) (v0 v1 v2 : Vec Ideal S1x512x1024 .bf16) (o : Vec Ideal S1024x1024 .bf16) (r d : Fin 1024) :
    k0_pay1 (k0_pay2 x) (k0_pay3 x g) (k0_pay4 x g w0 b0 y0 v0) (k0_pay5 x g w1) (k0_pay6 b1) y1 v1 w2 b2 y2 v2 o (ix2 r d)
      = (x (ix2 r d) + ∑ e : Fin 1024, (branchBlock (k0_pay3 x g) w0 b0 y0 v0 (ix2 r e) + branchBlock (k0_pay3 x g) w1 b1 y1 v1 (ix2 r e)
          + branchBlock (k0_pay3 x g) w2 b2 y2 v2 (ix2 r e)) * o (ix2 e d) : EReal) := by
  simp only [k0_pay1, k0_pay4, k0_pay5, k0_pay6, k0_pay2, shapeCast_self]
  exact congrArg (x (ix2 r d) + · : EReal → EReal) (output_apply _ _ r d)

/-- What the body leaves in the result's block, over the blocks it read. -/
theorem out_apply (x0 : Vec Ideal S1024x1024 .f32) (x1 x2 x3 : Vec Ideal S1024x512 .bf16) (x4 : Vec Ideal S1x1024 .f32) (x5 : Vec Ideal S3072x1024 .bf16)
    (x6 : Vec Ideal S1x3072 .f32) (x7 : Vec Ideal S3x512x1024 .bf16) (x8 : Vec Ideal S1024x1024 .bf16) (r d : Fin 1024) :
    out0_9 x0 x1 x2 x3 x4 x5 x6 x7 x8 (ix2 r d)
      = (x0 (ix2 r d) + ∑ e : Fin 1024, mixed (fun j => x0 (ix2 r j)) (fun j => x4 (ix2 0 j)) (fun k f => x5 (ix2 f k)) (fun f => x6 (ix2 0 f))
          (fun l => x1 (ix2 r l)) (fun l => x2 (ix2 r l)) (fun l => x3 (ix2 r l)) (fun n l e => x7 (ix3 n l e)) e * x8 (ix2 e d) : EReal) := by
  have z : (![0, 0] : Fin 2 → Nat) = 0 := by funext a; fin_cases a <;> rfl
  have cw : ∀ (n : Nat) (hn : n + 1024 ≤ 3072) (inb) (e k : Fin 1024), View.ld x5 (Rect.unit (s := S3072x1024) ![n, 0] S1024x1024.size inb) (ix2 e k) = x5 (ix2 ⟨n + e.val, by omega⟩ k) :=
    fun n hn inb e k => View.ld_unit_apply_of x5 _ _ _ _ _ (by intro a; fin_cases a <;> simp [ix2])
  have cb : ∀ (n : Nat) (hn : n + 1024 ≤ 3072) (inb) (e : Fin 1024), View.ld x6 (Rect.unit (s := S1x3072) ![0, n] S1x1024.size inb) (ix2 0 e) = x6 (ix2 0 ⟨n + e.val, by omega⟩) :=
    fun n hn inb e => View.ld_unit_apply_of x6 _ _ _ _ _ (by intro a; fin_cases a <;> simp [ix2])
  have cv : ∀ (n : Fin 3) (inb) (l : Fin 512) (e : Fin 1024), View.ld x7 (Rect.unit (s := S3x512x1024) ![n.val, 0, 0] S1x512x1024.size inb) (ix3 0 l e) = x7 (ix3 n l e) :=
    fun n inb l e => View.ld_unit_apply_of x7 _ _ _ _ _ (by intro a; fin_cases a <;> simp [ix3])
  unfold out0_9
  rw [View.canon_unit_zero z, View.ld_unit_zero z, View.ld_unit_zero z, View.ld_unit_zero z, View.ld_unit_zero z, View.ld_unit_zero z, View.ld_unit_zero z, body_apply]
  refine congrArg (x0 (ix2 r d) + · : EReal → EReal) (Finset.sum_congr rfl fun e _ => congrArg (· * (x8 (ix2 e d) : EReal)) ?_)
  rw [branchBlock_apply, branchBlock_apply, branchBlock_apply, cb 0 (by omega), cb 1024 (by omega), cb 2048 (by omega)]
  simp only [cw 0 (by omega), cw 1024 (by omega), cw 2048 (by omega), zero_add]
  unfold mixed
  have v0 := fun inb l => cv 0 inb l e
  have v1 := fun inb l => cv 1 inb l e
  have v2 := fun inb l => cv 2 inb l e
  refine congr (congrArg HAdd.hAdd (congr (congrArg HAdd.hAdd ?_) ?_)) ?_
  · exact congrArg _ (funext fun l => v0 _ l)
  · exact congrArg _ (funext fun l => v1 _ l)
  · exact congrArg _ (funext fun l => v2 _ l)

end Cert.Kernel3Ideal.Merge

end
-- ==== Proof.MergeArrays.lean ====
/- The arrays the merging call receives and its result, at an index. -/
module

public import proofs.«01_k».proof.Proof.MergeValue
public import Idealize.ShloMosaic.Lib.StableHlo.ReadAt

@[expose] public section

set_option maxRecDepth 16384

noncomputable section

namespace Cert.Kernel3Ideal.Merge

open Idealize.ShloMosaic hiding ix1 ix2 ix3 ix4 eq_ix1 eq_ix2 eq_ix3
open Idealize.ShloMosaic.TcCoe Cert.Kernel3Ideal Cert.Kernel3Ideal.Gen
open Idealize.ShloMosaic.ValueIdx (ix1 ix2 ix3 ix4 eq_ix1 eq_ix2 eq_ix3)

variable (m : (ℓ : Loc nD τ sig) → Buf (Elt Ideal) ℓ) (c : Dev nD)

/-- The arguments as functions of their indices; a token is a batch row and a position. -/
abbrev argX (n : Fin 16384) (k : Fin 1024) : EReal := m ((c : Thread nD τ).loc main_arg0) (ix3 ⟨n.val / 2048, by omega⟩ ⟨n.val % 2048, by omega⟩ k)
abbrev argYa (n : Fin 16384) (l : Fin 512) : EReal := m ((c : Thread nD τ).loc main_arg1) (ix3 ⟨n.val / 2048, by omega⟩ ⟨n.val % 2048, by omega⟩ l)
abbrev argYb (n : Fin 16384) (l : Fin 512) : EReal := m ((c : Thread nD τ).loc main_arg2) (ix3 ⟨n.val / 2048, by omega⟩ ⟨n.val % 2048, by omega⟩ l)
abbrev argYc (n : Fin 16384) (l : Fin 512) : EReal := m ((c : Thread nD τ).loc main_arg3) (ix3 ⟨n.val / 2048, by omega⟩ ⟨n.val % 2048, by omega⟩ l)
abbrev argG (k : Fin 1024) : EReal := m ((c : Thread nD τ).loc main_arg4) (ix2 3 k)
abbrev argW (k : Fin 1024) (f : Fin 3072) : EReal := m ((c : Thread nD τ).loc main_arg5) (ix3 3 k ⟨3752 + f.val, by omega⟩)
abbrev argB (f : Fin 3072) : EReal := m ((c : Thread nD τ).loc main_arg6) (ix2 3 f)
abbrev argV (n : Fin 3) (l : Fin 512) (e : Fin 1024) : EReal := m ((c : Thread nD τ).loc main_arg7) (ix4 3 n l e)
abbrev argO (e d : Fin 1024) : EReal := m ((c : Thread nD τ).loc main_arg8) (ix3 3 e d)

theorem V_x (p : Fin 16384) (q : Fin 1024) : V m c main_v5 (ix2 p q) = argX m c p q := by
  unfold V
  after_reads_at
  rfl

theorem V_ya (p : Fin 16384) (q : Fin 512) : V m c main_v7 (ix2 p q) = argYa m c p q := by
  unfold V
  after_reads_at
  rfl

theorem V_yb (p : Fin 16384) (q : Fin 512) : V m c main_v9 (ix2 p q) = argYb m c p q := by
  unfold V
  after_reads_at
  rfl

theorem V_yc (p : Fin 16384) (q : Fin 512) : V m c main_v11 (ix2 p q) = argYc m c p q := by
  unfold V
  after_reads_at
  rfl

theorem V_g (p : Fin 1) (q : Fin 1024) : V m c main_v14 (ix2 p q) = argG m c q := by
  unfold V
  after_reads_at
  rfl

theorem V_w (p : Fin 3072) (q : Fin 1024) : V m c main_v4 (ix2 p q) = argW m c q p := by
  unfold V
  after_reads_at
  rfl

theorem V_b (p : Fin 1) (q : Fin 3072) : V m c main_v17 (ix2 p q) = argB m c q := by
  unfold V
  after_reads_at
  rfl

theorem V_v (p : Fin 3) (q : Fin 512) (s : Fin 1024) : V m c main_v20 (ix3 p q s) = argV m c p q s := by
  unfold V
  after_reads_at
  rfl

theorem V_o (p : Fin 1024) (q : Fin 1024) : V m c main_v23 (ix2 p q) = argO m c p q := by
  unfold V
  after_reads_at
  rfl

theorem points (t : Fin cfg0.N) : t.val < 16 := lt_of_lt_of_eq t.isLt N_0

theorem at0 (t : Fin cfg0.N) : win0_0.index t 0 = t.val ∧ win0_0.index t 1 = 0 :=
  (by decide +kernel : ∀ t : Fin grid0.N, win0_0.index t 0 = t.val ∧ win0_0.index t 1 = 0) t

theorem at1 (t : Fin cfg0.N) : win0_1.index t 0 = t.val ∧ win0_1.index t 1 = 0 :=
  (by decide +kernel : ∀ t : Fin grid0.N, win0_1.index t 0 = t.val ∧ win0_1.index t 1 = 0) t

theorem at2 (t : Fin cfg0.N) : win0_2.index t 0 = t.val ∧ win0_2.index t 1 = 0 :=
  (by decide +kernel : ∀ t : Fin grid0.N, win0_2.index t 0 = t.val ∧ win0_2.index t 1 = 0) t

theorem at3 (t : Fin cfg0.N) : win0_3.index t 0 = t.val ∧ win0_3.index t 1 = 0 :=
  (by decide +kernel : ∀ t : Fin grid0.N, win0_3.index t 0 = t.val ∧ win0_3.index t 1 = 0) t

theorem at4 (t : Fin cfg0.N) : win0_4.index t 0 = 0 ∧ win0_4.index t 1 = 0 :=
  (by decide +kernel : ∀ t : Fin grid0.N, win0_4.index t 0 = 0 ∧ win0_4.index t 1 = 0) t

theorem at5 (t : Fin cfg0.N) : win0_5.index t 0 = 0 ∧ win0_5.index t 1 = 0 :=
  (by decide +kernel : ∀ t : Fin grid0.N, win0_5.index t 0 = 0 ∧ win0_5.index t 1 = 0) t

theorem at6 (t : Fin cfg0.N) : win0_6.index t 0 = 0 ∧ win0_6.index t 1 = 0 :=
  (by decide +kernel : ∀ t : Fin grid0.N, win0_6.index t 0 = 0 ∧ win0_6.index t 1 = 0) t

theorem at7 (t : Fin cfg0.N) : win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0) t

theorem at8 (t : Fin cfg0.N) : win0_8.index t 0 = 0 ∧ win0_8.index t 1 = 0 :=
  (by decide +kernel : ∀ t : Fin grid0.N, win0_8.index t 0 = 0 ∧ win0_8.index t 1 = 0) t

theorem at9 (t : Fin cfg0.N) : win0_9.index t 0 = t.val ∧ win0_9.index t 1 = 0 :=
  (by decide +kernel : ∀ t : Fin grid0.N, win0_9.index t 0 = t.val ∧ win0_9.index t 1 = 0) t

/-- Token `r` of tile `t`. -/
abbrev token (t : Fin cfg0.N) (r : Fin 1024) : Fin 16384 := ⟨1024 * t.val + r.val, by have := points t; omega⟩

theorem block0 (t : Fin cfg0.N) (p : Fin 1024) (q : Fin 1024) : (iblk m c 0 t : Vec Ideal S1024x1024 .f32) (ix2 p q) = argX m c (token t p) q := by
  obtain ⟨h0, h1⟩ := at0 t
  refine Eq.trans ?_ (V_x m c (token t p) q)
  unfold iblk
  rw [View.read_apply]
  show V m c main_v5 _ = V m c main_v5 _
  refine congrArg (V m c main_v5) (funext fun a => Fin.ext ?_)
  match a with
  | 0 => show win0_0.index t 0 * 1024 + 1 * p.val = 1024 * t.val + p.val; rw [h0]; omega
  | 1 => show win0_0.index t 1 * 1024 + 1 * q.val = q.val; rw [h1]; omega

theorem block1 (t : Fin cfg0.N) (p : Fin 1024) (q : Fin 512) : (iblk m c 1 t : Vec Ideal S1024x512 .bf16) (ix2 p q) = argYa m c (token t p) q := by
  obtain ⟨h0, h1⟩ := at1 t
  refine Eq.trans ?_ (V_ya m c (token t p) q)
  unfold iblk
  rw [View.read_apply]
  show V m c main_v7 _ = V m c main_v7 _
  refine congrArg (V m c main_v7) (funext fun a => Fin.ext ?_)
  match a with
  | 0 => show win0_1.index t 0 * 1024 + 1 * p.val = 1024 * t.val + p.val; rw [h0]; omega
  | 1 => show win0_1.index t 1 * 512 + 1 * q.val = q.val; rw [h1]; omega

theorem block2 (t : Fin cfg0.N) (p : Fin 1024) (q : Fin 512) : (iblk m c 2 t : Vec Ideal S1024x512 .bf16) (ix2 p q) = argYb m c (token t p) q := by
  obtain ⟨h0, h1⟩ := at2 t
  refine Eq.trans ?_ (V_yb m c (token t p) q)
  unfold iblk
  rw [View.read_apply]
  show V m c main_v9 _ = V m c main_v9 _
  refine congrArg (V m c main_v9) (funext fun a => Fin.ext ?_)
  match a with
  | 0 => show win0_2.index t 0 * 1024 + 1 * p.val = 1024 * t.val + p.val; rw [h0]; omega
  | 1 => show win0_2.index t 1 * 512 + 1 * q.val = q.val; rw [h1]; omega

theorem block3 (t : Fin cfg0.N) (p : Fin 1024) (q : Fin 512) : (iblk m c 3 t : Vec Ideal S1024x512 .bf16) (ix2 p q) = argYc m c (token t p) q := by
  obtain ⟨h0, h1⟩ := at3 t
  refine Eq.trans ?_ (V_yc m c (token t p) q)
  unfold iblk
  rw [View.read_apply]
  show V m c main_v11 _ = V m c main_v11 _
  refine congrArg (V m c main_v11) (funext fun a => Fin.ext ?_)
  match a with
  | 0 => show win0_3.index t 0 * 1024 + 1 * p.val = 1024 * t.val + p.val; rw [h0]; omega
  | 1 => show win0_3.index t 1 * 512 + 1 * q.val = q.val; rw [h1]; omega

theorem block4 (t : Fin cfg0.N) (p : Fin 1) (q : Fin 1024) : (iblk m c 4 t : Vec Ideal S1x1024 .f32) (ix2 p q) = argG m c q := by
  obtain ⟨h0, h1⟩ := at4 t
  refine Eq.trans ?_ (V_g m c p q)
  unfold iblk
  rw [View.read_apply]
  show V m c main_v14 _ = V m c main_v14 _
  refine congrArg (V m c main_v14) (funext fun a => Fin.ext ?_)
  match a with
  | 0 => show win0_4.index t 0 * 1 + 1 * p.val = p.val; rw [h0]; omega
  | 1 => show win0_4.index t 1 * 1024 + 1 * q.val = q.val; rw [h1]; omega

theorem block5 (t : Fin cfg0.N) (p : Fin 3072) (q : Fin 1024) : (iblk m c 5 t : Vec Ideal S3072x1024 .bf16) (ix2 p q) = argW m c q p := by
  obtain ⟨h0, h1⟩ := at5 t
  refine Eq.trans ?_ (V_w m c p q)
  unfold iblk
  rw [View.read_apply]
  show V m c main_v4 _ = V m c main_v4 _
  refine congrArg (V m c main_v4) (funext fun a => Fin.ext ?_)
  match a with
  | 0 => show win0_5.index t 0 * 3072 + 1 * p.val = p.val; rw [h0]; omega
  | 1 => show win0_5.index t 1 * 1024 + 1 * q.val = q.val; rw [h1]; omega

theorem block6 (t : Fin cfg0.N) (p : Fin 1) (q : Fin 3072) : (iblk m c 6 t : Vec Ideal S1x3072 .f32) (ix2 p q) = argB m c q := by
  obtain ⟨h0, h1⟩ := at6 t
  refine Eq.trans ?_ (V_b m c p q)
  unfold iblk
  rw [View.read_apply]
  show V m c main_v17 _ = V m c main_v17 _
  refine congrArg (V m c main_v17) (funext fun a => Fin.ext ?_)
  match a with
  | 0 => show win0_6.index t 0 * 1 + 1 * p.val = p.val; rw [h0]; omega
  | 1 => show win0_6.index t 1 * 3072 + 1 * q.val = q.val; rw [h1]; omega

theorem block7 (t : Fin cfg0.N) (p : Fin 3) (q : Fin 512) (s : Fin 1024) : (iblk m c 7 t : Vec Ideal S3x512x1024 .bf16) (ix3 p q s) = argV m c p q s := by
  obtain ⟨h0, h1, h2⟩ := at7 t
  refine Eq.trans ?_ (V_v m c p q s)
  unfold iblk
  rw [View.read_apply]
  show V m c main_v20 _ = V m c main_v20 _
  refine congrArg (V m c main_v20) (funext fun a => Fin.ext ?_)
  match a with
  | 0 => show win0_7.index t 0 * 3 + 1 * p.val = p.val; rw [h0]; omega
  | 1 => show win0_7.index t 1 * 512 + 1 * q.val = q.val; rw [h1]; omega
  | 2 => show win0_7.index t 2 * 1024 + 1 * s.val = s.val; rw [h2]; omega

theorem block8 (t : Fin cfg0.N) (p : Fin 1024) (q : Fin 1024) : (iblk m c 8 t : Vec Ideal S1024x1024 .bf16) (ix2 p q) = argO m c p q := by
  obtain ⟨h0, h1⟩ := at8 t
  refine Eq.trans ?_ (V_o m c p q)
  unfold iblk
  rw [View.read_apply]
  show V m c main_v23 _ = V m c main_v23 _
  refine congrArg (V m c main_v23) (funext fun a => Fin.ext ?_)
  match a with
  | 0 => show win0_8.index t 0 * 1024 + 1 * p.val = p.val; rw [h0]; omega
  | 1 => show win0_8.index t 1 * 1024 + 1 * q.val = q.val; rw [h1]; omega

/-- The call's result at a token of a tile. -/
theorem result_at (t : Fin cfg0.N) (r d : Fin 1024) :
    ((dats m 0 c).arrAt 9 cfg0.N : Vec Ideal S16384x1024 .f32) (ix2 (token t r) d)
      = argX m c (token t r) d + ∑ e : Fin 1024, mixed (argX m c (token t r)) (argG m c) (argW m c) (argB m c) (argYa m c (token t r)) (argYb m c (token t r)) (argYc m c (token t r)) (argV m c) e * argO m c e d := by
  obtain ⟨h0, h1⟩ := at9 t
  have e := congrFun (Value.blocks9 m c t (flush0_9 t)) (ix2 r d)
  rw [Value.flushed9, View.read_apply] at e
  have p : ((dats m 0 c).arrAt 9 cfg0.N : Vec Ideal S16384x1024 .f32) (ix2 (token t r) d)
      = out0_9 (iblk m c 0 t) (iblk m c 1 t) (iblk m c 2 t) (iblk m c 3 t) (iblk m c 4 t) (iblk m c 5 t) (iblk m c 6 t) (iblk m c 7 t) (iblk m c 8 t) (ix2 r d) := by
    refine Eq.trans (congrArg _ (funext fun a => Fin.ext ?_)) e
    match a with
    | 0 => show 1024 * t.val + r.val = win0_9.index t 0 * 1024 + 1 * r.val; rw [h0]; omega
    | 1 => show d.val = win0_9.index t 1 * 1024 + 1 * d.val; rw [h1]; omega
  rw [p, out_apply, block0 m c t r d]
  simp only [block0 m c t r, block1 m c t r, block2 m c t r, block3 m c t r, block4 m c t, block5 m c t, block6 m c t, block7 m c t, block8 m c t]

/-- The call's result at a token. -/
theorem result_token (n : Fin 16384) (d : Fin 1024) :
    ((dats m 0 c).arrAt 9 cfg0.N : Vec Ideal S16384x1024 .f32) (ix2 n d)
      = argX m c n d + ∑ e : Fin 1024, mixed (argX m c n) (argG m c) (argW m c) (argB m c) (argYa m c n) (argYb m c n) (argYc m c n) (argV m c) e * argO m c e d := by
  have e := result_at m c ⟨n.val / 1024, lt_of_lt_of_eq (by omega) N_0.symm⟩ ⟨n.val % 1024, by omega⟩ d
  have h : token ⟨n.val / 1024, lt_of_lt_of_eq (by omega) N_0.symm⟩ ⟨n.val % 1024, by omega⟩ = n := Fin.ext (by show 1024 * (n.val / 1024) + n.val % 1024 = n.val; omega)
  rw [h] at e
  exact e

end Cert.Kernel3Ideal.Merge

end
-- ==== Proof.MergeReference.lean ====
/- The merging reference at an index. -/
module

public import proofs.«01_k».proof.Proof.MergeValue
public import proofs.«01_k».proof.Proof.FfnReference
public import proofs.«01_k».proof.Proof.Gen.Reference3Ideal.Read

@[expose] public section

set_option maxRecDepth 16384

noncomputable section

namespace Cert.Reference3Ideal.Merge

open Idealize.ShloMosaic Idealize.ShloMosaic.TcCoe Cert.Reference3Ideal Cert.Reference3Ideal.Gen Cert.Reference3Ideal.Read
open Idealize.ShloMosaic.ValueIdx (ix1 ix2 ix3 ix4 eq_ix1 eq_ix2 eq_ix3)
open Cert.Kernel2Ideal.Ffn (rms)
open Cert.Kernel3Ideal.Merge (gated mixed)

variable (x : (⟨S8x2048x1024, .f32⟩ : BufTy).Contents (Elt Ideal)) (ya yb yc : (⟨S8x2048x512, .f32⟩ : BufTy).Contents (Elt Ideal))
  (g : (⟨S4x1024, .f32⟩ : BufTy).Contents (Elt Ideal)) (w : (⟨S4x1024x6824, .f32⟩ : BufTy).Contents (Elt Ideal)) (bias : (⟨S4x3072, .f32⟩ : BufTy).Contents (Elt Ideal))
  (v : (⟨S4x3x512x1024, .f32⟩ : BufTy).Contents (Elt Ideal)) (o : (⟨S4x1024x1024, .f32⟩ : BufTy).Contents (Elt Ideal))

/-- The normalized rows: the same as the feed-forward call's. -/
theorem v14_at (b : Fin 8) (s : Fin 2048) (k : Fin 1024) :
    val_main_v14 (F := Ideal) x g (ix3 b s k) = rms (fun j => x (ix3 b s j)) (fun j => g (ix2 3 j)) k :=
  Cert.Reference2Ideal.Ffn.v14_at x g b s k

/-- The gates before their sigmoid. -/
theorem v31_at (b : Fin 8) (s : Fin 2048) (f : Fin 3072) :
    val_main_v31 (F := Ideal) x g w bias (ix3 b s f)
      = (∑ k : Fin 1024, rms (fun j => x (ix3 b s j)) (fun j => g (ix2 3 j)) k * (w (ix3 3 k ⟨3752 + f.val, by omega⟩) : EReal)) + bias (ix2 3 f) := by
  rw [val_main_v31_apply, val_main_v18_apply, val_main_v30_apply, val_main_v29_apply, val_main_v28_apply, val_main_v27_apply]
  have e3 : idx_main_v27 (idx_main_v28 (idx_main_v29 (idx_main_v30 (ix3 b s f)))) = ix2 3 f := funext fun a => Fin.ext (by
    have := f.isLt
    fin_cases a
    · rfl
    · show f.val % 3072 = f.val; omega)
  rw [e3]
  refine congrArg (· + bias (ix2 3 f) : EReal → EReal) (Finset.sum_congr rfl fun k _ => ?_)
  rw [val_main_v17_apply, val_main_v16_apply, val_main_v15_apply]
  have e1 : lidx_main_v18 (ix3 b s f) k = ix3 b s k := funext fun a => Fin.ext (by fin_cases a <;> rfl)
  have e2 : idx_main_v15 (idx_main_v16 (idx_main_v17 (ridx_main_v18 (ix3 b s f) k))) = ix3 3 k ⟨3752 + f.val, by omega⟩ := funext fun a => Fin.ext (by
    have := k.isLt; have := f.isLt
    fin_cases a
    · rfl
    · show (k.val * 6824 + (3752 + f.val)) / 6824 % 1024 = k.val; omega
    · show (k.val * 6824 + (3752 + f.val)) % 6824 = 3752 + f.val; omega)
  rw [e1, e2, v14_at]

/-- The gates. -/
theorem v37_at (b : Fin 8) (s : Fin 2048) (f : Fin 3072) :
    val_main_v37 (F := Ideal) x g w bias (ix3 b s f)
      = Ideal.logistic ((∑ k : Fin 1024, rms (fun j => x (ix3 b s j)) (fun j => g (ix2 3 j)) k * (w (ix3 3 k ⟨3752 + f.val, by omega⟩) : EReal)) + bias (ix2 3 f)) := by
  rw [val_main_v37_apply, val_main_v36_apply, val_main_cst_3_apply, val_main_v35_apply, val_main_v34_apply, val_main_cst_2_apply, val_main_v33_apply, val_main_v32_apply, v31_at]
  show Ideal.div (Ideal.ofBits .f32 0x3F800000#32) (Ideal.ofBits .f32 0x3F800000#32 + Ideal.exp (-_)) = _
  rw [Ideal.ofBits_one_f32]
  rfl

/-- The gate of branch `n`. -/
theorem v38_at (b : Fin 8) (s : Fin 2048) (n : Fin 3) (e : Fin 1024) :
    val_main_v38 (F := Ideal) x g w bias (ix4 b s n e) = val_main_v37 (F := Ideal) x g w bias (ix3 b s ⟨1024 * n.val + e.val, by omega⟩) := by
  rw [val_main_v38_apply]
  refine congrArg _ (funext fun a => Fin.ext ?_)
  have := b.isLt; have := s.isLt; have := n.isLt; have := e.isLt
  fin_cases a
  · show (((b.val * 2048 + s.val) * 3 + n.val) * 1024 + e.val) / 6291456 = b.val; omega
  · show (((b.val * 2048 + s.val) * 3 + n.val) * 1024 + e.val) / 3072 % 2048 = s.val; omega
  · show (((b.val * 2048 + s.val) * 3 + n.val) * 1024 + e.val) % 3072 = 1024 * n.val + e.val; omega

/-- Branch `n`'s output. -/
abbrev pick (n : Fin 3) (b : Fin 8) (s : Fin 2048) (l : Fin 512) : EReal :=
  match n with
  | 0 => ya (ix3 b s l)
  | 1 => yb (ix3 b s l)
  | 2 => yc (ix3 b s l)

/-- The branches' outputs side by side. -/
theorem stack_at (b : Fin 8) (s : Fin 2048) (n : Fin 3) (l : Fin 512) : val_main_v22 (F := Ideal) ya yb yc (ix4 b s n l) = pick ya yb yc n b s l := by
  unfold val_main_v22
  concat_tiles i h
  · obtain rfl : n = 0 := Fin.ext h
    rw [val_main_v19_apply]
    exact congrArg ya (funext fun a => Fin.ext (by fin_cases a; exacts [h0, h1, h3]))
  · obtain rfl : n = 1 := Fin.ext h
    rw [val_main_v20_apply]
    exact congrArg yb (funext fun a => Fin.ext (by fin_cases a; exacts [h0, h1, h3]))
  · obtain rfl : n = 2 := Fin.ext h
    rw [val_main_v21_apply]
    exact congrArg yc (funext fun a => Fin.ext (by fin_cases a; exacts [h0, h1, h3]))

/-- The projected branches. -/
theorem v26_at (b : Fin 8) (s : Fin 2048) (n : Fin 3) (e : Fin 1024) :
    val_main_v26 (F := Ideal) ya yb yc v (ix4 b s n e) = ∑ l : Fin 512, (val_main_v22 (F := Ideal) ya yb yc (ix4 b s n l) * v (ix4 3 n l e) : EReal) := by
  rw [val_main_v26_apply, val_main_v25_apply]
  refine Finset.sum_congr rfl fun l _ => ?_
  rw [val_main_v24_apply, val_main_v23_apply]
  have e1 : ridx_main_v25 (idx_main_v26 (ix4 b s n e)) l = ix4 b s n l := funext fun a => Fin.ext (by fin_cases a <;> rfl)
  have e2 : idx_main_v23 (idx_main_v24 (lidx_main_v25 (idx_main_v26 (ix4 b s n e)) l)) = ix4 3 n l e := funext fun a => Fin.ext (by
    have := n.isLt; have := l.isLt; have := e.isLt
    fin_cases a
    · rfl
    · show ((n.val * 512 + l.val) * 1024 + e.val) / 524288 % 3 = n.val; omega
    · show ((n.val * 512 + l.val) * 1024 + e.val) / 1024 % 512 = l.val; omega
    · show ((n.val * 512 + l.val) * 1024 + e.val) % 1024 = e.val; omega)
  rw [e1, e2]
  exact mul_comm (G := EReal) _ _

/-- The gated branches, added. -/
theorem v40_at (b : Fin 8) (s : Fin 2048) (e : Fin 1024) :
    val_main_v40 (F := Ideal) x ya yb yc g w bias v (ix3 b s e)
      = mixed (fun j => x (ix3 b s j)) (fun j => g (ix2 3 j)) (fun k f => w (ix3 3 k ⟨3752 + f.val, by omega⟩)) (fun f => bias (ix2 3 f))
          (fun l => ya (ix3 b s l)) (fun l => yb (ix3 b s l)) (fun l => yc (ix3 b s l)) (fun n l e => v (ix4 3 n l e)) e := by
  rw [val_main_v40_apply, val_main_cst_4_apply]
  show Ideal.ofBits .f32 0x00000000#32 + _ = _
  rw [Ideal.ofBits_zero_f32, zero_add, Fin.sum_univ_three]
  have h : ∀ n : Fin 3, val_main_v39 (F := Ideal) x ya yb yc g w bias v (idx_main_v40 (ix3 b s e) n)
      = (val_main_v37 (F := Ideal) x g w bias (ix3 b s ⟨1024 * n.val + e.val, by omega⟩) * ∑ l : Fin 512, (val_main_v22 (F := Ideal) ya yb yc (ix4 b s n l) * v (ix4 3 n l e) : EReal) : EReal) := fun n => by
    have e1 : idx_main_v40 (ix3 b s e) n = ix4 b s n e := funext fun a => Fin.ext (by fin_cases a <;> rfl)
    rw [e1, val_main_v39_apply, v38_at, v26_at]
    rfl
  rw [h, h, h]
  simp only [stack_at, v37_at]
  unfold mixed gated
  simp

/-- The reference's result at a token. -/
theorem v45_at (n : Fin 16384) (d : Fin 1024) :
    val_main_v45 (F := Ideal) x ya yb yc g w bias v o (ix2 n d)
      = x (ix3 ⟨n.val / 2048, by omega⟩ ⟨n.val % 2048, by omega⟩ d)
        + ∑ e : Fin 1024, (mixed (fun j => x (ix3 ⟨n.val / 2048, by omega⟩ ⟨n.val % 2048, by omega⟩ j)) (fun j => g (ix2 3 j)) (fun k f => w (ix3 3 k ⟨3752 + f.val, by omega⟩))
            (fun f => bias (ix2 3 f)) (fun l => ya (ix3 ⟨n.val / 2048, by omega⟩ ⟨n.val % 2048, by omega⟩ l)) (fun l => yb (ix3 ⟨n.val / 2048, by omega⟩ ⟨n.val % 2048, by omega⟩ l))
            (fun l => yc (ix3 ⟨n.val / 2048, by omega⟩ ⟨n.val % 2048, by omega⟩ l)) (fun n l e => v (ix4 3 n l e)) e * o (ix3 3 e d) : EReal) := by
  have e0 : idx_main_v45 (ix2 n d) = ix3 ⟨n.val / 2048, by omega⟩ ⟨n.val % 2048, by omega⟩ d := funext fun a => Fin.ext (by
    have := n.isLt; have := d.isLt
    fin_cases a
    · show (n.val * 1024 + d.val) / 2097152 = n.val / 2048; omega
    · show (n.val * 1024 + d.val) / 1024 % 2048 = n.val % 2048; omega
    · show (n.val * 1024 + d.val) % 1024 = d.val; omega)
  rw [val_main_v45_apply, e0, val_main_v44_apply, val_main_v43_apply]
  refine congrArg (x _ + · : EReal → EReal) (Finset.sum_congr rfl fun e _ => ?_)
  rw [val_main_v42_apply, val_main_v41_apply]
  have e1 : lidx_main_v43 (ix3 ⟨n.val / 2048, by omega⟩ ⟨n.val % 2048, by omega⟩ d) e = ix3 ⟨n.val / 2048, by omega⟩ ⟨n.val % 2048, by omega⟩ e := funext fun a => Fin.ext (by fin_cases a <;> rfl)
  have e2 : idx_main_v41 (idx_main_v42 (ridx_main_v43 (ix3 ⟨n.val / 2048, by omega⟩ ⟨n.val % 2048, by omega⟩ d) e)) = ix3 3 e d := funext fun a => Fin.ext (by
    have := e.isLt; have := d.isLt
    fin_cases a
    · rfl
    · show (e.val * 1024 + d.val) / 1024 % 1024 = e.val; omega
    · show (e.val * 1024 + d.val) % 1024 = d.val; omega)
  rw [e1, e2, v40_at]

end Cert.Reference3Ideal.Merge

end
-- ==== Proof.MergeClaims.lean ====
/- The claims about the merging call. -/
module

public import proofs.«01_k».proof.Defs
public import proofs.«01_k».proof.Proof.MergeArrays
public import proofs.«01_k».proof.Proof.MergeReference
public import proofs.«01_k».proof.Proof.Gen.Kernel3.Frame
public import proofs.«01_k».proof.Proof.Gen.Reference3Ideal.Run
public import Idealize.ShloMosaic.Adequacy
public import Idealize.ShloMosaic.Init

@[expose] public section

noncomputable section

namespace Cert.Proof.Merge

open Idealize.ShloMosaic hiding ix2 eq_ix2
open Idealize.SL.Sem
open Idealize.ShloMosaic.ValueIdx (ix2 eq_ix2)

theorem frame_kernel : Cert.quiescent_Kernel3 := fun m ρ _ => Cert.Kernel3.Gen.frame m ρ
theorem frame_ideal : Cert.quiescent_Kernel3Ideal := fun m ρ _ => Cert.Kernel3Ideal.Gen.frame m ρ

/-- The reference runs, keeps its arguments and touches no semaphore. -/
theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' hpre hagree
  refine ⟨fun c => (Cert.Kernel3Ideal.Gen.dats m 0 c).arrAt 9 Cert.Kernel3Ideal.cfg0.N, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1, e2, e3, e4, e5, e6, e7, e8⟩ := hagree c
  refine ⟨(h c).1.trans ?_, (h c).2⟩
  refine (Cert.Reference3Ideal.Read.val_main_v45_eq _ _ _ _ _ _ _ _ _).trans ?_
  rw [e0, e1, e2, e3, e4, e5, e6, e7, e8]
  funext j
  obtain ⟨n, d, rfl⟩ : ∃ (n : Fin 16384) (d : Fin 1024), j = ix2 n d := ⟨j 0, j 1, eq_ix2 j⟩
  exact (Cert.Reference3Ideal.Merge.v45_at _ _ _ _ _ _ _ _ _ n d).trans (Cert.Kernel3Ideal.Merge.result_token m c n d).symm

end Cert.Proof.Merge

end
-- ==== Proof.InValue.lean ====
/- What the input projection computes of its blocks, at an index: the normalized row, its product with a span of the
   weight's rows, the normalization of each head, and of the two latent rows. -/
module

public import proofs.«01_k».proof.Proof.FfnValue
public import proofs.«01_k».proof.Proof.Gen.Kernel4Ideal.Skeleton
public import Idealize.ShloMosaic.Lib.WordCmp

@[expose] public section

set_option maxRecDepth 16384

noncomputable section

namespace Cert.Kernel4Ideal.InProj

open Idealize.ShloMosaic
open Idealize.ShloMosaic.TcCoe Cert.Kernel4Ideal Cert.Kernel4Ideal.Gen
open Idealize.ShloMosaic.ValueIdx (ix1 ix2 ix3 ix4 eq_ix1 eq_ix2 eq_ix3)
open Cert.Kernel2Ideal.Ffn (rms)

/-- The root-mean-square normalization of a row of any length by its gains; `d` is the word of the length. -/
def normed (d : BitVec 32) {N : Nat} (x g : Fin N → EReal) (k : Fin N) : EReal :=
  x k * Ideal.rsqrt (Ideal.div (∑ j, x j * x j) (Ideal.ofBits .f32 d) + Ideal.ofBits .f32 0x358637BD#32) * g k

theorem pay3_apply (x : Vec Ideal S1024x1024 .f32) (g : Vec Ideal S1x1024 .f32) (r k : Fin 1024) :
    k0_pay3 x g (ix2 r k) = rms (fun j => x (ix2 r j)) (fun j => g (ix2 0 j)) k := by
  refine Eq.trans ?_ (Cert.Kernel2Ideal.Ffn.pay3_apply x g r k)
  simp only [k0_pay3, Cert.Kernel2Ideal.Gen.k0_pay3, Cert.Kernel2Ideal.Gen.k0_pay2, shapeCast_self]

/-- The product of the normalized rows with a span of the weight's rows. -/
def product (h : FVec Ideal S1024x1024 .bf16) (w : Vec Ideal S1x512x1024 .f32) : FVec Ideal S1024x512 .f32 :=
  matmul dot_S1024x1024_S512x1024_S1024x512_1_1_0_0_n_n none h
    (truncf .bf16 (shapeCast S512x1024 w shapeCasts_S1x512x1024_S512x1024 : FVec Ideal S512x1024 .f32) bitsLt_bf16_f32) (constant S1024x512 .f32 0x00000000#32)

theorem product_apply (h : FVec Ideal S1024x1024 .bf16) (w : Vec Ideal S1x512x1024 .f32) (r : Fin 1024) (c : Fin 512) :
    product h w (ix2 r c) = ∑ k : Fin 1024, (h (ix2 r k) * w (ix3 0 c k) : EReal) := by
  unfold product
  refine (Ideal.matmul_transposedRhs_apply none h _ _ r c).trans ?_
  have h0 : (constant S1024x512 .f32 0x00000000#32 : FVec Ideal _ .f32) (ix2 r c) = (0 : EReal) := Ideal.ofBits_zero_f32
  rw [h0, zero_add]
  refine Finset.sum_congr rfl fun k _ => congrArg (h (ix2 r k) * · : EReal → EReal) ?_
  show (shapeCast S512x1024 w shapeCasts_S1x512x1024_S512x1024 (ix2 c k) : EReal) = _
  rw [ValueIdx.shapeCast_1ab_ab_apply]

/-- The first half of the lanes. -/
def lowLanes : IVec S1024x128 1 := broadcastTo S1024x128 (shapeCast S1x128 k0_pay4 shapeCasts_S1x128_S1x128) broadcasts_S1x128_S1024x128

theorem lowLanes_apply (r : Fin 1024) (l : Fin 128) : lowLanes (ix2 r l) = BitVec.ofBool (decide (l.val < 64)) := by
  unfold lowLanes
  rw [ValueIdx.broadcastTo_1b_ab_apply, shapeCast_self]
  show IntOp.cmpi .slt (BitVec.ofNat 32 (0 * 128 + l.val)) (BitVec.ofNat 32 64) = _
  rw [Nat.zero_mul, Nat.zero_add, WordCmp.cmpi_slt_ofNat (by omega) (by omega)]

/-- The sum of a row's lanes, on every lane. -/
def laneSums (v : FVec Ideal S1024x128 .f32) : FVec Ideal S1024x128 .f32 :=
  broadcastTo S1024x128 (shapeCast S1024x1 (shapeCast S1024x1 (multiReduction .add [1] S1024 v 0x00000000#32 reduces_S1024x128_S1024 (.inl rfl) rfl)
    shapeCasts_S1024_S1024x1) shapeCasts_S1024x1_S1024x1) broadcasts_S1024x1_S1024x128

theorem laneSums_apply (v : FVec Ideal S1024x128 .f32) (r : Fin 1024) (l : Fin 128) : laneSums v (ix2 r l) = ∑ j : Fin 128, (v (ix2 r j) : EReal) := by
  unfold laneSums
  rw [shapeCast_self]
  refine (broadcastTo_apply _ _ (ix2 r l) (ix2 r 0) (by intro b; fin_cases b <;> rfl)).trans ?_
  rw [ValueIdx.shapeCast_a_a1_apply]
  refine (Ideal.multiReduction_add_single _ _ _ _ _ _).trans (Finset.sum_congr rfl fun j _ => congrArg v ?_)
  funext b; apply Fin.ext; fin_cases b <;> rfl

/-- Two heads of 64 lanes, each divided by the root of its mean square. -/
def headPair (u : FVec Ideal S1024x128 .f32) : FVec Ideal S1024x128 .f32 :=
  mulf u (rsqrt (addf (mulf (select lowLanes
      (laneSums (select lowLanes (mulf u u) (broadcast S1024x128 (Scalar.ofBits .f32 0x00000000#32))))
      (laneSums (select lowLanes (broadcast S1024x128 (Scalar.ofBits .f32 0x00000000#32)) (mulf u u))))
    (broadcast S1024x128 (Scalar.ofBits .f32 0x3C800000#32))) (broadcast S1024x128 (Scalar.ofBits .f32 0x358637BD#32))))

/-- Multiplying by the word of 1/64 divides by the word of 64. -/
theorem mul_inv_64 (a : EReal) : a * Ideal.ofBits .f32 0x3C800000#32 = Ideal.div a (Ideal.ofBits .f32 0x42800000#32) := by
  have h1 : Ideal.ofBits .f32 0x3C800000#32 = ((1 / 64 : ℝ) : EReal) := by simp [Ideal.ofBits, Ideal.ieee, -EReal.coe_mul]; norm_num
  have h2 : Ideal.ofBits .f32 0x42800000#32 = ((64 : ℝ) : EReal) := by simp [Ideal.ofBits, Ideal.ieee, -EReal.coe_mul]; norm_num
  have h3 : ((64 : ℝ) : EReal) ≠ 0 := by norm_num
  unfold Ideal.div
  rw [h1, h2, if_neg h3, ← EReal.coe_inv]
  norm_num

theorem headPair_apply (u : FVec Ideal S1024x128 .f32) (r : Fin 1024) (l : Fin 128) :
    headPair u (ix2 r l) = (u (ix2 r l) * Ideal.rsqrt (Ideal.div (∑ j : Fin 64, u (ix2 r ⟨64 * (l.val / 64) + j.val, by omega⟩) * u (ix2 r ⟨64 * (l.val / 64) + j.val, by omega⟩))
      (Ideal.ofBits .f32 0x42800000#32) + Ideal.ofBits .f32 0x358637BD#32) : EReal) := by
  show (u (ix2 r l) * Ideal.rsqrt (Scalar.select (lowLanes (ix2 r l))
      (laneSums (select lowLanes (mulf u u) (broadcast S1024x128 (Scalar.ofBits .f32 0x00000000#32))) (ix2 r l))
      (laneSums (select lowLanes (broadcast S1024x128 (Scalar.ofBits .f32 0x00000000#32)) (mulf u u)) (ix2 r l))
    * Ideal.ofBits .f32 0x3C800000#32 + Ideal.ofBits .f32 0x358637BD#32) : EReal) = _
  rw [mul_inv_64, lowLanes_apply, WordCmp.select_decide, laneSums_apply, laneSums_apply]
  have lo : ∀ j : Fin 128, ((select lowLanes (mulf u u) (broadcast S1024x128 (Scalar.ofBits .f32 0x00000000#32)) : FVec Ideal S1024x128 .f32) (ix2 r j) : EReal)
      = if j.val < 64 then (u (ix2 r j) * u (ix2 r j) : EReal) else 0 := fun j => by
    show Scalar.select (lowLanes (ix2 r j)) (u (ix2 r j) * u (ix2 r j) : EReal) (Ideal.ofBits .f32 0x00000000#32) = _
    rw [lowLanes_apply, WordCmp.select_decide, Ideal.ofBits_zero_f32]
  have hi : ∀ j : Fin 128, ((select lowLanes (broadcast S1024x128 (Scalar.ofBits .f32 0x00000000#32)) (mulf u u) : FVec Ideal S1024x128 .f32) (ix2 r j) : EReal)
      = if j.val < 64 then 0 else (u (ix2 r j) * u (ix2 r j) : EReal) := fun j => by
    show Scalar.select (lowLanes (ix2 r j)) (Ideal.ofBits .f32 0x00000000#32) (u (ix2 r j) * u (ix2 r j) : EReal) = _
    rw [lowLanes_apply, WordCmp.select_decide, Ideal.ofBits_zero_f32]
  simp only [lo, hi]
  refine congrArg (fun s : EReal => (u (ix2 r l) * Ideal.rsqrt (Ideal.div s (Ideal.ofBits .f32 0x42800000#32) + Ideal.ofBits .f32 0x358637BD#32) : EReal)) ?_
  have hl := l.isLt
  split_ifs with h
  · rw [Fin.sum_univ_add (a := 64) (b := 64)]
    refine Eq.trans (congrArg₂ (· + ·) (Finset.sum_congr rfl fun j _ => if_pos (by simp)) (Finset.sum_eq_zero fun j _ => if_neg (by simp))) ?_
    rw [add_zero]
    refine Finset.sum_congr rfl fun j _ => ?_
    have e : Fin.castAdd 64 j = (⟨64 * (l.val / 64) + j.val, by omega⟩ : Fin 128) := Fin.ext (by show j.val = _; simp; omega)
    rw [e]
  · rw [Fin.sum_univ_add (a := 64) (b := 64)]
    refine Eq.trans (congrArg₂ (· + ·) (Finset.sum_eq_zero fun j _ => if_pos (by simp)) (Finset.sum_congr rfl fun j _ => if_neg (by simp))) ?_
    rw [zero_add]
    refine Finset.sum_congr rfl fun j _ => ?_
    have e : Fin.natAdd 64 j = (⟨64 * (l.val / 64) + j.val, by omega⟩ : Fin 128) := Fin.ext (by show 64 + j.val = _; simp; omega)
    rw [e]

/-- The eight heads of a projection, normalized and multiplied by their gains. -/
def heads (u : FVec Ideal S1024x512 .f32) (g : Vec Ideal S1x1x512 .f32) : FVec Ideal S1024x512 .bf16 :=
  truncf .bf16 (mulf (concatenate S1024x512 1
      [⟨S1024x128, headPair (extractStridedSlice S1024x128 ![0, 0] u slices_S1024x512_o0_0_S1024x128)⟩,
       ⟨S1024x128, headPair (extractStridedSlice S1024x128 ![0, 128] u slices_S1024x512_o0_128_S1024x128)⟩,
       ⟨S1024x128, headPair (extractStridedSlice S1024x128 ![0, 256] u slices_S1024x512_o0_256_S1024x128)⟩,
       ⟨S1024x128, headPair (extractStridedSlice S1024x128 ![0, 384] u slices_S1024x512_o0_384_S1024x128)⟩]
      concatenates_S1024x128_S1024x128_S1024x128_S1024x128_S1024x512_d1)
    (broadcastTo S1024x512 (shapeCast S1x512 g shapeCasts_S1x1x512_S1x512) broadcasts_S1x512_S1024x512)) bitsLt_bf16_f32

/-- A head pair cut out of the projection, at an index. -/
theorem pair_apply (u : FVec Ideal S1024x512 .f32) (o : Nat) (ho : 64 ∣ o) (h : S1024x512.Slices ![0, o] S1024x128) (r : Fin 1024) (l : Fin 128) (c : Fin 512) (hc : c.val = o + l.val) :
    headPair (extractStridedSlice S1024x128 ![0, o] u h) (ix2 r l)
      = (u (ix2 r c) * Ideal.rsqrt (Ideal.div (∑ j : Fin 64, u (ix2 r ⟨64 * (c.val / 64) + j.val, by omega⟩) * u (ix2 r ⟨64 * (c.val / 64) + j.val, by omega⟩))
      (Ideal.ofBits .f32 0x42800000#32) + Ideal.ofBits .f32 0x358637BD#32) : EReal) := by
  have s : ∀ (k : Fin 128) (d : Fin 512) (hd : d.val = o + k.val), extractStridedSlice S1024x128 ![0, o] u h (ix2 r k) = u (ix2 r d) := fun k d hd =>
    extractStridedSlice_apply _ u h (ix2 r k) (ix2 r d) (by
      intro a
      match a with
      | ⟨0, _⟩ => show r.val = 0 + r.val; omega
      | ⟨1, _⟩ => exact hd)
  have hcl := c.isLt
  have hll := l.isLt
  obtain ⟨q, rfl⟩ := ho
  rw [headPair_apply, s l c hc]
  refine congrArg (fun s : EReal => (u (ix2 r c) * Ideal.rsqrt (Ideal.div s (Ideal.ofBits .f32 0x42800000#32) + Ideal.ofBits .f32 0x358637BD#32) : EReal))
    (Finset.sum_congr rfl fun j _ => ?_)
  rw [s _ ⟨64 * (c.val / 64) + j.val, by omega⟩ (by have := j.isLt; show 64 * (c.val / 64) + j.val = 64 * q + (64 * (l.val / 64) + j.val); omega)]

theorem heads_apply (u : FVec Ideal S1024x512 .f32) (g : Vec Ideal S1x1x512 .f32) (r : Fin 1024) (h : Fin 8) (l : Fin 64) :
    heads u g (ix2 r ⟨64 * h.val + l.val, by omega⟩)
      = normed 0x42800000#32 (fun j : Fin 64 => u (ix2 r ⟨64 * h.val + j.val, by omega⟩)) (fun j => g (ix3 0 0 ⟨64 * h.val + j.val, by omega⟩)) l := by
  have hh := h.isLt
  have hl := l.isLt
  have hg : broadcastTo S1024x512 (shapeCast S1x512 g shapeCasts_S1x1x512_S1x512) broadcasts_S1x512_S1024x512 (ix2 r (⟨64 * h.val + l.val, by omega⟩ : Fin 512))
      = g (ix3 0 0 ⟨64 * h.val + l.val, by omega⟩) := by
    rw [ValueIdx.broadcastTo_1b_ab_apply, ValueIdx.shapeCast_1ab_ab_apply]
  have key : ∀ c : Fin 512, concatenate S1024x512 1
      [⟨S1024x128, headPair (extractStridedSlice S1024x128 ![0, 0] u slices_S1024x512_o0_0_S1024x128)⟩,
       ⟨S1024x128, headPair (extractStridedSlice S1024x128 ![0, 128] u slices_S1024x512_o0_128_S1024x128)⟩,
       ⟨S1024x128, headPair (extractStridedSlice S1024x128 ![0, 256] u slices_S1024x512_o0_256_S1024x128)⟩,
       ⟨S1024x128, headPair (extractStridedSlice S1024x128 ![0, 384] u slices_S1024x512_o0_384_S1024x128)⟩]
      concatenates_S1024x128_S1024x128_S1024x128_S1024x128_S1024x512_d1 (ix2 r c)
      = (u (ix2 r c) * Ideal.rsqrt (Ideal.div (∑ j : Fin 64, u (ix2 r ⟨64 * (c.val / 64) + j.val, by omega⟩) * u (ix2 r ⟨64 * (c.val / 64) + j.val, by omega⟩))
        (Ideal.ofBits .f32 0x42800000#32) + Ideal.ofBits .f32 0x358637BD#32) : EReal) := fun c => by
    have hc := c.isLt

    rcases (by omega : c.val / 128 = 0 ∨ c.val / 128 = 1 ∨ c.val / 128 = 2 ∨ c.val / 128 = 3) with q | q | q | q
    · refine Eq.trans (concatenate_apply_piece 1 _ (by exact concatenates_S1024x128_S1024x128_S1024x128_S1024x128_S1024x512_d1) (ix2 r c) 0 (by simp) S1024x128 _ rfl rfl 0 (by rfl) (ix2 r (⟨c.val, by omega⟩ : Fin 128)) ?_ ?_) (pair_apply u 0 (by decide) _ r _ c (by show c.val = 0 + c.val; omega))
      · intro b hb; fin_cases b
        · rfl
        · exact absurd rfl hb
      · show 0 + c.val = c.val; omega
    · refine Eq.trans (concatenate_apply_piece 1 _ (by exact concatenates_S1024x128_S1024x128_S1024x128_S1024x128_S1024x512_d1) (ix2 r c) 1 (by simp) S1024x128 _ rfl rfl 128 (by rfl) (ix2 r (⟨c.val - 128, by omega⟩ : Fin 128)) ?_ ?_) (pair_apply u 128 (by decide) _ r _ c (by show c.val = 128 + (c.val - 128); omega))
      · intro b hb; fin_cases b
        · rfl
        · exact absurd rfl hb
      · show 128 + (c.val - 128) = c.val; omega
    · refine Eq.trans (concatenate_apply_piece 1 _ (by exact concatenates_S1024x128_S1024x128_S1024x128_S1024x128_S1024x512_d1) (ix2 r c) 2 (by simp) S1024x128 _ rfl rfl 256 (by rfl) (ix2 r (⟨c.val - 256, by omega⟩ : Fin 128)) ?_ ?_) (pair_apply u 256 (by decide) _ r _ c (by show c.val = 256 + (c.val - 256); omega))
      · intro b hb; fin_cases b
        · rfl
        · exact absurd rfl hb
      · show 256 + (c.val - 256) = c.val; omega
    · refine Eq.trans (concatenate_apply_piece 1 _ (by exact concatenates_S1024x128_S1024x128_S1024x128_S1024x128_S1024x512_d1) (ix2 r c) 3 (by simp) S1024x128 _ rfl rfl 384 (by rfl) (ix2 r (⟨c.val - 384, by omega⟩ : Fin 128)) ?_ ?_) (pair_apply u 384 (by decide) _ r _ c (by show c.val = 384 + (c.val - 384); omega))
      · intro b hb; fin_cases b
        · rfl
        · exact absurd rfl hb
      · show 384 + (c.val - 384) = c.val; omega
  refine (congrArg₂ (fun a b : EReal => a * b) (key _) hg).trans ?_
  have hq : (64 * h.val + l.val) / 64 = h.val := by omega
  unfold normed
  simp only [hq]

/-- The row of the tail's weight that lane `c` reads. -/
def tailRow (a : Vec Ideal S1x640x1024 .f32) (b : Vec Ideal S1x8x1024 .f32) (d : Vec Ideal S1x32x1024 .f32) (c : Fin 768) (k : Fin 1024) : EReal :=
  if h0 : c.val < 640 then a (ix3 0 ⟨c.val, h0⟩ k)
  else if h1 : c.val < 648 then b (ix3 0 ⟨c.val - 640, by omega⟩ k)
  else if h2 : c.val < 704 then 0
  else if h3 : c.val < 736 then d (ix3 0 ⟨c.val - 704, by omega⟩ k)
  else 0

theorem tail_apply (h : FVec Ideal S1024x1024 .bf16) (a : Vec Ideal S1x640x1024 .f32) (b : Vec Ideal S1x8x1024 .f32) (d : Vec Ideal S1x32x1024 .f32) (r : Fin 1024) (c : Fin 768) :
    k0_pay53 h a b d (ix2 r c) = ∑ k : Fin 1024, (h (ix2 r k) * tailRow a b d c k : EReal) := by
  unfold k0_pay53
  refine (Ideal.matmul_transposedRhs_apply none h _ _ r c).trans ?_
  have h0 : (constant S1024x768 .f32 0x00000000#32 : FVec Ideal _ .f32) (ix2 r c) = (0 : EReal) := Ideal.ofBits_zero_f32
  rw [h0, zero_add]
  refine Finset.sum_congr rfl fun k _ => congrArg (h (ix2 r k) * · : EReal → EReal) ?_
  have hc := c.isLt
  unfold tailRow
  split_ifs with h0 h1 h2 h3
  · refine Eq.trans (concatenate_apply_piece 0 _ (by exact concatenates_S640x1024_S8x1024_S56x1024_S32x1024_S32x1024_S768x1024_d0) (ix2 c k) 0 (by simp) S640x1024 _ rfl rfl 0 (by rfl) (ix2 (⟨c.val, h0⟩ : Fin 640) k) ?_ ?_) ?_
    · intro b hb; fin_cases b
      · exact absurd rfl hb
      · rfl
    · show 0 + c.val = c.val; omega
    · rw [ValueIdx.shapeCast_1ab_ab_apply]
  · refine Eq.trans (concatenate_apply_piece 0 _ (by exact concatenates_S640x1024_S8x1024_S56x1024_S32x1024_S32x1024_S768x1024_d0) (ix2 c k) 1 (by simp) S8x1024 _ rfl rfl 640 (by rfl) (ix2 (⟨c.val - 640, by omega⟩ : Fin 8) k) ?_ ?_) ?_
    · intro b hb; fin_cases b
      · exact absurd rfl hb
      · rfl
    · show 640 + (c.val - 640) = c.val; omega
    · rw [ValueIdx.shapeCast_1ab_ab_apply]
  · refine Eq.trans (concatenate_apply_piece 0 _ (by exact concatenates_S640x1024_S8x1024_S56x1024_S32x1024_S32x1024_S768x1024_d0) (ix2 c k) 2 (by simp) S56x1024 _ rfl rfl 648 (by rfl) (ix2 (⟨c.val - 648, by omega⟩ : Fin 56) k) ?_ ?_) ?_
    · intro b hb; fin_cases b
      · exact absurd rfl hb
      · rfl
    · show 648 + (c.val - 648) = c.val; omega
    · exact Ideal.ofBits_zero_f32
  · refine Eq.trans (concatenate_apply_piece 0 _ (by exact concatenates_S640x1024_S8x1024_S56x1024_S32x1024_S32x1024_S768x1024_d0) (ix2 c k) 3 (by simp) S32x1024 _ rfl rfl 704 (by rfl) (ix2 (⟨c.val - 704, by omega⟩ : Fin 32) k) ?_ ?_) ?_
    · intro b hb; fin_cases b
      · exact absurd rfl hb
      · rfl
    · show 704 + (c.val - 704) = c.val; omega
    · rw [ValueIdx.shapeCast_1ab_ab_apply]
  · refine Eq.trans (concatenate_apply_piece 0 _ (by exact concatenates_S640x1024_S8x1024_S56x1024_S32x1024_S32x1024_S768x1024_d0) (ix2 c k) 4 (by simp) S32x1024 _ rfl rfl 736 (by rfl) (ix2 (⟨c.val - 736, by omega⟩ : Fin 32) k) ?_ ?_) ?_
    · intro b hb; fin_cases b
      · exact absurd rfl hb
      · rfl
    · show 736 + (c.val - 736) = c.val; omega
    · exact Ideal.ofBits_zero_f32

theorem pay54_apply (h : FVec Ideal S1024x1024 .bf16) (a : Vec Ideal S1x640x1024 .f32) (b : Vec Ideal S1x8x1024 .f32) (d : Vec Ideal S1x32x1024 .f32)
    (g : Vec Ideal S1x384 .f32) (r : Fin 1024) (c : Fin 384) :
    k0_pay54 h a b d g (ix2 r c) = normed 0x43C00000#32 (fun j : Fin 384 => k0_pay53 h a b d (ix2 r ⟨j.val, by omega⟩)) (fun j => g (ix2 0 j)) c := by
  have s : ∀ k : Fin 384, extractStridedSlice S1024x384 ![0, 0] (k0_pay53 h a b d) slices_S1024x768_o0_0_S1024x384 (ix2 r k) = k0_pay53 h a b d (ix2 r ⟨k.val, by omega⟩) := fun k =>
    extractStridedSlice_apply _ _ _ (ix2 r k) (ix2 r (⟨k.val, by omega⟩ : Fin 768)) (by
      intro a
      match a with
      | ⟨0, _⟩ => show r.val = 0 + r.val; omega
      | ⟨1, _⟩ => show k.val = 0 + k.val; omega)
  simp only [k0_pay54, shapeCast_self]
  generalize extractStridedSlice S1024x384 ![0, 0] (k0_pay53 h a b d) slices_S1024x768_o0_0_S1024x384 = x at s ⊢
  show (x (ix2 r c) : EReal) * broadcastTo S1024x384 _ broadcasts_S1024x1_S1024x384 (ix2 r c) * broadcastTo S1024x384 g broadcasts_S1x384_S1024x384 (ix2 r c) = _
  have hb : ∀ v : FVec Ideal S1024x1 .f32, broadcastTo S1024x384 v broadcasts_S1024x1_S1024x384 (ix2 r c) = v (ix2 r 0) := fun v =>
    broadcastTo_apply v _ (ix2 r c) (ix2 r 0) (by intro b; fin_cases b <;> rfl)
  rw [hb, ValueIdx.broadcastTo_1b_ab_apply]
  show (x (ix2 r c) : EReal) * Ideal.rsqrt (Ideal.div (shapeCast S1024x1 _ shapeCasts_S1024_S1024x1 (ix2 r 0)) (Ideal.ofBits .f32 0x43C00000#32) + Ideal.ofBits .f32 0x358637BD#32) * g (ix2 0 c) = _
  rw [ValueIdx.shapeCast_a_a1_apply]
  have hs : ∀ v : FVec Ideal S1024x384 .f32, multiReduction (F := Ideal) .add [1] S1024 v 0x00000000#32 reduces_S1024x384_S1024 (.inl rfl) rfl (ix1 r) = ∑ j, (v (ix2 r j) : EReal) := fun v => by
    refine (Ideal.multiReduction_add_single _ _ _ _ _ _).trans (Finset.sum_congr rfl fun j _ => congrArg v ?_)
    funext b; apply Fin.ext; fin_cases b <;> rfl
  rw [hs]
  unfold normed
  simp only [← s]
  rfl

theorem pay1_apply (h : FVec Ideal S1024x1024 .bf16) (a : Vec Ideal S1x640x1024 .f32) (b : Vec Ideal S1x8x1024 .f32) (d : Vec Ideal S1x32x1024 .f32)
    (g : Vec Ideal S1x256 .f32) (r : Fin 1024) (c : Fin 256) :
    k0_pay1 (k0_pay55 h a b d) (k0_pay56 g) (ix2 r c) = normed 0x43800000#32 (fun j : Fin 256 => k0_pay53 h a b d (ix2 r ⟨384 + j.val, by omega⟩)) (fun j => g (ix2 0 j)) c := by
  have s : ∀ k : Fin 256, extractStridedSlice S1024x256 ![0, 384] (k0_pay53 h a b d) slices_S1024x768_o0_384_S1024x256 (ix2 r k) = k0_pay53 h a b d (ix2 r ⟨384 + k.val, by omega⟩) := fun k =>
    extractStridedSlice_apply _ _ _ (ix2 r k) (ix2 r (⟨384 + k.val, by omega⟩ : Fin 768)) (by
      intro a
      match a with
      | ⟨0, _⟩ => show r.val = 0 + r.val; omega
      | ⟨1, _⟩ => rfl)
  simp only [k0_pay1, k0_pay55, k0_pay56, shapeCast_self]
  generalize extractStridedSlice S1024x256 ![0, 384] (k0_pay53 h a b d) slices_S1024x768_o0_384_S1024x256 = x at s ⊢
  show (x (ix2 r c) : EReal) * broadcastTo S1024x256 _ broadcasts_S1024x1_S1024x256 (ix2 r c) * broadcastTo S1024x256 g broadcasts_S1x256_S1024x256 (ix2 r c) = _
  have hb : ∀ v : FVec Ideal S1024x1 .f32, broadcastTo S1024x256 v broadcasts_S1024x1_S1024x256 (ix2 r c) = v (ix2 r 0) := fun v =>
    broadcastTo_apply v _ (ix2 r c) (ix2 r 0) (by intro b; fin_cases b <;> rfl)
  rw [hb, ValueIdx.broadcastTo_1b_ab_apply]
  show (x (ix2 r c) : EReal) * Ideal.rsqrt (Ideal.div (shapeCast S1024x1 _ shapeCasts_S1024_S1024x1 (ix2 r 0)) (Ideal.ofBits .f32 0x43800000#32) + Ideal.ofBits .f32 0x358637BD#32) * g (ix2 0 c) = _
  rw [ValueIdx.shapeCast_a_a1_apply]
  have hs : ∀ v : FVec Ideal S1024x256 .f32, multiReduction (F := Ideal) .add [1] S1024 v 0x00000000#32 reduces_S1024x256_S1024 (.inl rfl) rfl (ix1 r) = ∑ j, (v (ix2 r j) : EReal) := fun v => by
    refine (Ideal.multiReduction_add_single _ _ _ _ _ _).trans (Finset.sum_congr rfl fun j _ => congrArg v ?_)
    funext b; apply Fin.ext; fin_cases b <;> rfl
  rw [hs]
  unfold normed
  simp only [← s]
  rfl

theorem pay2_apply (u : FVec Ideal S1024x768 .f32) (r : Fin 1024) (c : Fin 128) : k0_pay2 u (ix2 r c) = u (ix2 r ⟨640 + c.val, by omega⟩) := by
  unfold k0_pay2
  exact extractStridedSlice_apply _ u _ (ix2 r c) (ix2 r (⟨640 + c.val, by omega⟩ : Fin 768)) (by
    intro a
    match a with
    | ⟨0, _⟩ => show r.val = 0 + r.val; omega
    | ⟨1, _⟩ => rfl)

/-- One column of the projection of a normalized row. -/
def proj (x g : Fin 1024 → EReal) (W : Fin 3752 → Fin 1024 → EReal) (c : Fin 3752) : EReal := ∑ k, rms x g k * W c k

theorem product_of (x0 : Vec Ideal S1024x1024 .f32) (x1 : Vec Ideal S1x1024 .f32) (w : Vec Ideal S1x512x1024 .f32) (W : Fin 3752 → Fin 1024 → EReal) (o : Nat) (ho : o + 512 ≤ 3752)
    (hw : ∀ (c : Fin 512) (k : Fin 1024), w (ix3 0 c k) = W ⟨o + c.val, by omega⟩ k) (r : Fin 1024) (c : Fin 512) :
    product (k0_pay3 x0 x1) w (ix2 r c) = proj (fun k => x0 (ix2 r k)) (fun k => x1 (ix2 0 k)) W ⟨o + c.val, by omega⟩ := by
  rw [product_apply]
  unfold proj
  exact Finset.sum_congr rfl fun k _ => by rw [pay3_apply, hw]

theorem heads_of (x0 : Vec Ideal S1024x1024 .f32) (x1 : Vec Ideal S1x1024 .f32) (w : Vec Ideal S1x512x1024 .f32) (gl : Vec Ideal S1x1x512 .f32)
    (W : Fin 3752 → Fin 1024 → EReal) (G : Fin 64 → EReal) (o : Nat) (ho : o + 512 ≤ 3752)
    (hw : ∀ (c : Fin 512) (k : Fin 1024), w (ix3 0 c k) = W ⟨o + c.val, by omega⟩ k) (hg : ∀ j : Fin 512, gl (ix3 0 0 j) = G ⟨j.val % 64, by omega⟩) (r : Fin 1024) (h : Fin 8) (l : Fin 64) :
    heads (product (k0_pay3 x0 x1) w) gl (ix2 r ⟨64 * h.val + l.val, by omega⟩)
      = normed 0x42800000#32 (fun j : Fin 64 => proj (fun k => x0 (ix2 r k)) (fun k => x1 (ix2 0 k)) W ⟨o + (64 * h.val + j.val), by omega⟩) G l := by
  rw [heads_apply]
  refine congrArg₂ (fun u g => normed 0x42800000#32 u g l) (funext fun j => product_of x0 x1 w W o ho hw r ⟨64 * h.val + j.val, by omega⟩) (funext fun j => ?_)
  rw [hg]
  exact congrArg G (Fin.ext (by show (64 * h.val + j.val) % 64 = j.val; omega))

/-- The columns of the projection that the tail keeps, in the tail's order. -/
def tailCol (x g : Fin 1024 → EReal) (W : Fin 3752 → Fin 1024 → EReal) (c : Fin 768) : EReal :=
  if h0 : c.val < 640 then proj x g W ⟨1544 + c.val, by omega⟩
  else if h1 : c.val < 648 then proj x g W ⟨1536 + (c.val - 640), by omega⟩
  else if h2 : c.val < 704 then 0
  else if h3 : c.val < 736 then proj x g W ⟨2184 + (c.val - 704), by omega⟩
  else 0

theorem tail_of (x0 : Vec Ideal S1024x1024 .f32) (x1 : Vec Ideal S1x1024 .f32) (a : Vec Ideal S1x640x1024 .f32) (b : Vec Ideal S1x8x1024 .f32) (d : Vec Ideal S1x32x1024 .f32)
    (W : Fin 3752 → Fin 1024 → EReal) (ha : ∀ (c : Fin 640) (k : Fin 1024), a (ix3 0 c k) = W ⟨1544 + c.val, by omega⟩ k)
    (hb : ∀ (c : Fin 8) (k : Fin 1024), b (ix3 0 c k) = W ⟨1536 + c.val, by omega⟩ k) (hd : ∀ (c : Fin 32) (k : Fin 1024), d (ix3 0 c k) = W ⟨2184 + c.val, by omega⟩ k)
    (r : Fin 1024) (c : Fin 768) :
    k0_pay53 (k0_pay3 x0 x1) a b d (ix2 r c) = tailCol (fun k => x0 (ix2 r k)) (fun k => x1 (ix2 0 k)) W c := by
  rw [tail_apply]
  unfold tailCol tailRow proj
  split_ifs with h0 h1 h2 h3
  · exact Finset.sum_congr rfl fun k _ => by rw [pay3_apply, ha]
  · exact Finset.sum_congr rfl fun k _ => by rw [pay3_apply, hb]
  · exact Finset.sum_eq_zero fun k _ => mul_zero _
  · exact Finset.sum_congr rfl fun k _ => by rw [pay3_apply, hd]
  · exact Finset.sum_eq_zero fun k _ => mul_zero _

/-- The miscellaneous columns: eight gates, padding, the rotary key, padding. -/
def miscCol (x g : Fin 1024 → EReal) (W : Fin 3752 → Fin 1024 → EReal) (c : Fin 128) : EReal :=
  if h1 : c.val < 8 then proj x g W ⟨1536 + c.val, by omega⟩
  else if h2 : c.val < 64 then 0
  else if h3 : c.val < 96 then proj x g W ⟨2184 + (c.val - 64), by omega⟩
  else 0

theorem tailCol_latent (x g : Fin 1024 → EReal) (W : Fin 3752 → Fin 1024 → EReal) (c : Fin 768) (hc : c.val < 640) :
    tailCol x g W c = proj x g W ⟨1544 + c.val, by omega⟩ := by
  unfold tailCol
  rw [dif_pos hc]

theorem tailCol_misc (x g : Fin 1024 → EReal) (W : Fin 3752 → Fin 1024 → EReal) (c : Fin 128) :
    tailCol x g W ⟨640 + c.val, by omega⟩ = miscCol x g W c := by
  unfold tailCol miscCol
  rw [dif_neg (by simp)]
  by_cases h1 : c.val < 8
  · rw [dif_pos (by simp; omega), dif_pos h1]
    exact congrArg _ (Fin.ext (by show 1536 + (640 + c.val - 640) = 1536 + c.val; omega))
  by_cases h2 : c.val < 64
  · rw [dif_neg (by simp; omega), dif_pos (by simp; omega), dif_neg h1, dif_pos h2]
  by_cases h3 : c.val < 96
  · rw [dif_neg (by simp; omega), dif_neg (by simp; omega), dif_pos (by simp; omega), dif_neg h1, dif_neg h2, dif_pos h3]
    exact congrArg _ (Fin.ext (by show 2184 + (640 + c.val - 704) = 2184 + (c.val - 64); omega))
  · rw [dif_neg (by simp; omega), dif_neg (by simp; omega), dif_neg (by simp; omega), dif_neg h1, dif_neg h2, dif_neg h3]

end Cert.Kernel4Ideal.InProj

end
-- ==== Proof.InArrays.lean ====
/- The arrays the input projection receives, and its nine results at an index. -/
module

public import proofs.«01_k».proof.Proof.InValue
public import proofs.«01_k».proof.Proof.Gen.Kernel4Ideal.Value
public import Idealize.ShloMosaic.Lib.Pipeline.ValueKit
public import Idealize.ShloMosaic.Lib.StableHlo.ReadAt

@[expose] public section

set_option maxRecDepth 16384

noncomputable section

namespace Cert.Kernel4Ideal.InProj

open Idealize.ShloMosaic hiding ix1 ix2 ix3 ix4 eq_ix1 eq_ix2 eq_ix3
open Idealize.ShloMosaic.TcCoe Cert.Kernel4Ideal Cert.Kernel4Ideal.Gen
open Idealize.ShloMosaic.ValueIdx (ix1 ix2 ix3 ix4 eq_ix1 eq_ix2 eq_ix3)
open Cert.Kernel2Ideal.Ffn (rms)

variable (m : (ℓ : Loc nD τ sig) → Buf (Elt Ideal) ℓ) (c : Dev nD)

/-- The arguments as functions of their indices; a token is a batch row and a position. -/
abbrev argX (n : Fin 16384) (k : Fin 1024) : EReal := m ((c : Thread nD τ).loc main_arg0) (ix3 ⟨n.val / 2048, by omega⟩ ⟨n.val % 2048, by omega⟩ k)
abbrev argG (k : Fin 1024) : EReal := m ((c : Thread nD τ).loc main_arg1) (ix2 0 k)
abbrev argW (f : Fin 3752) (k : Fin 1024) : EReal := m ((c : Thread nD τ).loc main_arg2) (ix3 0 k ⟨f.val, by omega⟩)
abbrev argA (q : Fin 2) (l : Fin 64) : EReal := m ((c : Thread nD τ).loc main_arg3) (ix3 0 q l)
abbrev argC (q : Fin 2) (l : Fin 64) : EReal := m ((c : Thread nD τ).loc main_arg4) (ix3 0 q l)
abbrev argQ (l : Fin 384) : EReal := m ((c : Thread nD τ).loc main_arg5) (ix2 0 l)
abbrev argK (l : Fin 256) : EReal := m ((c : Thread nD τ).loc main_arg6) (ix2 0 l)

theorem V_x (p : Fin 16384) (q : Fin 1024) : V m c main_v26 (ix2 p q) = argX m c p q := by
  unfold V
  after_reads_at
  rfl

theorem V_g (p : Fin 1) (q : Fin 1024) : V m c main_v29 (ix2 p q) = argG m c q := by
  unfold V
  after_reads_at
  rfl

theorem V_w (f : Fin 3752) (k : Fin 1024) : V m c main_v0 (ix3 0 ⟨f.val, by omega⟩ k) = argW m c f k := by
  unfold V
  after_reads_at
  rfl

theorem V_q (p : Fin 1) (q : Fin 384) : V m c main_v32 (ix2 p q) = argQ m c q := by
  unfold V
  after_reads_at
  rfl

theorem V_k (p : Fin 1) (q : Fin 256) : V m c main_v35 (ix2 p q) = argK m c q := by
  unfold V
  after_reads_at
  rfl

theorem V_h0 (l : Fin 512) : V m c main_v25 (ix3 0 0 l) = argA m c 0 ⟨l.val % 64, by omega⟩ := by
  unfold V
  after_reads_at
  after_reads_at
  rfl

theorem V_h1 (l : Fin 512) : V m c main_v25 (ix3 0 1 l) = argA m c 1 ⟨l.val % 64, by omega⟩ := by
  unfold V
  after_reads_at
  after_reads_at
  rfl

theorem V_h2 (l : Fin 512) : V m c main_v25 (ix3 0 2 l) = argC m c 0 ⟨l.val % 64, by omega⟩ := by
  unfold V
  after_reads_at
  after_reads_at
  rfl

theorem V_h3 (l : Fin 512) : V m c main_v25 (ix3 0 3 l) = argC m c 1 ⟨l.val % 64, by omega⟩ := by
  unfold V
  after_reads_at
  after_reads_at
  rfl

theorem points (t : Fin cfg0.N) : t.val < 16 := lt_of_lt_of_eq t.isLt N_0

theorem at0 (t : Fin cfg0.N) : win0_0.index t 0 = t.val ∧ win0_0.index t 1 = 0 :=
  (by decide +kernel : ∀ t : Fin grid0.N, win0_0.index t 0 = t.val ∧ win0_0.index t 1 = 0) t

theorem at1 (t : Fin cfg0.N) : win0_1.index t 0 = 0 ∧ win0_1.index t 1 = 0 :=
  (by decide +kernel : ∀ t : Fin grid0.N, win0_1.index t 0 = 0 ∧ win0_1.index t 1 = 0) t

theorem at2 (t : Fin cfg0.N) : win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0) t

theorem at3 (t : Fin cfg0.N) : win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0) t

theorem at4 (t : Fin cfg0.N) : win0_4.index t 0 = 0 ∧ win0_4.index t 1 = 0 :=
  (by decide +kernel : ∀ t : Fin grid0.N, win0_4.index t 0 = 0 ∧ win0_4.index t 1 = 0) t

theorem at5 (t : Fin cfg0.N) : win0_5.index t 0 = 0 ∧ win0_5.index t 1 = 0 :=
  (by decide +kernel : ∀ t : Fin grid0.N, win0_5.index t 0 = 0 ∧ win0_5.index t 1 = 0) t

theorem at6 (t : Fin cfg0.N) : win0_6.index t 0 = t.val ∧ win0_6.index t 1 = 0 :=
  (by decide +kernel : ∀ t : Fin grid0.N, win0_6.index t 0 = t.val ∧ win0_6.index t 1 = 0) t

theorem at7 (t : Fin cfg0.N) : win0_7.index t 0 = t.val ∧ win0_7.index t 1 = 0 :=
  (by decide +kernel : ∀ t : Fin grid0.N, win0_7.index t 0 = t.val ∧ win0_7.index t 1 = 0) t

theorem at8 (t : Fin cfg0.N) : win0_8.index t 0 = t.val ∧ win0_8.index t 1 = 0 :=
  (by decide +kernel : ∀ t : Fin grid0.N, win0_8.index t 0 = t.val ∧ win0_8.index t 1 = 0) t

theorem at9 (t : Fin cfg0.N) : win0_9.index t 0 = t.val ∧ win0_9.index t 1 = 0 :=
  (by decide +kernel : ∀ t : Fin grid0.N, win0_9.index t 0 = t.val ∧ win0_9.index t 1 = 0) t

theorem at10 (t : Fin cfg0.N) : win0_10.index t 0 = t.val ∧ win0_10.index t 1 = 0 :=
  (by decide +kernel : ∀ t : Fin grid0.N, win0_10.index t 0 = t.val ∧ win0_10.index t 1 = 0) t

theorem at11 (t : Fin cfg0.N) : win0_11.index t 0 = t.val ∧ win0_11.index t 1 = 0 :=
  (by decide +kernel : ∀ t : Fin grid0.N, win0_11.index t 0 = t.val ∧ win0_11.index t 1 = 0) t

theorem at12 (t : Fin cfg0.N) : win0_12.index t 0 = t.val ∧ win0_12.index t 1 = 0 :=
  (by decide +kernel : ∀ t : Fin grid0.N, win0_12.index t 0 = t.val ∧ win0_12.index t 1 = 0) t

theorem at13 (t : Fin cfg0.N) : win0_13.index t 0 = t.val ∧ win0_13.index t 1 = 0 :=
  (by decide +kernel : ∀ t : Fin grid0.N, win0_13.index t 0 = t.val ∧ win0_13.index t 1 = 0) t

theorem at14 (t : Fin cfg0.N) : win0_14.index t 0 = t.val ∧ win0_14.index t 1 = 0 :=
  (by decide +kernel : ∀ t : Fin grid0.N, win0_14.index t 0 = t.val ∧ win0_14.index t 1 = 0) t

/-- Token `r` of tile `t`. -/
abbrev token (t : Fin cfg0.N) (r : Fin 1024) : Fin 16384 := ⟨1024 * t.val + r.val, by have := points t; omega⟩

theorem block0 (t : Fin cfg0.N) (r k : Fin 1024) : (iblk m c 0 t : Vec Ideal S1024x1024 .f32) (ix2 r k) = argX m c (token t r) k := by
  obtain ⟨h0, h1⟩ := at0 t
  refine Eq.trans ?_ (V_x m c (token t r) k)
  unfold iblk
  rw [View.read_apply]
  show V m c main_v26 _ = V m c main_v26 _
  refine congrArg (V m c main_v26) (funext fun a => Fin.ext ?_)
  match a with
  | 0 => show win0_0.index t 0 * 1024 + 1 * r.val = 1024 * t.val + r.val; rw [h0]; omega
  | 1 => show win0_0.index t 1 * 1024 + 1 * k.val = k.val; rw [h1]; omega

theorem block1 (t : Fin cfg0.N) (u : Fin 1) (k : Fin 1024) : (iblk m c 1 t : Vec Ideal S1x1024 .f32) (ix2 u k) = argG m c k := by
  obtain ⟨h0, h1⟩ := at1 t
  refine Eq.trans ?_ (V_g m c u k)
  unfold iblk
  rw [View.read_apply]
  show V m c main_v29 _ = V m c main_v29 _
  refine congrArg (V m c main_v29) (funext fun a => Fin.ext ?_)
  match a with
  | 0 => show win0_1.index t 0 * 1 + 1 * u.val = u.val; rw [h0]; omega
  | 1 => show win0_1.index t 1 * 1024 + 1 * k.val = k.val; rw [h1]; omega

theorem block4 (t : Fin cfg0.N) (u : Fin 1) (k : Fin 384) : (iblk m c 4 t : Vec Ideal S1x384 .f32) (ix2 u k) = argQ m c k := by
  obtain ⟨h0, h1⟩ := at4 t
  refine Eq.trans ?_ (V_q m c u k)
  unfold iblk
  rw [View.read_apply]
  show V m c main_v32 _ = V m c main_v32 _
  refine congrArg (V m c main_v32) (funext fun a => Fin.ext ?_)
  match a with
  | 0 => show win0_4.index t 0 * 1 + 1 * u.val = u.val; rw [h0]; omega
  | 1 => show win0_4.index t 1 * 384 + 1 * k.val = k.val; rw [h1]; omega

theorem block5 (t : Fin cfg0.N) (u : Fin 1) (k : Fin 256) : (iblk m c 5 t : Vec Ideal S1x256 .f32) (ix2 u k) = argK m c k := by
  obtain ⟨h0, h1⟩ := at5 t
  refine Eq.trans ?_ (V_k m c u k)
  unfold iblk
  rw [View.read_apply]
  show V m c main_v35 _ = V m c main_v35 _
  refine congrArg (V m c main_v35) (funext fun a => Fin.ext ?_)
  match a with
  | 0 => show win0_5.index t 0 * 1 + 1 * u.val = u.val; rw [h0]; omega
  | 1 => show win0_5.index t 1 * 256 + 1 * k.val = k.val; rw [h1]; omega

theorem block2 (t : Fin cfg0.N) (f : Fin 3752) (k : Fin 1024) : (X0_2 m c t : Vec Ideal S1x3752x1024 .f32) (ix3 0 f k) = argW m c f k := by
  obtain ⟨h0, h1, h2⟩ := at2 t
  refine Eq.trans ?_ (V_w m c f k)
  unfold X0_2 Pipeline.Window.fill
  rw [dif_pos (moved0_2 t (ix3 0 f k))]
  unfold iblk
  rw [View.read_apply]
  show V m c main_v0 _ = V m c main_v0 _
  refine congrArg (V m c main_v0) (funext fun a => Fin.ext ?_)
  match a with
  | 0 => show win0_2.index t 0 * 1 + 1 * 0 = 0; rw [h0]
  | 1 => show win0_2.index t 1 * 3752 + 1 * f.val = f.val; rw [h1]; omega
  | 2 => show win0_2.index t 2 * 1024 + 1 * k.val = k.val; rw [h2]; omega

theorem block3 (t : Fin cfg0.N) (q : Fin 4) (l : Fin 512) : (iblk m c 3 t : Vec Ideal S1x4x512 .f32) (ix3 0 q l) = V m c main_v25 (ix3 0 q l) := by
  obtain ⟨h0, h1, h2⟩ := at3 t
  unfold iblk
  rw [View.read_apply]
  show V m c main_v25 _ = V m c main_v25 _
  refine congrArg (V m c main_v25) (funext fun a => Fin.ext ?_)
  match a with
  | 0 => show win0_3.index t 0 * 1 + 1 * 0 = 0; rw [h0]
  | 1 => show win0_3.index t 1 * 4 + 1 * q.val = q.val; rw [h1]; omega
  | 2 => show win0_3.index t 2 * 512 + 1 * l.val = l.val; rw [h2]; omega

/-- A load of a span of the weight's rows. -/
theorem span (t : Fin cfg0.N) (o N : Nat) (inb) (f : Fin N) (k : Fin 1024) (d : Fin 3752) (hd : d.val = o + f.val) :
    View.ld (X0_2 m c t : Vec Ideal S1x3752x1024 .f32) (Rect.unit ![0, o, 0] ![1, N, 1024] inb) (ix3 0 f k) = argW m c d k :=
  (View.ld_unit_apply_of _ _ _ _ _ (ix3 0 d k) (by intro a; fin_cases a <;> simp [ix3, hd])).trans (block2 m c t d k)

/-- A load of one row of the heads' gains. -/
theorem gainRow (t : Fin cfg0.N) (q : Fin 4) (inb) (l : Fin 512) :
    View.ld (iblk m c 3 t : Vec Ideal S1x4x512 .f32) (Rect.unit ![0, q.val, 0] ![1, 1, 512] inb) (ix3 0 0 l) = V m c main_v25 (ix3 0 q l) :=
  (View.ld_unit_apply_of _ _ _ _ _ (ix3 0 q l) (by intro a; fin_cases a <;> simp [ix3])).trans (block3 m c t q l)

set_option maxHeartbeats 2000000

theorem after_qa (t : Fin cfg0.N) (r : Fin 1024) (h : Fin 8) (l : Fin 64) :
    ((dats m 0 c).after 6 t : Vec Ideal S1024x512 .bf16) (ix2 r ⟨64 * h.val + l.val, by omega⟩)
      = normed 0x42800000#32 (fun j : Fin 64 => proj (argX m c (token t r)) (argG m c) (argW m c) ⟨0 + (64 * h.val + j.val), by omega⟩) (argA m c 0) l := by
  rw [after0_6]
  dsimp only [outsAt0]
  frame_out
  refine (heads_of (iblk m c 0 t) (iblk m c 1 t) (View.ld (X0_2 m c t) (Rect.unit ![0, 0, 0] ![1, 512, 1024] inb_S1x3752x1024_S1x512x1024_0_0_0))
    (View.ld (iblk m c 3 t) (Rect.unit ![0, 0, 0] ![1, 1, 512] inb_S1x4x512_S1x1x512_0_0_0)) (argW m c) (argA m c 0) 0 (by omega)
    (fun f k => span m c t 0 512 _ f k _ rfl) (fun j => (gainRow m c t 0 _ j).trans (V_h0 m c j)) r h l).trans ?_
  simp only [block0 m c t r, block1 m c t]

theorem after_ka (t : Fin cfg0.N) (r : Fin 1024) (h : Fin 8) (l : Fin 64) :
    ((dats m 0 c).after 7 t : Vec Ideal S1024x512 .bf16) (ix2 r ⟨64 * h.val + l.val, by omega⟩)
      = normed 0x42800000#32 (fun j : Fin 64 => proj (argX m c (token t r)) (argG m c) (argW m c) ⟨512 + (64 * h.val + j.val), by omega⟩) (argA m c 1) l := by
  rw [after0_7]
  frame_out
  refine (heads_of (iblk m c 0 t) (iblk m c 1 t) (View.ld (X0_2 m c t) (Rect.unit ![0, 512, 0] ![1, 512, 1024] inb_S1x3752x1024_S1x512x1024_0_512_0))
    (View.ld (iblk m c 3 t) (Rect.unit ![0, 1, 0] ![1, 1, 512] inb_S1x4x512_S1x1x512_0_1_0)) (argW m c) (argA m c 1) 512 (by omega)
    (fun f k => span m c t 512 512 _ f k _ rfl) (fun j => (gainRow m c t 1 _ j).trans (V_h1 m c j)) r h l).trans ?_
  simp only [block0 m c t r, block1 m c t]

theorem after_qc (t : Fin cfg0.N) (r : Fin 1024) (h : Fin 8) (l : Fin 64) :
    ((dats m 0 c).after 9 t : Vec Ideal S1024x512 .bf16) (ix2 r ⟨64 * h.val + l.val, by omega⟩)
      = normed 0x42800000#32 (fun j : Fin 64 => proj (argX m c (token t r)) (argG m c) (argW m c) ⟨2216 + (64 * h.val + j.val), by omega⟩) (argC m c 0) l := by
  rw [after0_9]
  frame_out
  refine (heads_of (iblk m c 0 t) (iblk m c 1 t) (View.ld (X0_2 m c t) (Rect.unit ![0, 2216, 0] ![1, 512, 1024] inb_S1x3752x1024_S1x512x1024_0_2216_0))
    (View.ld (iblk m c 3 t) (Rect.unit ![0, 2, 0] ![1, 1, 512] inb_S1x4x512_S1x1x512_0_2_0)) (argW m c) (argC m c 0) 2216 (by omega)
    (fun f k => span m c t 2216 512 _ f k _ rfl) (fun j => (gainRow m c t 2 _ j).trans (V_h2 m c j)) r h l).trans ?_
  simp only [block0 m c t r, block1 m c t]

theorem after_kc (t : Fin cfg0.N) (r : Fin 1024) (h : Fin 8) (l : Fin 64) :
    ((dats m 0 c).after 10 t : Vec Ideal S1024x512 .bf16) (ix2 r ⟨64 * h.val + l.val, by omega⟩)
      = normed 0x42800000#32 (fun j : Fin 64 => proj (argX m c (token t r)) (argG m c) (argW m c) ⟨2728 + (64 * h.val + j.val), by omega⟩) (argC m c 1) l := by
  rw [after0_10]
  frame_out
  refine (heads_of (iblk m c 0 t) (iblk m c 1 t) (View.ld (X0_2 m c t) (Rect.unit ![0, 2728, 0] ![1, 512, 1024] inb_S1x3752x1024_S1x512x1024_0_2728_0))
    (View.ld (iblk m c 3 t) (Rect.unit ![0, 3, 0] ![1, 1, 512] inb_S1x4x512_S1x1x512_0_3_0)) (argW m c) (argC m c 1) 2728 (by omega)
    (fun f k => span m c t 2728 512 _ f k _ rfl) (fun j => (gainRow m c t 3 _ j).trans (V_h3 m c j)) r h l).trans ?_
  simp only [block0 m c t r, block1 m c t]

theorem after_va (t : Fin cfg0.N) (r : Fin 1024) (l : Fin 512) :
    ((dats m 0 c).after 8 t : Vec Ideal S1024x512 .bf16) (ix2 r l) = proj (argX m c (token t r)) (argG m c) (argW m c) ⟨1024 + l.val, by omega⟩ := by
  rw [after0_8]
  frame_out
  refine (product_of (iblk m c 0 t) (iblk m c 1 t) (View.ld (X0_2 m c t) (Rect.unit ![0, 1024, 0] ![1, 512, 1024] inb_S1x3752x1024_S1x512x1024_0_1024_0))
    (argW m c) 1024 (by omega) (fun f k => span m c t 1024 512 _ f k _ rfl) r l).trans ?_
  simp only [block0 m c t r, block1 m c t]

theorem after_vc (t : Fin cfg0.N) (r : Fin 1024) (l : Fin 512) :
    ((dats m 0 c).after 11 t : Vec Ideal S1024x512 .bf16) (ix2 r l) = proj (argX m c (token t r)) (argG m c) (argW m c) ⟨3240 + l.val, by omega⟩ := by
  rw [after0_11]
  frame_out
  refine (product_of (iblk m c 0 t) (iblk m c 1 t) (View.ld (X0_2 m c t) (Rect.unit ![0, 3240, 0] ![1, 512, 1024] inb_S1x3752x1024_S1x512x1024_0_3240_0))
    (argW m c) 3240 (by omega) (fun f k => span m c t 3240 512 _ f k _ rfl) r l).trans ?_
  simp only [block0 m c t r, block1 m c t]

/-- The tail's columns over the loaded spans. -/
theorem tail_at (t : Fin cfg0.N) (r : Fin 1024) (f : Fin 768) :
    k0_pay53 (k0_pay3 (iblk m c 0 t) (iblk m c 1 t)) (View.ld (X0_2 m c t) (Rect.unit ![0, 1544, 0] ![1, 640, 1024] inb_S1x3752x1024_S1x640x1024_0_1544_0))
        (View.ld (X0_2 m c t) (Rect.unit ![0, 1536, 0] ![1, 8, 1024] inb_S1x3752x1024_S1x8x1024_0_1536_0))
        (View.ld (X0_2 m c t) (Rect.unit ![0, 2184, 0] ![1, 32, 1024] inb_S1x3752x1024_S1x32x1024_0_2184_0)) (ix2 r f)
      = tailCol (argX m c (token t r)) (argG m c) (argW m c) f := by
  refine (tail_of _ _ _ _ _ (argW m c) (fun f k => span m c t 1544 640 _ f k _ rfl) (fun f k => span m c t 1536 8 _ f k _ rfl) (fun f k => span m c t 2184 32 _ f k _ rfl) r f).trans ?_
  simp only [block0 m c t r, block1 m c t]

theorem after_qd (t : Fin cfg0.N) (r : Fin 1024) (l : Fin 384) :
    ((dats m 0 c).after 12 t : Vec Ideal S1024x384 .bf16) (ix2 r l)
      = normed 0x43C00000#32 (fun j : Fin 384 => proj (argX m c (token t r)) (argG m c) (argW m c) ⟨1544 + j.val, by omega⟩) (argQ m c) l := by
  rw [after0_12]
  frame_out
  refine (pay54_apply _ _ _ _ _ r l).trans ?_
  refine congrArg₂ (fun u g => normed 0x43C00000#32 u g l) (funext fun j => ?_) (funext fun j => block4 m c t 0 j)
  exact (tail_at m c t r _).trans (tailCol_latent _ _ _ ⟨j.val, by omega⟩ (by show j.val < 640; omega))

theorem after_kvd (t : Fin cfg0.N) (r : Fin 1024) (l : Fin 256) :
    ((dats m 0 c).after 13 t : Vec Ideal S1024x256 .bf16) (ix2 r l)
      = normed 0x43800000#32 (fun j : Fin 256 => proj (argX m c (token t r)) (argG m c) (argW m c) ⟨1928 + j.val, by omega⟩) (argK m c) l := by
  rw [after0_13]
  frame_out
  refine (pay1_apply _ _ _ _ _ r l).trans ?_
  refine congrArg₂ (fun u g => normed 0x43800000#32 u g l) (funext fun j => ?_) (funext fun j => block5 m c t 0 j)
  exact (tail_at m c t r _).trans ((tailCol_latent _ _ _ ⟨384 + j.val, by omega⟩ (by show 384 + j.val < 640; omega)).trans
    (congrArg _ (Fin.ext (by show 1544 + (384 + j.val) = 1928 + j.val; omega))))

theorem after_misc (t : Fin cfg0.N) (r : Fin 1024) (l : Fin 128) :
    ((dats m 0 c).after 14 t : Vec Ideal S1024x128 .f32) (ix2 r l) = miscCol (argX m c (token t r)) (argG m c) (argW m c) l := by
  rw [after0_14]
  frame_out
  refine (pay2_apply _ r l).trans ?_
  exact (tail_at m c t r _).trans (tailCol_misc _ _ _ l)

theorem at_qa (n : Fin 16384) (l : Fin 512) (t : Fin cfg0.N) (r : Fin 1024) (hn : token t r = n) :
    ((dats m 0 c).arrAt 6 cfg0.N : Vec Ideal S16384x512 .bf16) (ix2 n l) = ((dats m 0 c).after 6 t : Vec Ideal S1024x512 .bf16) (ix2 r l) := by
  obtain ⟨h0, h1⟩ := at6 t
  subst hn
  have e := congrFun (Value.blocks6 m c t (flush0_6 t)) (ix2 r l)
  rw [View.read_apply] at e
  refine Eq.trans (congrArg _ (funext fun a => Fin.ext ?_)) e
  match a with
  | 0 => show 1024 * t.val + r.val = win0_6.index t 0 * 1024 + 1 * r.val; rw [h0]; omega
  | 1 => show l.val = win0_6.index t 1 * 512 + 1 * l.val; rw [h1]; omega

theorem at_ka (n : Fin 16384) (l : Fin 512) (t : Fin cfg0.N) (r : Fin 1024) (hn : token t r = n) :
    ((dats m 0 c).arrAt 7 cfg0.N : Vec Ideal S16384x512 .bf16) (ix2 n l) = ((dats m 0 c).after 7 t : Vec Ideal S1024x512 .bf16) (ix2 r l) := by
  obtain ⟨h0, h1⟩ := at7 t
  subst hn
  have e := congrFun (Value.blocks7 m c t (flush0_7 t)) (ix2 r l)
  rw [View.read_apply] at e
  refine Eq.trans (congrArg _ (funext fun a => Fin.ext ?_)) e
  match a with
  | 0 => show 1024 * t.val + r.val = win0_7.index t 0 * 1024 + 1 * r.val; rw [h0]; omega
  | 1 => show l.val = win0_7.index t 1 * 512 + 1 * l.val; rw [h1]; omega

theorem at_va (n : Fin 16384) (l : Fin 512) (t : Fin cfg0.N) (r : Fin 1024) (hn : token t r = n) :
    ((dats m 0 c).arrAt 8 cfg0.N : Vec Ideal S16384x512 .bf16) (ix2 n l) = ((dats m 0 c).after 8 t : Vec Ideal S1024x512 .bf16) (ix2 r l) := by
  obtain ⟨h0, h1⟩ := at8 t
  subst hn
  have e := congrFun (Value.blocks8 m c t (flush0_8 t)) (ix2 r l)
  rw [View.read_apply] at e
  refine Eq.trans (congrArg _ (funext fun a => Fin.ext ?_)) e
  match a with
  | 0 => show 1024 * t.val + r.val = win0_8.index t 0 * 1024 + 1 * r.val; rw [h0]; omega
  | 1 => show l.val = win0_8.index t 1 * 512 + 1 * l.val; rw [h1]; omega

theorem at_qc (n : Fin 16384) (l : Fin 512) (t : Fin cfg0.N) (r : Fin 1024) (hn : token t r = n) :
    ((dats m 0 c).arrAt 9 cfg0.N : Vec Ideal S16384x512 .bf16) (ix2 n l) = ((dats m 0 c).after 9 t : Vec Ideal S1024x512 .bf16) (ix2 r l) := by
  obtain ⟨h0, h1⟩ := at9 t
  subst hn
  have e := congrFun (Value.blocks9 m c t (flush0_9 t)) (ix2 r l)
  rw [View.read_apply] at e
  refine Eq.trans (congrArg _ (funext fun a => Fin.ext ?_)) e
  match a with
  | 0 => show 1024 * t.val + r.val = win0_9.index t 0 * 1024 + 1 * r.val; rw [h0]; omega
  | 1 => show l.val = win0_9.index t 1 * 512 + 1 * l.val; rw [h1]; omega

theorem at_kc (n : Fin 16384) (l : Fin 512) (t : Fin cfg0.N) (r : Fin 1024) (hn : token t r = n) :
    ((dats m 0 c).arrAt 10 cfg0.N : Vec Ideal S16384x512 .bf16) (ix2 n l) = ((dats m 0 c).after 10 t : Vec Ideal S1024x512 .bf16) (ix2 r l) := by
  obtain ⟨h0, h1⟩ := at10 t
  subst hn
  have e := congrFun (Value.blocks10 m c t (flush0_10 t)) (ix2 r l)
  rw [View.read_apply] at e
  refine Eq.trans (congrArg _ (funext fun a => Fin.ext ?_)) e
  match a with
  | 0 => show 1024 * t.val + r.val = win0_10.index t 0 * 1024 + 1 * r.val; rw [h0]; omega
  | 1 => show l.val = win0_10.index t 1 * 512 + 1 * l.val; rw [h1]; omega

theorem at_vc (n : Fin 16384) (l : Fin 512) (t : Fin cfg0.N) (r : Fin 1024) (hn : token t r = n) :
    ((dats m 0 c).arrAt 11 cfg0.N : Vec Ideal S16384x512 .bf16) (ix2 n l) = ((dats m 0 c).after 11 t : Vec Ideal S1024x512 .bf16) (ix2 r l) := by
  obtain ⟨h0, h1⟩ := at11 t
  subst hn
  have e := congrFun (Value.blocks11 m c t (flush0_11 t)) (ix2 r l)
  rw [View.read_apply] at e
  refine Eq.trans (congrArg _ (funext fun a => Fin.ext ?_)) e
  match a with
  | 0 => show 1024 * t.val + r.val = win0_11.index t 0 * 1024 + 1 * r.val; rw [h0]; omega
  | 1 => show l.val = win0_11.index t 1 * 512 + 1 * l.val; rw [h1]; omega

theorem at_qd (n : Fin 16384) (l : Fin 384) (t : Fin cfg0.N) (r : Fin 1024) (hn : token t r = n) :
    ((dats m 0 c).arrAt 12 cfg0.N : Vec Ideal S16384x384 .bf16) (ix2 n l) = ((dats m 0 c).after 12 t : Vec Ideal S1024x384 .bf16) (ix2 r l) := by
  obtain ⟨h0, h1⟩ := at12 t
  subst hn
  have e := congrFun (Value.blocks12 m c t (flush0_12 t)) (ix2 r l)
  rw [View.read_apply] at e
  refine Eq.trans (congrArg _ (funext fun a => Fin.ext ?_)) e
  match a with
  | 0 => show 1024 * t.val + r.val = win0_12.index t 0 * 1024 + 1 * r.val; rw [h0]; omega
  | 1 => show l.val = win0_12.index t 1 * 384 + 1 * l.val; rw [h1]; omega

theorem at_kvd (n : Fin 16384) (l : Fin 256) (t : Fin cfg0.N) (r : Fin 1024) (hn : token t r = n) :
    ((dats m 0 c).arrAt 13 cfg0.N : Vec Ideal S16384x256 .bf16) (ix2 n l) = ((dats m 0 c).after 13 t : Vec Ideal S1024x256 .bf16) (ix2 r l) := by
  obtain ⟨h0, h1⟩ := at13 t
  subst hn
  have e := congrFun (Value.blocks13 m c t (flush0_13 t)) (ix2 r l)
  rw [View.read_apply] at e
  refine Eq.trans (congrArg _ (funext fun a => Fin.ext ?_)) e
  match a with
  | 0 => show 1024 * t.val + r.val = win0_13.index t 0 * 1024 + 1 * r.val; rw [h0]; omega
  | 1 => show l.val = win0_13.index t 1 * 256 + 1 * l.val; rw [h1]; omega

theorem at_misc (n : Fin 16384) (l : Fin 128) (t : Fin cfg0.N) (r : Fin 1024) (hn : token t r = n) :
    ((dats m 0 c).arrAt 14 cfg0.N : Vec Ideal S16384x128 .f32) (ix2 n l) = ((dats m 0 c).after 14 t : Vec Ideal S1024x128 .f32) (ix2 r l) := by
  obtain ⟨h0, h1⟩ := at14 t
  subst hn
  have e := congrFun (Value.blocks14 m c t (flush0_14 t)) (ix2 r l)
  rw [View.read_apply] at e
  refine Eq.trans (congrArg _ (funext fun a => Fin.ext ?_)) e
  match a with
  | 0 => show 1024 * t.val + r.val = win0_14.index t 0 * 1024 + 1 * r.val; rw [h0]; omega
  | 1 => show l.val = win0_14.index t 1 * 128 + 1 * l.val; rw [h1]; omega

theorem tile (n : Fin 16384) : token ⟨n.val / 1024, lt_of_lt_of_eq (by omega) N_0.symm⟩ ⟨n.val % 1024, by omega⟩ = n :=
  Fin.ext (by show 1024 * (n.val / 1024) + n.val % 1024 = n.val; omega)

theorem result_qa (n : Fin 16384) (h : Fin 8) (l : Fin 64) :
    ((dats m 0 c).arrAt 6 cfg0.N : Vec Ideal S16384x512 .bf16) (ix2 n ⟨64 * h.val + l.val, by omega⟩)
      = normed 0x42800000#32 (fun j : Fin 64 => proj (argX m c n) (argG m c) (argW m c) ⟨0 + (64 * h.val + j.val), by omega⟩) (argA m c 0) l := by
  refine (at_qa m c n _ _ _ (tile n)).trans ((after_qa m c _ _ h l).trans ?_)
  rw [tile]

theorem result_ka (n : Fin 16384) (h : Fin 8) (l : Fin 64) :
    ((dats m 0 c).arrAt 7 cfg0.N : Vec Ideal S16384x512 .bf16) (ix2 n ⟨64 * h.val + l.val, by omega⟩)
      = normed 0x42800000#32 (fun j : Fin 64 => proj (argX m c n) (argG m c) (argW m c) ⟨512 + (64 * h.val + j.val), by omega⟩) (argA m c 1) l := by
  refine (at_ka m c n _ _ _ (tile n)).trans ((after_ka m c _ _ h l).trans ?_)
  rw [tile]

theorem result_va (n : Fin 16384) (l : Fin 512) :
    ((dats m 0 c).arrAt 8 cfg0.N : Vec Ideal S16384x512 .bf16) (ix2 n l)
      = proj (argX m c n) (argG m c) (argW m c) ⟨1024 + l.val, by omega⟩ := by
  refine (at_va m c n _ _ _ (tile n)).trans ((after_va m c _ _ l).trans ?_)
  rw [tile]

theorem result_qc (n : Fin 16384) (h : Fin 8) (l : Fin 64) :
    ((dats m 0 c).arrAt 9 cfg0.N : Vec Ideal S16384x512 .bf16) (ix2 n ⟨64 * h.val + l.val, by omega⟩)
      = normed 0x42800000#32 (fun j : Fin 64 => proj (argX m c n) (argG m c) (argW m c) ⟨2216 + (64 * h.val + j.val), by omega⟩) (argC m c 0) l := by
  refine (at_qc m c n _ _ _ (tile n)).trans ((after_qc m c _ _ h l).trans ?_)
  rw [tile]

theorem result_kc (n : Fin 16384) (h : Fin 8) (l : Fin 64) :
    ((dats m 0 c).arrAt 10 cfg0.N : Vec Ideal S16384x512 .bf16) (ix2 n ⟨64 * h.val + l.val, by omega⟩)
      = normed 0x42800000#32 (fun j : Fin 64 => proj (argX m c n) (argG m c) (argW m c) ⟨2728 + (64 * h.val + j.val), by omega⟩) (argC m c 1) l := by
  refine (at_kc m c n _ _ _ (tile n)).trans ((after_kc m c _ _ h l).trans ?_)
  rw [tile]

theorem result_vc (n : Fin 16384) (l : Fin 512) :
    ((dats m 0 c).arrAt 11 cfg0.N : Vec Ideal S16384x512 .bf16) (ix2 n l)
      = proj (argX m c n) (argG m c) (argW m c) ⟨3240 + l.val, by omega⟩ := by
  refine (at_vc m c n _ _ _ (tile n)).trans ((after_vc m c _ _ l).trans ?_)
  rw [tile]

theorem result_qd (n : Fin 16384) (l : Fin 384) :
    ((dats m 0 c).arrAt 12 cfg0.N : Vec Ideal S16384x384 .bf16) (ix2 n l)
      = normed 0x43C00000#32 (fun j : Fin 384 => proj (argX m c n) (argG m c) (argW m c) ⟨1544 + j.val, by omega⟩) (argQ m c) l := by
  refine (at_qd m c n _ _ _ (tile n)).trans ((after_qd m c _ _ l).trans ?_)
  rw [tile]

theorem result_kvd (n : Fin 16384) (l : Fin 256) :
    ((dats m 0 c).arrAt 13 cfg0.N : Vec Ideal S16384x256 .bf16) (ix2 n l)
      = normed 0x43800000#32 (fun j : Fin 256 => proj (argX m c n) (argG m c) (argW m c) ⟨1928 + j.val, by omega⟩) (argK m c) l := by
  refine (at_kvd m c n _ _ _ (tile n)).trans ((after_kvd m c _ _ l).trans ?_)
  rw [tile]

theorem result_misc (n : Fin 16384) (l : Fin 128) :
    ((dats m 0 c).arrAt 14 cfg0.N : Vec Ideal S16384x128 .f32) (ix2 n l)
      = miscCol (argX m c n) (argG m c) (argW m c) l := by
  refine (at_misc m c n _ _ _ (tile n)).trans ((after_misc m c _ _ l).trans ?_)
  rw [tile]

end Cert.Kernel4Ideal.InProj

end
-- ==== Proof.InReference.lean ====
/- The input projection's reference at an index. -/
module

public import proofs.«01_k».proof.Proof.InValue
public import proofs.«01_k».proof.Proof.Gen.Reference4Ideal.Read

@[expose] public section

set_option maxRecDepth 16384

noncomputable section

namespace Cert.Reference4Ideal.InProj

open Idealize.ShloMosaic Idealize.ShloMosaic.TcCoe Cert.Reference4Ideal Cert.Reference4Ideal.Gen Cert.Reference4Ideal.Read
open Idealize.ShloMosaic.ValueIdx (ix1 ix2 ix3 ix4 eq_ix1 eq_ix2 eq_ix3)
open Cert.Kernel2Ideal.Ffn (rms)
open Cert.Kernel4Ideal.InProj (normed proj miscCol)

variable (x : (⟨S8x2048x1024, .f32⟩ : BufTy).Contents (Elt Ideal)) (g : (⟨S4x1024, .f32⟩ : BufTy).Contents (Elt Ideal))
  (w : (⟨S4x1024x6824, .f32⟩ : BufTy).Contents (Elt Ideal)) (ga gc : (⟨S4x2x64, .f32⟩ : BufTy).Contents (Elt Ideal))
  (gq : (⟨S4x384, .f32⟩ : BufTy).Contents (Elt Ideal)) (gk : (⟨S4x256, .f32⟩ : BufTy).Contents (Elt Ideal))

/-- The row of a batch entry's position, the gains of the first layer and its weight, by column. -/
abbrev row (b : Fin 8) (s : Fin 2048) (k : Fin 1024) : EReal := x (ix3 b s k)
abbrev gains (k : Fin 1024) : EReal := g (ix2 0 k)
abbrev cols (f : Fin 3752) (k : Fin 1024) : EReal := w (ix3 0 k ⟨f.val, by omega⟩)

theorem squares_at (b : Fin 8) (s : Fin 2048) : val_main_v3 (F := Ideal) x (ix2 b s) = ∑ j : Fin 1024, (x (ix3 b s j) * x (ix3 b s j) : EReal) := by
  rw [val_main_v3_apply, val_main_cst_apply]
  show Ideal.ofBits .f32 0x00000000#32 + _ = _
  rw [Ideal.ofBits_zero_f32, zero_add]
  refine Finset.sum_congr rfl fun j _ => ?_
  rw [val_main_v2_apply]
  have e : ∀ i : S8x2048x1024.Idx, i = ix3 b s j → FloatOps.mulf (F := Ideal) (φ := .f32) (x i) (x i) = (x (ix3 b s j) * x (ix3 b s j) : EReal) := fun i h => by rw [h]; rfl
  exact e _ (funext fun a => Fin.ext (by fin_cases a <;> rfl))

/-- The normalized rows. -/
theorem v14_at (b : Fin 8) (s : Fin 2048) (k : Fin 1024) : val_main_v14 (F := Ideal) x g (ix3 b s k) = rms (row x b s) (gains g) k := by
  rw [val_main_v14_apply, val_main_v11_apply, val_main_v10_apply, val_main_v9_apply, val_main_v8_apply, val_main_v6_apply, val_main_v4_apply,
    val_main_v5_apply, val_main_cst_0_apply, val_main_v7_apply, val_main_cst_1_apply, val_main_v13_apply, val_main_v12_apply, val_main_v1_apply, val_main_v0_apply]
  have e1 : idx_main_v4 (idx_main_v10 (ix3 b s k)) = ix2 b s := funext fun a => Fin.ext (by fin_cases a <;> rfl)
  have e2 : idx_main_v0 (idx_main_v1 (idx_main_v12 (idx_main_v13 (ix3 b s k)))) = ix2 0 k := funext fun a => Fin.ext (by
    have := k.isLt
    fin_cases a
    · rfl
    · show k.val % 1024 = k.val; omega)
  rw [e1, e2, squares_at]
  rfl

/-- The projection's columns that the call makes. -/
theorem v17_at (b : Fin 8) (s : Fin 2048) (f : Fin 3752) (i : S8x2048x6824.Idx) (hi : i = ix3 b s ⟨f.val, by omega⟩) :
    val_main_v17 (F := Ideal) x g w i = proj (row x b s) (gains g) (cols w) f := by
  subst hi
  rw [val_main_v17_apply]
  refine Finset.sum_congr rfl fun k _ => ?_
  rw [val_main_v16_apply, val_main_v15_apply]
  have e1 : lidx_main_v17 (ix3 b s (⟨f.val, by omega⟩ : Fin 6824)) k = ix3 b s k := funext fun a => Fin.ext (by fin_cases a <;> rfl)
  have e2 : idx_main_v15 (idx_main_v16 (ridx_main_v17 (ix3 b s (⟨f.val, by omega⟩ : Fin 6824)) k)) = ix3 0 k (⟨f.val, by omega⟩ : Fin 6824) := funext fun a => Fin.ext (by
    have := k.isLt; have := f.isLt
    fin_cases a
    · rfl
    · show (k.val * 6824 + f.val) / 6824 % 1024 = k.val; omega
    · show (k.val * 6824 + f.val) % 6824 = f.val; omega)
  rw [e1, e2, v14_at]

/-- The heads of columns 0 to 512 before their normalization. -/
theorem qa_raw (b : Fin 8) (s : Fin 2048) (h : Fin 8) (l : Fin 64) (i : S8x2048x8x64.Idx) (hi : i = ix4 b s h l) :
    val_main_v19 (F := Ideal) x g w i = proj (row x b s) (gains g) (cols w) ⟨0 + (64 * h.val + l.val), by omega⟩ := by
  subst hi
  rw [val_main_v19_apply, val_main_v18_apply]
  refine v17_at x g w b s ⟨0 + (64 * h.val + l.val), by omega⟩ _ (funext fun a => Fin.ext ?_)
  have := b.isLt; have := s.isLt; have := h.isLt; have := l.isLt
  fin_cases a
  · show (((b.val * 2048 + s.val) * 8 + h.val) * 64 + l.val) / 1048576 = b.val; omega
  · show (((b.val * 2048 + s.val) * 8 + h.val) * 64 + l.val) / 512 % 2048 = s.val; omega
  · show (((b.val * 2048 + s.val) * 8 + h.val) * 64 + l.val) % 512 = 0 + (64 * h.val + l.val); omega

theorem qa_squares (b : Fin 8) (s : Fin 2048) (h : Fin 8) :
    val_main_v23 (F := Ideal) x g w (ix3 b s h) = ∑ j : Fin 64, (proj (row x b s) (gains g) (cols w) ⟨0 + (64 * h.val + j.val), by omega⟩ * proj (row x b s) (gains g) (cols w) ⟨0 + (64 * h.val + j.val), by omega⟩ : EReal) := by
  rw [val_main_v23_apply, val_main_cst_2_apply]
  show Ideal.ofBits .f32 0x00000000#32 + _ = _
  rw [Ideal.ofBits_zero_f32, zero_add]
  refine Finset.sum_congr rfl fun j _ => ?_
  rw [val_main_v22_apply, qa_raw x g w b s h j _ (funext fun a => Fin.ext (by fin_cases a <;> rfl))]
  rfl

theorem qa_heads (b : Fin 8) (s : Fin 2048) (h : Fin 8) (l : Fin 64) :
    val_main_v34 (F := Ideal) x g w ga (ix4 b s h l)
      = normed 0x42800000#32 (fun j : Fin 64 => proj (row x b s) (gains g) (cols w) ⟨0 + (64 * h.val + j.val), by omega⟩) (fun j => ga (ix3 0 0 j)) l := by
  rw [val_main_v34_apply, val_main_v31_apply, val_main_v30_apply, val_main_v29_apply, val_main_v28_apply, val_main_v26_apply, val_main_v24_apply, val_main_v25_apply, val_main_cst_3_apply,
    val_main_v27_apply, val_main_cst_4_apply, val_main_v33_apply, val_main_v32_apply, val_main_v21_apply, val_main_v20_apply]
  have e1 : idx_main_v24 (idx_main_v30 (ix4 b s h l)) = ix3 b s h := funext fun a => Fin.ext (by fin_cases a <;> rfl)
  have e2 : idx_main_v20 (idx_main_v21 (idx_main_v32 (idx_main_v33 (ix4 b s h l)))) = ix3 0 0 l := funext fun a => Fin.ext (by
    have := l.isLt
    fin_cases a
    · rfl
    · rfl
    · show l.val % 64 = l.val; omega)
  rw [e1, e2, qa_squares, qa_raw x g w b s h l _ rfl]
  rfl

theorem qa_at (n : Fin 16384) (h : Fin 8) (l : Fin 64) :
    val_main_v126 (F := Ideal) x g w ga (ix2 n ⟨64 * h.val + l.val, by omega⟩)
      = normed 0x42800000#32 (fun j : Fin 64 => proj (row x ⟨n.val / 2048, by omega⟩ ⟨n.val % 2048, by omega⟩) (gains g) (cols w) ⟨0 + (64 * h.val + j.val), by omega⟩) (fun j => ga (ix3 0 0 j)) l := by
  rw [val_main_v126_apply, val_main_v125_apply]
  refine Eq.trans ?_ (qa_heads x g w ga ⟨n.val / 2048, by omega⟩ ⟨n.val % 2048, by omega⟩ h l)
  show val_main_v34 (F := Ideal) x g w ga _ = _
  refine congrArg (val_main_v34 (F := Ideal) x g w ga) (funext fun a => Fin.ext ?_)
  have := n.isLt; have := h.isLt; have := l.isLt
  fin_cases a
  · show (n.val * 512 + (64 * h.val + l.val)) / 1048576 = n.val / 2048; omega
  · show (n.val * 512 + (64 * h.val + l.val)) / 512 % 2048 = n.val % 2048; omega
  · show (n.val * 512 + (64 * h.val + l.val)) / 64 % 8 = h.val; omega
  · show (n.val * 512 + (64 * h.val + l.val)) % 64 = l.val; omega

/-- The heads of columns 512 to 1024 before their normalization. -/
theorem ka_raw (b : Fin 8) (s : Fin 2048) (h : Fin 8) (l : Fin 64) (i : S8x2048x8x64.Idx) (hi : i = ix4 b s h l) :
    val_main_v36 (F := Ideal) x g w i = proj (row x b s) (gains g) (cols w) ⟨512 + (64 * h.val + l.val), by omega⟩ := by
  subst hi
  rw [val_main_v36_apply, val_main_v35_apply]
  refine v17_at x g w b s ⟨512 + (64 * h.val + l.val), by omega⟩ _ (funext fun a => Fin.ext ?_)
  have := b.isLt; have := s.isLt; have := h.isLt; have := l.isLt
  fin_cases a
  · show (((b.val * 2048 + s.val) * 8 + h.val) * 64 + l.val) / 1048576 = b.val; omega
  · show (((b.val * 2048 + s.val) * 8 + h.val) * 64 + l.val) / 512 % 2048 = s.val; omega
  · show 512 + (((b.val * 2048 + s.val) * 8 + h.val) * 64 + l.val) % 512 = 512 + (64 * h.val + l.val); omega

theorem ka_squares (b : Fin 8) (s : Fin 2048) (h : Fin 8) :
    val_main_v40 (F := Ideal) x g w (ix3 b s h) = ∑ j : Fin 64, (proj (row x b s) (gains g) (cols w) ⟨512 + (64 * h.val + j.val), by omega⟩ * proj (row x b s) (gains g) (cols w) ⟨512 + (64 * h.val + j.val), by omega⟩ : EReal) := by
  rw [val_main_v40_apply, val_main_cst_5_apply]
  show Ideal.ofBits .f32 0x00000000#32 + _ = _
  rw [Ideal.ofBits_zero_f32, zero_add]
  refine Finset.sum_congr rfl fun j _ => ?_
  rw [val_main_v39_apply, ka_raw x g w b s h j _ (funext fun a => Fin.ext (by fin_cases a <;> rfl))]
  rfl

theorem ka_heads (b : Fin 8) (s : Fin 2048) (h : Fin 8) (l : Fin 64) :
    val_main_v51 (F := Ideal) x g w ga (ix4 b s h l)
      = normed 0x42800000#32 (fun j : Fin 64 => proj (row x b s) (gains g) (cols w) ⟨512 + (64 * h.val + j.val), by omega⟩) (fun j => ga (ix3 0 1 j)) l := by
  rw [val_main_v51_apply, val_main_v48_apply, val_main_v47_apply, val_main_v46_apply, val_main_v45_apply, val_main_v43_apply, val_main_v41_apply, val_main_v42_apply, val_main_cst_6_apply,
    val_main_v44_apply, val_main_cst_7_apply, val_main_v50_apply, val_main_v49_apply, val_main_v38_apply, val_main_v37_apply]
  have e1 : idx_main_v41 (idx_main_v47 (ix4 b s h l)) = ix3 b s h := funext fun a => Fin.ext (by fin_cases a <;> rfl)
  have e2 : idx_main_v37 (idx_main_v38 (idx_main_v49 (idx_main_v50 (ix4 b s h l)))) = ix3 0 1 l := funext fun a => Fin.ext (by
    have := l.isLt
    fin_cases a
    · rfl
    · rfl
    · show l.val % 64 = l.val; omega)
  rw [e1, e2, ka_squares, ka_raw x g w b s h l _ rfl]
  rfl

theorem ka_at (n : Fin 16384) (h : Fin 8) (l : Fin 64) :
    val_main_v128 (F := Ideal) x g w ga (ix2 n ⟨64 * h.val + l.val, by omega⟩)
      = normed 0x42800000#32 (fun j : Fin 64 => proj (row x ⟨n.val / 2048, by omega⟩ ⟨n.val % 2048, by omega⟩) (gains g) (cols w) ⟨512 + (64 * h.val + j.val), by omega⟩) (fun j => ga (ix3 0 1 j)) l := by
  rw [val_main_v128_apply, val_main_v127_apply]
  refine Eq.trans ?_ (ka_heads x g w ga ⟨n.val / 2048, by omega⟩ ⟨n.val % 2048, by omega⟩ h l)
  show val_main_v51 (F := Ideal) x g w ga _ = _
  refine congrArg (val_main_v51 (F := Ideal) x g w ga) (funext fun a => Fin.ext ?_)
  have := n.isLt; have := h.isLt; have := l.isLt
  fin_cases a
  · show (n.val * 512 + (64 * h.val + l.val)) / 1048576 = n.val / 2048; omega
  · show (n.val * 512 + (64 * h.val + l.val)) / 512 % 2048 = n.val % 2048; omega
  · show (n.val * 512 + (64 * h.val + l.val)) / 64 % 8 = h.val; omega
  · show (n.val * 512 + (64 * h.val + l.val)) % 64 = l.val; omega

/-- The heads of columns 2216 to 2728 before their normalization. -/
theorem qc_raw (b : Fin 8) (s : Fin 2048) (h : Fin 8) (l : Fin 64) (i : S8x2048x8x64.Idx) (hi : i = ix4 b s h l) :
    val_main_v88 (F := Ideal) x g w i = proj (row x b s) (gains g) (cols w) ⟨2216 + (64 * h.val + l.val), by omega⟩ := by
  subst hi
  rw [val_main_v88_apply, val_main_v87_apply]
  refine v17_at x g w b s ⟨2216 + (64 * h.val + l.val), by omega⟩ _ (funext fun a => Fin.ext ?_)
  have := b.isLt; have := s.isLt; have := h.isLt; have := l.isLt
  fin_cases a
  · show (((b.val * 2048 + s.val) * 8 + h.val) * 64 + l.val) / 1048576 = b.val; omega
  · show (((b.val * 2048 + s.val) * 8 + h.val) * 64 + l.val) / 512 % 2048 = s.val; omega
  · show 2216 + (((b.val * 2048 + s.val) * 8 + h.val) * 64 + l.val) % 512 = 2216 + (64 * h.val + l.val); omega

theorem qc_squares (b : Fin 8) (s : Fin 2048) (h : Fin 8) :
    val_main_v92 (F := Ideal) x g w (ix3 b s h) = ∑ j : Fin 64, (proj (row x b s) (gains g) (cols w) ⟨2216 + (64 * h.val + j.val), by omega⟩ * proj (row x b s) (gains g) (cols w) ⟨2216 + (64 * h.val + j.val), by omega⟩ : EReal) := by
  rw [val_main_v92_apply, val_main_cst_14_apply]
  show Ideal.ofBits .f32 0x00000000#32 + _ = _
  rw [Ideal.ofBits_zero_f32, zero_add]
  refine Finset.sum_congr rfl fun j _ => ?_
  rw [val_main_v91_apply, qc_raw x g w b s h j _ (funext fun a => Fin.ext (by fin_cases a <;> rfl))]
  rfl

theorem qc_heads (b : Fin 8) (s : Fin 2048) (h : Fin 8) (l : Fin 64) :
    val_main_v103 (F := Ideal) x g w gc (ix4 b s h l)
      = normed 0x42800000#32 (fun j : Fin 64 => proj (row x b s) (gains g) (cols w) ⟨2216 + (64 * h.val + j.val), by omega⟩) (fun j => gc (ix3 0 0 j)) l := by
  rw [val_main_v103_apply, val_main_v100_apply, val_main_v99_apply, val_main_v98_apply, val_main_v97_apply, val_main_v95_apply, val_main_v93_apply, val_main_v94_apply, val_main_cst_15_apply,
    val_main_v96_apply, val_main_cst_16_apply, val_main_v102_apply, val_main_v101_apply, val_main_v90_apply, val_main_v89_apply]
  have e1 : idx_main_v93 (idx_main_v99 (ix4 b s h l)) = ix3 b s h := funext fun a => Fin.ext (by fin_cases a <;> rfl)
  have e2 : idx_main_v89 (idx_main_v90 (idx_main_v101 (idx_main_v102 (ix4 b s h l)))) = ix3 0 0 l := funext fun a => Fin.ext (by
    have := l.isLt
    fin_cases a
    · rfl
    · rfl
    · show l.val % 64 = l.val; omega)
  rw [e1, e2, qc_squares, qc_raw x g w b s h l _ rfl]
  rfl

theorem qc_at (n : Fin 16384) (h : Fin 8) (l : Fin 64) :
    val_main_v132 (F := Ideal) x g w gc (ix2 n ⟨64 * h.val + l.val, by omega⟩)
      = normed 0x42800000#32 (fun j : Fin 64 => proj (row x ⟨n.val / 2048, by omega⟩ ⟨n.val % 2048, by omega⟩) (gains g) (cols w) ⟨2216 + (64 * h.val + j.val), by omega⟩) (fun j => gc (ix3 0 0 j)) l := by
  rw [val_main_v132_apply, val_main_v131_apply]
  refine Eq.trans ?_ (qc_heads x g w gc ⟨n.val / 2048, by omega⟩ ⟨n.val % 2048, by omega⟩ h l)
  show val_main_v103 (F := Ideal) x g w gc _ = _
  refine congrArg (val_main_v103 (F := Ideal) x g w gc) (funext fun a => Fin.ext ?_)
  have := n.isLt; have := h.isLt; have := l.isLt
  fin_cases a
  · show (n.val * 512 + (64 * h.val + l.val)) / 1048576 = n.val / 2048; omega
  · show (n.val * 512 + (64 * h.val + l.val)) / 512 % 2048 = n.val % 2048; omega
  · show (n.val * 512 + (64 * h.val + l.val)) / 64 % 8 = h.val; omega
  · show (n.val * 512 + (64 * h.val + l.val)) % 64 = l.val; omega

/-- The heads of columns 2728 to 3240 before their normalization. -/
theorem kc_raw (b : Fin 8) (s : Fin 2048) (h : Fin 8) (l : Fin 64) (i : S8x2048x8x64.Idx) (hi : i = ix4 b s h l) :
    val_main_v105 (F := Ideal) x g w i = proj (row x b s) (gains g) (cols w) ⟨2728 + (64 * h.val + l.val), by omega⟩ := by
  subst hi
  rw [val_main_v105_apply, val_main_v104_apply]
  refine v17_at x g w b s ⟨2728 + (64 * h.val + l.val), by omega⟩ _ (funext fun a => Fin.ext ?_)
  have := b.isLt; have := s.isLt; have := h.isLt; have := l.isLt
  fin_cases a
  · show (((b.val * 2048 + s.val) * 8 + h.val) * 64 + l.val) / 1048576 = b.val; omega
  · show (((b.val * 2048 + s.val) * 8 + h.val) * 64 + l.val) / 512 % 2048 = s.val; omega
  · show 2728 + (((b.val * 2048 + s.val) * 8 + h.val) * 64 + l.val) % 512 = 2728 + (64 * h.val + l.val); omega

theorem kc_squares (b : Fin 8) (s : Fin 2048) (h : Fin 8) :
    val_main_v109 (F := Ideal) x g w (ix3 b s h) = ∑ j : Fin 64, (proj (row x b s) (gains g) (cols w) ⟨2728 + (64 * h.val + j.val), by omega⟩ * proj (row x b s) (gains g) (cols w) ⟨2728 + (64 * h.val + j.val), by omega⟩ : EReal) := by
  rw [val_main_v109_apply, val_main_cst_17_apply]
  show Ideal.ofBits .f32 0x00000000#32 + _ = _
  rw [Ideal.ofBits_zero_f32, zero_add]
  refine Finset.sum_congr rfl fun j _ => ?_
  rw [val_main_v108_apply, kc_raw x g w b s h j _ (funext fun a => Fin.ext (by fin_cases a <;> rfl))]
  rfl

theorem kc_heads (b : Fin 8) (s : Fin 2048) (h : Fin 8) (l : Fin 64) :
    val_main_v120 (F := Ideal) x g w gc (ix4 b s h l)
      = normed 0x42800000#32 (fun j : Fin 64 => proj (row x b s) (gains g) (cols w) ⟨2728 + (64 * h.val + j.val), by omega⟩) (fun j => gc (ix3 0 1 j)) l := by
  rw [val_main_v120_apply, val_main_v117_apply, val_main_v116_apply, val_main_v115_apply, val_main_v114_apply, val_main_v112_apply, val_main_v110_apply, val_main_v111_apply, val_main_cst_18_apply,
    val_main_v113_apply, val_main_cst_19_apply, val_main_v119_apply, val_main_v118_apply, val_main_v107_apply, val_main_v106_apply]
  have e1 : idx_main_v110 (idx_main_v116 (ix4 b s h l)) = ix3 b s h := funext fun a => Fin.ext (by fin_cases a <;> rfl)
  have e2 : idx_main_v106 (idx_main_v107 (idx_main_v118 (idx_main_v119 (ix4 b s h l)))) = ix3 0 1 l := funext fun a => Fin.ext (by
    have := l.isLt
    fin_cases a
    · rfl
    · rfl
    · show l.val % 64 = l.val; omega)
  rw [e1, e2, kc_squares, kc_raw x g w b s h l _ rfl]
  rfl

theorem kc_at (n : Fin 16384) (h : Fin 8) (l : Fin 64) :
    val_main_v134 (F := Ideal) x g w gc (ix2 n ⟨64 * h.val + l.val, by omega⟩)
      = normed 0x42800000#32 (fun j : Fin 64 => proj (row x ⟨n.val / 2048, by omega⟩ ⟨n.val % 2048, by omega⟩) (gains g) (cols w) ⟨2728 + (64 * h.val + j.val), by omega⟩) (fun j => gc (ix3 0 1 j)) l := by
  rw [val_main_v134_apply, val_main_v133_apply]
  refine Eq.trans ?_ (kc_heads x g w gc ⟨n.val / 2048, by omega⟩ ⟨n.val % 2048, by omega⟩ h l)
  show val_main_v120 (F := Ideal) x g w gc _ = _
  refine congrArg (val_main_v120 (F := Ideal) x g w gc) (funext fun a => Fin.ext ?_)
  have := n.isLt; have := h.isLt; have := l.isLt
  fin_cases a
  · show (n.val * 512 + (64 * h.val + l.val)) / 1048576 = n.val / 2048; omega
  · show (n.val * 512 + (64 * h.val + l.val)) / 512 % 2048 = n.val % 2048; omega
  · show (n.val * 512 + (64 * h.val + l.val)) / 64 % 8 = h.val; omega
  · show (n.val * 512 + (64 * h.val + l.val)) % 64 = l.val; omega

theorem qd_raw (b : Fin 8) (s : Fin 2048) (j : Fin 384) (i : S8x2048x384.Idx) (hi : i = ix3 b s j) :
    val_main_v54 (F := Ideal) x g w i = proj (row x b s) (gains g) (cols w) ⟨1544 + j.val, by omega⟩ := by
  subst hi
  rw [val_main_v54_apply]
  exact v17_at x g w b s ⟨1544 + j.val, by omega⟩ _ (funext fun a => Fin.ext (by fin_cases a <;> rfl))

theorem qd_squares (b : Fin 8) (s : Fin 2048) : val_main_v58 (F := Ideal) x g w (ix2 b s) = ∑ j : Fin 384, (proj (row x b s) (gains g) (cols w) ⟨1544 + j.val, by omega⟩ * proj (row x b s) (gains g) (cols w) ⟨1544 + j.val, by omega⟩ : EReal) := by
  rw [val_main_v58_apply, val_main_cst_8_apply]
  show Ideal.ofBits .f32 0x00000000#32 + _ = _
  rw [Ideal.ofBits_zero_f32, zero_add]
  refine Finset.sum_congr rfl fun j _ => ?_
  rw [val_main_v57_apply, qd_raw x g w b s j _ (funext fun a => Fin.ext (by fin_cases a <;> rfl))]
  rfl

theorem qd_row (b : Fin 8) (s : Fin 2048) (l : Fin 384) :
    val_main_v69 (F := Ideal) x g w gq (ix3 b s l) = normed 0x43C00000#32 (fun j : Fin 384 => proj (row x b s) (gains g) (cols w) ⟨1544 + j.val, by omega⟩) (fun j => gq (ix2 0 j)) l := by
  rw [val_main_v69_apply, val_main_v66_apply, val_main_v65_apply, val_main_v64_apply, val_main_v63_apply, val_main_v61_apply, val_main_v59_apply, val_main_v60_apply, val_main_cst_9_apply,
    val_main_v62_apply, val_main_cst_10_apply, val_main_v68_apply, val_main_v67_apply, val_main_v56_apply, val_main_v55_apply]
  have e1 : idx_main_v59 (idx_main_v65 (ix3 b s l)) = ix2 b s := funext fun a => Fin.ext (by fin_cases a <;> rfl)
  have e2 : idx_main_v55 (idx_main_v56 (idx_main_v67 (idx_main_v68 (ix3 b s l)))) = ix2 0 l := funext fun a => Fin.ext (by
    have := l.isLt
    fin_cases a
    · rfl
    · show l.val % 384 = l.val; omega)
  rw [e1, e2, qd_squares, qd_raw x g w b s l _ rfl]
  rfl

theorem qd_at (n : Fin 16384) (l : Fin 384) :
    val_main_v138 (F := Ideal) x g w gq (ix2 n l)
      = normed 0x43C00000#32 (fun j : Fin 384 => proj (row x ⟨n.val / 2048, by omega⟩ ⟨n.val % 2048, by omega⟩) (gains g) (cols w) ⟨1544 + j.val, by omega⟩) (fun j => gq (ix2 0 j)) l := by
  rw [val_main_v138_apply, val_main_v137_apply]
  refine Eq.trans ?_ (qd_row x g w gq ⟨n.val / 2048, by omega⟩ ⟨n.val % 2048, by omega⟩ l)
  show val_main_v69 (F := Ideal) x g w gq _ = _
  refine congrArg (val_main_v69 (F := Ideal) x g w gq) (funext fun a => Fin.ext ?_)
  have := n.isLt; have := l.isLt
  fin_cases a
  · show (n.val * 384 + l.val) / 786432 = n.val / 2048; omega
  · show (n.val * 384 + l.val) / 384 % 2048 = n.val % 2048; omega
  · show (n.val * 384 + l.val) % 384 = l.val; omega

theorem kvd_raw (b : Fin 8) (s : Fin 2048) (j : Fin 256) (i : S8x2048x256.Idx) (hi : i = ix3 b s j) :
    val_main_v70 (F := Ideal) x g w i = proj (row x b s) (gains g) (cols w) ⟨1928 + j.val, by omega⟩ := by
  subst hi
  rw [val_main_v70_apply]
  exact v17_at x g w b s ⟨1928 + j.val, by omega⟩ _ (funext fun a => Fin.ext (by fin_cases a <;> rfl))

theorem kvd_squares (b : Fin 8) (s : Fin 2048) : val_main_v74 (F := Ideal) x g w (ix2 b s) = ∑ j : Fin 256, (proj (row x b s) (gains g) (cols w) ⟨1928 + j.val, by omega⟩ * proj (row x b s) (gains g) (cols w) ⟨1928 + j.val, by omega⟩ : EReal) := by
  rw [val_main_v74_apply, val_main_cst_11_apply]
  show Ideal.ofBits .f32 0x00000000#32 + _ = _
  rw [Ideal.ofBits_zero_f32, zero_add]
  refine Finset.sum_congr rfl fun j _ => ?_
  rw [val_main_v73_apply, kvd_raw x g w b s j _ (funext fun a => Fin.ext (by fin_cases a <;> rfl))]
  rfl

theorem kvd_row (b : Fin 8) (s : Fin 2048) (l : Fin 256) :
    val_main_v85 (F := Ideal) x g w gk (ix3 b s l) = normed 0x43800000#32 (fun j : Fin 256 => proj (row x b s) (gains g) (cols w) ⟨1928 + j.val, by omega⟩) (fun j => gk (ix2 0 j)) l := by
  rw [val_main_v85_apply, val_main_v82_apply, val_main_v81_apply, val_main_v80_apply, val_main_v79_apply, val_main_v77_apply, val_main_v75_apply, val_main_v76_apply, val_main_cst_12_apply,
    val_main_v78_apply, val_main_cst_13_apply, val_main_v84_apply, val_main_v83_apply, val_main_v72_apply, val_main_v71_apply]
  have e1 : idx_main_v75 (idx_main_v81 (ix3 b s l)) = ix2 b s := funext fun a => Fin.ext (by fin_cases a <;> rfl)
  have e2 : idx_main_v71 (idx_main_v72 (idx_main_v83 (idx_main_v84 (ix3 b s l)))) = ix2 0 l := funext fun a => Fin.ext (by
    have := l.isLt
    fin_cases a
    · rfl
    · show l.val % 256 = l.val; omega)
  rw [e1, e2, kvd_squares, kvd_raw x g w b s l _ rfl]
  rfl

theorem kvd_at (n : Fin 16384) (l : Fin 256) :
    val_main_v140 (F := Ideal) x g w gk (ix2 n l)
      = normed 0x43800000#32 (fun j : Fin 256 => proj (row x ⟨n.val / 2048, by omega⟩ ⟨n.val % 2048, by omega⟩) (gains g) (cols w) ⟨1928 + j.val, by omega⟩) (fun j => gk (ix2 0 j)) l := by
  rw [val_main_v140_apply, val_main_v139_apply]
  refine Eq.trans ?_ (kvd_row x g w gk ⟨n.val / 2048, by omega⟩ ⟨n.val % 2048, by omega⟩ l)
  show val_main_v85 (F := Ideal) x g w gk _ = _
  refine congrArg (val_main_v85 (F := Ideal) x g w gk) (funext fun a => Fin.ext ?_)
  have := n.isLt; have := l.isLt
  fin_cases a
  · show (n.val * 256 + l.val) / 524288 = n.val / 2048; omega
  · show (n.val * 256 + l.val) / 256 % 2048 = n.val % 2048; omega
  · show (n.val * 256 + l.val) % 256 = l.val; omega

theorem va_at (n : Fin 16384) (l : Fin 512) :
    val_main_v130 (F := Ideal) x g w (ix2 n l) = proj (row x ⟨n.val / 2048, by omega⟩ ⟨n.val % 2048, by omega⟩) (gains g) (cols w) ⟨1024 + l.val, by omega⟩ := by
  rw [val_main_v130_apply, val_main_v129_apply, val_main_v52_apply]
  refine v17_at x g w _ _ ⟨1024 + l.val, by omega⟩ _ (funext fun a => Fin.ext ?_)
  have := n.isLt; have := l.isLt
  fin_cases a
  · show (n.val * 512 + l.val) / 1048576 = n.val / 2048; omega
  · show (n.val * 512 + l.val) / 512 % 2048 = n.val % 2048; omega
  · show 1024 + (n.val * 512 + l.val) % 512 = 1024 + l.val; omega

theorem vc_at (n : Fin 16384) (l : Fin 512) :
    val_main_v136 (F := Ideal) x g w (ix2 n l) = proj (row x ⟨n.val / 2048, by omega⟩ ⟨n.val % 2048, by omega⟩) (gains g) (cols w) ⟨3240 + l.val, by omega⟩ := by
  rw [val_main_v136_apply, val_main_v135_apply, val_main_v121_apply]
  refine v17_at x g w _ _ ⟨3240 + l.val, by omega⟩ _ (funext fun a => Fin.ext ?_)
  have := n.isLt; have := l.isLt
  fin_cases a
  · show (n.val * 512 + l.val) / 1048576 = n.val / 2048; omega
  · show (n.val * 512 + l.val) / 512 % 2048 = n.val % 2048; omega
  · show 3240 + (n.val * 512 + l.val) % 512 = 3240 + l.val; omega

/-- The miscellaneous columns. -/
theorem misc_row (b : Fin 8) (s : Fin 2048) (l : Fin 128) : val_main_v124 (F := Ideal) x g w (ix3 b s l) = miscCol (row x b s) (gains g) (cols w) l := by
  unfold val_main_v124 miscCol
  have hl := l.isLt
  split_ifs with h1 h2 h3
  · refine Eq.trans (concatenate_apply_piece 2 _ (by exact concatenates_S8x2048x8_S8x2048x56_S8x2048x32_S8x2048x32_S8x2048x128_d2) (ix3 b s l) 0 (by simp) S8x2048x8 _ rfl rfl 0 (by rfl) (ix3 b s (⟨l.val - 0, by omega⟩ : Fin 8)) ?_ ?_) ?_
    · intro a ha; fin_cases a
      · rfl
      · rfl
      · exact absurd rfl ha
    · show 0 + (l.val - 0) = l.val; omega
    · rw [val_main_v53_apply]
      exact v17_at x g w b s ⟨1536 + l.val, by omega⟩ _ (funext fun a => Fin.ext (by fin_cases a <;> rfl))
  · refine Eq.trans (concatenate_apply_piece 2 _ (by exact concatenates_S8x2048x8_S8x2048x56_S8x2048x32_S8x2048x32_S8x2048x128_d2) (ix3 b s l) 1 (by simp) S8x2048x56 _ rfl rfl 8 (by rfl) (ix3 b s (⟨l.val - 8, by omega⟩ : Fin 56)) ?_ ?_) ?_
    · intro a ha; fin_cases a
      · rfl
      · rfl
      · exact absurd rfl ha
    · show 8 + (l.val - 8) = l.val; omega
    · rw [val_main_v122_apply, val_main_cst_20_apply]
      exact Ideal.ofBits_zero_f32
  · refine Eq.trans (concatenate_apply_piece 2 _ (by exact concatenates_S8x2048x8_S8x2048x56_S8x2048x32_S8x2048x32_S8x2048x128_d2) (ix3 b s l) 2 (by simp) S8x2048x32 _ rfl rfl 64 (by rfl) (ix3 b s (⟨l.val - 64, by omega⟩ : Fin 32)) ?_ ?_) ?_
    · intro a ha; fin_cases a
      · rfl
      · rfl
      · exact absurd rfl ha
    · show 64 + (l.val - 64) = l.val; omega
    · rw [val_main_v86_apply]
      exact v17_at x g w b s ⟨2184 + (l.val - 64), by omega⟩ _ (funext fun a => Fin.ext (by fin_cases a <;> rfl))
  · refine Eq.trans (concatenate_apply_piece 2 _ (by exact concatenates_S8x2048x8_S8x2048x56_S8x2048x32_S8x2048x32_S8x2048x128_d2) (ix3 b s l) 3 (by simp) S8x2048x32 _ rfl rfl 96 (by rfl) (ix3 b s (⟨l.val - 96, by omega⟩ : Fin 32)) ?_ ?_) ?_
    · intro a ha; fin_cases a
      · rfl
      · rfl
      · exact absurd rfl ha
    · show 96 + (l.val - 96) = l.val; omega
    · rw [val_main_v123_apply, val_main_cst_21_apply]
      exact Ideal.ofBits_zero_f32

theorem misc_at (n : Fin 16384) (l : Fin 128) :
    val_main_v141 (F := Ideal) x g w (ix2 n l) = miscCol (row x ⟨n.val / 2048, by omega⟩ ⟨n.val % 2048, by omega⟩) (gains g) (cols w) l := by
  rw [val_main_v141_apply]
  refine Eq.trans ?_ (misc_row x g w ⟨n.val / 2048, by omega⟩ ⟨n.val % 2048, by omega⟩ l)
  refine congrArg (val_main_v124 (F := Ideal) x g w) (funext fun a => Fin.ext ?_)
  have := n.isLt; have := l.isLt
  fin_cases a
  · show (n.val * 128 + l.val) / 262144 = n.val / 2048; omega
  · show (n.val * 128 + l.val) / 128 % 2048 = n.val % 2048; omega
  · show (n.val * 128 + l.val) % 128 = l.val; omega

end Cert.Reference4Ideal.InProj

end
-- ==== Proof.InClaims.lean ====
/- The claims about the input projection. -/
module

public import proofs.«01_k».proof.Defs
public import proofs.«01_k».proof.Proof.InArrays
public import proofs.«01_k».proof.Proof.InReference
public import proofs.«01_k».proof.Proof.Gen.Kernel4.Frame
public import proofs.«01_k».proof.Proof.Gen.Reference4Ideal.Run
public import Idealize.ShloMosaic.Adequacy
public import Idealize.ShloMosaic.Init

@[expose] public section

noncomputable section

namespace Cert.Proof.InProj

open Idealize.ShloMosaic hiding ix2 eq_ix2
open Idealize.SL.Sem
open Idealize.ShloMosaic.ValueIdx (ix2 eq_ix2)

theorem frame_kernel : Cert.quiescent_Kernel4 := fun m ρ _ => Cert.Kernel4.Gen.frame m ρ
theorem frame_ideal : Cert.quiescent_Kernel4Ideal := fun m ρ _ => Cert.Kernel4Ideal.Gen.frame m ρ

/-- The reference runs, keeps its arguments and touches no semaphore. -/
theorem frame_reference : Cert.quiescent_Reference4Ideal := fun m ρ _ =>
  (θ_run Cert.Reference4Ideal.defs _ _).mono
    (fun r h => ⟨fun c => (h c).2.2.2.2.2.2.2.2.2, Idealize.ShloMosaic.sem_eq_zero_of_no_sems (by decide) r.2⟩)
    (Cert.Reference4Ideal.Value.run (F := Ideal) m ρ)

theorem preserves : Cert.preserves_Kernel4_Kernel4Ideal := trivial

section
open Cert.Kernel4Ideal Cert.Kernel4Ideal.Gen Idealize.ShloMosaic.TcCoe
variable (m : (ℓ : Loc nD τ sig) → Buf (Elt Ideal) ℓ) (c : Dev nD)

theorem equal_qa : Cert.Reference4Ideal.Read.val_main_v126 (F := Ideal) (m ((c : Thread nD τ).loc main_arg0)) (m ((c : Thread nD τ).loc main_arg1)) (m ((c : Thread nD τ).loc main_arg2)) (m ((c : Thread nD τ).loc main_arg3)) = (dats m 0 c).arrAt 6 cfg0.N := by
  funext j
  obtain ⟨n, e, rfl⟩ : ∃ (n : Fin 16384) (e : Fin 512), j = ix2 n e := ⟨j 0, j 1, eq_ix2 j⟩
  obtain ⟨h, l, rfl⟩ : ∃ (h : Fin 8) (l : Fin 64), e = ⟨64 * h.val + l.val, by omega⟩ :=
    ⟨⟨e.val / 64, by omega⟩, ⟨e.val % 64, by omega⟩, Fin.ext (by show e.val = 64 * (e.val / 64) + e.val % 64; omega)⟩
  exact (Cert.Reference4Ideal.InProj.qa_at _ _ _ _ n h l).trans (Cert.Kernel4Ideal.InProj.result_qa m c n h l).symm

theorem equal_ka : Cert.Reference4Ideal.Read.val_main_v128 (F := Ideal) (m ((c : Thread nD τ).loc main_arg0)) (m ((c : Thread nD τ).loc main_arg1)) (m ((c : Thread nD τ).loc main_arg2)) (m ((c : Thread nD τ).loc main_arg3)) = (dats m 0 c).arrAt 7 cfg0.N := by
  funext j
  obtain ⟨n, e, rfl⟩ : ∃ (n : Fin 16384) (e : Fin 512), j = ix2 n e := ⟨j 0, j 1, eq_ix2 j⟩
  obtain ⟨h, l, rfl⟩ : ∃ (h : Fin 8) (l : Fin 64), e = ⟨64 * h.val + l.val, by omega⟩ :=
    ⟨⟨e.val / 64, by omega⟩, ⟨e.val % 64, by omega⟩, Fin.ext (by show e.val = 64 * (e.val / 64) + e.val % 64; omega)⟩
  exact (Cert.Reference4Ideal.InProj.ka_at _ _ _ _ n h l).trans (Cert.Kernel4Ideal.InProj.result_ka m c n h l).symm

theorem equal_va : Cert.Reference4Ideal.Read.val_main_v130 (F := Ideal) (m ((c : Thread nD τ).loc main_arg0)) (m ((c : Thread nD τ).loc main_arg1)) (m ((c : Thread nD τ).loc main_arg2)) = (dats m 0 c).arrAt 8 cfg0.N := by
  funext j
  obtain ⟨n, e, rfl⟩ : ∃ (n : Fin 16384) (e : Fin 512), j = ix2 n e := ⟨j 0, j 1, eq_ix2 j⟩
  exact (Cert.Reference4Ideal.InProj.va_at _ _ _ n e).trans (Cert.Kernel4Ideal.InProj.result_va m c n e).symm

theorem equal_qc : Cert.Reference4Ideal.Read.val_main_v132 (F := Ideal) (m ((c : Thread nD τ).loc main_arg0)) (m ((c : Thread nD τ).loc main_arg1)) (m ((c : Thread nD τ).loc main_arg2)) (m ((c : Thread nD τ).loc main_arg4)) = (dats m 0 c).arrAt 9 cfg0.N := by
  funext j
  obtain ⟨n, e, rfl⟩ : ∃ (n : Fin 16384) (e : Fin 512), j = ix2 n e := ⟨j 0, j 1, eq_ix2 j⟩
  obtain ⟨h, l, rfl⟩ : ∃ (h : Fin 8) (l : Fin 64), e = ⟨64 * h.val + l.val, by omega⟩ :=
    ⟨⟨e.val / 64, by omega⟩, ⟨e.val % 64, by omega⟩, Fin.ext (by show e.val = 64 * (e.val / 64) + e.val % 64; omega)⟩
  exact (Cert.Reference4Ideal.InProj.qc_at _ _ _ _ n h l).trans (Cert.Kernel4Ideal.InProj.result_qc m c n h l).symm

theorem equal_kc : Cert.Reference4Ideal.Read.val_main_v134 (F := Ideal) (m ((c : Thread nD τ).loc main_arg0)) (m ((c : Thread nD τ).loc main_arg1)) (m ((c : Thread nD τ).loc main_arg2)) (m ((c : Thread nD τ).loc main_arg4)) = (dats m 0 c).arrAt 10 cfg0.N := by
  funext j
  obtain ⟨n, e, rfl⟩ : ∃ (n : Fin 16384) (e : Fin 512), j = ix2 n e := ⟨j 0, j 1, eq_ix2 j⟩
  obtain ⟨h, l, rfl⟩ : ∃ (h : Fin 8) (l : Fin 64), e = ⟨64 * h.val + l.val, by omega⟩ :=
    ⟨⟨e.val / 64, by omega⟩, ⟨e.val % 64, by omega⟩, Fin.ext (by show e.val = 64 * (e.val / 64) + e.val % 64; omega)⟩
  exact (Cert.Reference4Ideal.InProj.kc_at _ _ _ _ n h l).trans (Cert.Kernel4Ideal.InProj.result_kc m c n h l).symm

theorem equal_vc : Cert.Reference4Ideal.Read.val_main_v136 (F := Ideal) (m ((c : Thread nD τ).loc main_arg0)) (m ((c : Thread nD τ).loc main_arg1)) (m ((c : Thread nD τ).loc main_arg2)) = (dats m 0 c).arrAt 11 cfg0.N := by
  funext j
  obtain ⟨n, e, rfl⟩ : ∃ (n : Fin 16384) (e : Fin 512), j = ix2 n e := ⟨j 0, j 1, eq_ix2 j⟩
  exact (Cert.Reference4Ideal.InProj.vc_at _ _ _ n e).trans (Cert.Kernel4Ideal.InProj.result_vc m c n e).symm

theorem equal_qd : Cert.Reference4Ideal.Read.val_main_v138 (F := Ideal) (m ((c : Thread nD τ).loc main_arg0)) (m ((c : Thread nD τ).loc main_arg1)) (m ((c : Thread nD τ).loc main_arg2)) (m ((c : Thread nD τ).loc main_arg5)) = (dats m 0 c).arrAt 12 cfg0.N := by
  funext j
  obtain ⟨n, e, rfl⟩ : ∃ (n : Fin 16384) (e : Fin 384), j = ix2 n e := ⟨j 0, j 1, eq_ix2 j⟩
  exact (Cert.Reference4Ideal.InProj.qd_at _ _ _ _ n e).trans (Cert.Kernel4Ideal.InProj.result_qd m c n e).symm

theorem equal_kvd : Cert.Reference4Ideal.Read.val_main_v140 (F := Ideal) (m ((c : Thread nD τ).loc main_arg0)) (m ((c : Thread nD τ).loc main_arg1)) (m ((c : Thread nD τ).loc main_arg2)) (m ((c : Thread nD τ).loc main_arg6)) = (dats m 0 c).arrAt 13 cfg0.N := by
  funext j
  obtain ⟨n, e, rfl⟩ : ∃ (n : Fin 16384) (e : Fin 256), j = ix2 n e := ⟨j 0, j 1, eq_ix2 j⟩
  exact (Cert.Reference4Ideal.InProj.kvd_at _ _ _ _ n e).trans (Cert.Kernel4Ideal.InProj.result_kvd m c n e).symm

theorem equal_misc : Cert.Reference4Ideal.Read.val_main_v141 (F := Ideal) (m ((c : Thread nD τ).loc main_arg0)) (m ((c : Thread nD τ).loc main_arg1)) (m ((c : Thread nD τ).loc main_arg2)) = (dats m 0 c).arrAt 14 cfg0.N := by
  funext j
  obtain ⟨n, e, rfl⟩ : ∃ (n : Fin 16384) (e : Fin 128), j = ix2 n e := ⟨j 0, j 1, eq_ix2 j⟩
  exact (Cert.Reference4Ideal.InProj.misc_at _ _ _ n e).trans (Cert.Kernel4Ideal.InProj.result_misc m c n e).symm

end

set_option maxHeartbeats 4000000 in
theorem algebraic : Cert.algebraic_Kernel4Ideal_Reference4Ideal := by
  intro m ρ m' ρ' hpre hagree
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨e0, e1, e2, e3, e4, e5, e6⟩ := hagree c
  obtain ⟨r0, r1, r2, r3, r4, r5, r6, r7, r8, rest⟩ := h c
  refine ⟨r0.trans ?_, r1.trans ?_, r2.trans ?_, r3.trans ?_, r4.trans ?_, r5.trans ?_, r6.trans ?_, r7.trans ?_, r8.trans ?_, rest⟩
  · refine (Cert.Reference4Ideal.Read.val_main_v126_eq m' c).trans ?_
    rw [e0, e1, e2, e3]
    exact equal_qa m c
  · refine (Cert.Reference4Ideal.Read.val_main_v128_eq m' c).trans ?_
    rw [e0, e1, e2, e3]
    exact equal_ka m c
  · refine (Cert.Reference4Ideal.Read.val_main_v130_eq _ _ _).trans ?_
    rw [e0, e1, e2]
    exact equal_va m c
  · refine (Cert.Reference4Ideal.Read.val_main_v132_eq m' c).trans ?_
    rw [e0, e1, e2, e4]
    exact equal_qc m c
  · refine (Cert.Reference4Ideal.Read.val_main_v134_eq m' c).trans ?_
    rw [e0, e1, e2, e4]
    exact equal_kc m c
  · refine (Cert.Reference4Ideal.Read.val_main_v136_eq _ _ _).trans ?_
    rw [e0, e1, e2]
    exact equal_vc m c
  · refine (Cert.Reference4Ideal.Read.val_main_v138_eq m' c).trans ?_
    rw [e0, e1, e2, e5]
    exact equal_qd m c
  · refine (Cert.Reference4Ideal.Read.val_main_v140_eq m' c).trans ?_
    rw [e0, e1, e2, e6]
    exact equal_kvd m c
  · refine (Cert.Reference4Ideal.Read.val_main_v141_eq _ _ _).trans ?_
    rw [e0, e1, e2]
    exact equal_misc m c

end Cert.Proof.InProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.FoxClaims
public import proofs.«01_k».proof.Proof.FfnClaims
public import proofs.«01_k».proof.Proof.MergeClaims
public import proofs.«01_k».proof.Proof.InClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  Fox.frame_kernel, Fox.frame_ideal, Fox.frame_ideal_finite, Fox.frame_reference, Fox.frame_reference_finite,
  Ffn.frame_kernel, Ffn.frame_ideal, Ffn.frame_reference,
  Merge.frame_kernel, Merge.frame_ideal, Merge.frame_reference,
  InProj.frame_kernel, InProj.frame_ideal, InProj.frame_reference,
  Fox.preserves, Fox.algebraic, Ffn.preserves, Ffn.algebraic, Merge.preserves, Merge.algebraic,
  InProj.preserves, InProj.algebraic⟩

end Cert.Proof

end
